-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) (main_arg2 : IVec S2048x1 32) (main_arg3 : FVec F S4x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_scores_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) (main_arg2 : IVec S2048x1 32) (main_arg3 : FVec F S128x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S512x1024 : Shape := ⟨2, ![512, 1024]⟩
abbrev S64x1024 : Shape := ⟨2, ![64, 1024]⟩
abbrev S4x512x512 : Shape := ⟨3, ![4, 512, 512]⟩
abbrev S4x512x4 : Shape := ⟨3, ![4, 512, 4]⟩
abbrev S2x4x64x512 : Shape := ⟨4, ![2, 4, 64, 512]⟩
abbrev S7x4x64x512 : Shape := ⟨4, ![7, 4, 64, 512]⟩
abbrev S256x1024 : Shape := ⟨2, ![256, 1024]⟩
abbrev S3x64x1024 : Shape := ⟨3, ![3, 64, 1024]⟩
abbrev S7x4 : Shape := ⟨2, ![7, 4]⟩
abbrev S4 : Shape := ⟨1, ![4]⟩
abbrev S3 : Shape := ⟨1, ![3]⟩
abbrev S2048x128 : Shape := ⟨2, ![2048, 128]⟩
abbrev S2048 : Shape := ⟨1, ![2048]⟩
abbrev S2048x4 : Shape := ⟨2, ![2048, 4]⟩
abbrev S4x64x512 : Shape := ⟨3, ![4, 64, 512]⟩
abbrev S256x512 : Shape := ⟨2, ![256, 512]⟩
abbrev S4x64x1 : Shape := ⟨3, ![4, 64, 1]⟩
abbrev S1x512x512 : Shape := ⟨3, ![1, 512, 512]⟩
abbrev S512x512 : Shape := ⟨2, ![512, 512]⟩
abbrev S1x4x64x512 : Shape := ⟨4, ![1, 4, 64, 512]⟩
abbrev S_ : Shape := ⟨0, ![]⟩
abbrev S1x1 : Shape := ⟨2, ![1, 1]⟩
abbrev S1x1x64x512 : Shape := ⟨4, ![1, 1, 64, 512]⟩
abbrev S64x512 : Shape := ⟨2, ![64, 512]⟩
abbrev S1 : Shape := ⟨1, ![1]⟩
abbrev S1x64x1024 : Shape := ⟨3, ![1, 64, 1024]⟩

abbrev nBuf : Space → Nat
  | .hbm => 6
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S64x1024, .f32⟩
  | .local _ .vmem, ⟨0, _⟩ => ⟨S2048x512, .f32⟩
  | .local _ .vmem, ⟨1, _⟩ => ⟨S512x128, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S64x1024, .f32⟩
  | .local _ .vmem, ⟨6, _⟩ => ⟨S4x512x512, .bf16⟩
  | .local _ .vmem, ⟨7, _⟩ => ⟨S4x512x4, .bf16⟩
  | .local _ .vmem, ⟨8, _⟩ => ⟨S64x1024, .f32⟩
  | .local _ .vmem, ⟨9, _⟩ => ⟨S2x4x64x512, .bf16⟩
  | .local _ .vmem, ⟨10, _⟩ => ⟨S2x4x64x512, .bf16⟩
  | .local _ .vmem, ⟨11, _⟩ => ⟨S7x4x64x512, .bf16⟩
  | .local _ .vmem, ⟨12, _⟩ => ⟨S7x4x64x512, .bf16⟩
  | .local _ .vmem, ⟨13, _⟩ => ⟨S256x1024, .bf16⟩
  | .local _ .vmem, ⟨14, _⟩ => ⟨S3x64x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 1 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_144 : Index := 0#32
  let c0_i32_105 : BitVec 32 := 0#32
  let c0_i32_104 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_95 : BitVec 32 := 1#32
  let v216 : BitVec 32 := Scalar.subi v61 c1_i32_95
  let c8_i32_96 : BitVec 32 := 8#32
  let v217 : BitVec 32 := Scalar.addi v216 c8_i32_96
  let c8_i32_97 : BitVec 32 := 8#32
  let c0_i32_98 : BitVec 32 := 0#32
  let v218 : BitVec 1 := Scalar.cmpi .eq c8_i32_97 c0_i32_98
  let c1_i32_99 : BitVec 32 := 1#32
  let v219 : BitVec 32 := Scalar.select v218 c1_i32_99 c8_i32_97
  let v220 : BitVec 32 := Scalar.remsi v217 v219
  let c0_i32_101 : BitVec 32 := 0#32
  let v222 : BitVec 1 := Scalar.cmpi .slt v220 c0_i32_101
  let c0_i32_102 : BitVec 32 := 0#32
  let v223 : BitVec 1 := Scalar.cmpi .slt v219 c0_i32_102
  let v224 : BitVec 1 := Scalar.xori v222 v223
  let c0_i32_100 : BitVec 32 := 0#32
  let v221 : BitVec 1 := Scalar.cmpi .ne v220 c0_i32_100
  let v225 : BitVec 1 := Scalar.andi v224 v221
  let v226 : BitVec 32 := Scalar.addi v220 v219
  let v227 : BitVec 32 := Scalar.select v225 v226 v220
  let c0_i32_103 : BitVec 32 := 0#32
  let v228 : BitVec 1 := Scalar.cmpi .eq v227 c0_i32_103
  let v229 : BitVec 32 := Scalar.extui v228
  let v230 : BitVec 32 := Scalar.muli c0_i32_104 v229
  let v231 : BitVec 32 := Scalar.addi c0_i32_105 v230
  let c3_i32_107 : BitVec 32 := 3#32
  let c1_i32_106 : BitVec 32 := 1#32
  let v232 : BitVec 1 := Scalar.cmpi .eq v227 c1_i32_106
  let v233 : BitVec 32 := Scalar.extui v232
  let v234 : BitVec 32 := Scalar.muli c3_i32_107 v233
  let v235 : BitVec 32 := Scalar.addi v231 v234
  let c4_i32_109 : BitVec 32 := 4#32
  let c2_i32_108 : BitVec 32 := 2#32
  let v236 : BitVec 1 := Scalar.cmpi .eq v227 c2_i32_108
  let v237 : BitVec 32 := Scalar.extui v236
  let v238 : BitVec 32 := Scalar.muli c4_i32_109 v237
  let v239 : BitVec 32 := Scalar.addi v235 v238
  let c7_i32_111 : BitVec 32 := 7#32
  let c3_i32_110 : BitVec 32 := 3#32
  let v240 : BitVec 1 := Scalar.cmpi .eq v227 c3_i32_110
  let v241 : BitVec 32 := Scalar.extui v240
  let v242 : BitVec 32 := Scalar.muli c7_i32_111 v241
  let v243 : BitVec 32 := Scalar.addi v239 v242
  let c6_i32_113 : BitVec 32 := 6#32
  let c4_i32_112 : BitVec 32 := 4#32
  let v244 : BitVec 1 := Scalar.cmpi .eq v227 c4_i32_112
  let v245 : BitVec 32 := Scalar.extui v244
  let v246 : BitVec 32 := Scalar.muli c6_i32_113 v245
  let v247 : BitVec 32 := Scalar.addi v243 v246
  let c5_i32_115 : BitVec 32 := 5#32
  let c5_i32_114 : BitVec 32 := 5#32
  let v248 : BitVec 1 := Scalar.cmpi .eq v227 c5_i32_114
  let v249 : BitVec 32 := Scalar.extui v248
  let v250 : BitVec 32 := Scalar.muli c5_i32_115 v249
  let v251 : BitVec 32 := Scalar.addi v247 v250
  let c2_i32_117 : BitVec 32 := 2#32
  let c6_i32_116 : BitVec 32 := 6#32
  let v252 : BitVec 1 := Scalar.cmpi .eq v227 c6_i32_116
  let v253 : BitVec 32 := Scalar.extui v252
  let v254 : BitVec 32 := Scalar.muli c2_i32_117 v253
  let v255 : BitVec 32 := Scalar.addi v251 v254
  let c1_i32_119 : BitVec 32 := 1#32
  let c7_i32_118 : BitVec 32 := 7#32
  let v256 : BitVec 1 := Scalar.cmpi .eq v227 c7_i32_118
  let v257 : BitVec 32 := Scalar.extui v256
  let v258 : BitVec 32 := Scalar.muli c1_i32_119 v257
  let v259 : BitVec 32 := Scalar.addi v255 v258
  let c64_i32 : BitVec 32 := 64#32
  let v303 : BitVec 32 := Scalar.muli v259 c64_i32
  let v304 : Index := Scalar.indexCast v303
  let c0_145 : Index := 0#32
  ![0, v304.toNat, 0]
def k0_off2 (d0 : Dev nD) : Fin 3 → Nat :=
  let c0_148 : Index := 0#32
  let c0_i32_105 : BitVec 32 := 0#32
  let c0_i32_104 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_95 : BitVec 32 := 1#32
  let v216 : BitVec 32 := Scalar.subi v61 c1_i32_95
  let c8_i32_96 : BitVec 32 := 8#32
  let v217 : BitVec 32 := Scalar.addi v216 c8_i32_96
  let c8_i32_97 : BitVec 32 := 8#32
  let c0_i32_98 : BitVec 32 := 0#32
  let v218 : BitVec 1 := Scalar.cmpi .eq c8_i32_97 c0_i32_98
  let c1_i32_99 : BitVec 32 := 1#32
  let v219 : BitVec 32 := Scalar.select v218 c1_i32_99 c8_i32_97
  let v220 : BitVec 32 := Scalar.remsi v217 v219
  let c0_i32_101 : BitVec 32 := 0#32
  let v222 : BitVec 1 := Scalar.cmpi .slt v220 c0_i32_101
  let c0_i32_102 : BitVec 32 := 0#32
  let v223 : BitVec 1 := Scalar.cmpi .slt v219 c0_i32_102
  let v224 : BitVec 1 := Scalar.xori v222 v223
  let c0_i32_100 : BitVec 32 := 0#32
  let v221 : BitVec 1 := Scalar.cmpi .ne v220 c0_i32_100
  let v225 : BitVec 1 := Scalar.andi v224 v221
  let v226 : BitVec 32 := Scalar.addi v220 v219
  let v227 : BitVec 32 := Scalar.select v225 v226 v220
  let c0_i32_103 : BitVec 32 := 0#32
  let v228 : BitVec 1 := Scalar.cmpi .eq v227 c0_i32_103
  let v229 : BitVec 32 := Scalar.extui v228
  let v230 : BitVec 32 := Scalar.muli c0_i32_104 v229
  let v231 : BitVec 32 := Scalar.addi c0_i32_105 v230
  let c3_i32_107 : BitVec 32 := 3#32
  let c1_i32_106 : BitVec 32 := 1#32
  let v232 : BitVec 1 := Scalar.cmpi .eq v227 c1_i32_106
  let v233 : BitVec 32 := Scalar.extui v232
  let v234 : BitVec 32 := Scalar.muli c3_i32_107 v233
  let v235 : BitVec 32 := Scalar.addi v231 v234
  let c4_i32_109 : BitVec 32 := 4#32
  let c2_i32_108 : BitVec 32 := 2#32
  let v236 : BitVec 1 := Scalar.cmpi .eq v227 c2_i32_108
  let v237 : BitVec 32 := Scalar.extui v236
  let v238 : BitVec 32 := Scalar.muli c4_i32_109 v237
  let v239 : BitVec 32 := Scalar.addi v235 v238
  let c7_i32_111 : BitVec 32 := 7#32
  let c3_i32_110 : BitVec 32 := 3#32
  let v240 : BitVec 1 := Scalar.cmpi .eq v227 c3_i32_110
  let v241 : BitVec 32 := Scalar.extui v240
  let v242 : BitVec 32 := Scalar.muli c7_i32_111 v241
  let v243 : BitVec 32 := Scalar.addi v239 v242
  let c6_i32_113 : BitVec 32 := 6#32
  let c4_i32_112 : BitVec 32 := 4#32
  let v244 : BitVec 1 := Scalar.cmpi .eq v227 c4_i32_112
  let v245 : BitVec 32 := Scalar.extui v244
  let v246 : BitVec 32 := Scalar.muli c6_i32_113 v245
  let v247 : BitVec 32 := Scalar.addi v243 v246
  let c5_i32_115 : BitVec 32 := 5#32
  let c5_i32_114 : BitVec 32 := 5#32
  let v248 : BitVec 1 := Scalar.cmpi .eq v227 c5_i32_114
  let v249 : BitVec 32 := Scalar.extui v248
  let v250 : BitVec 32 := Scalar.muli c5_i32_115 v249
  let v251 : BitVec 32 := Scalar.addi v247 v250
  let c2_i32_117 : BitVec 32 := 2#32
  let c6_i32_116 : BitVec 32 := 6#32
  let v252 : BitVec 1 := Scalar.cmpi .eq v227 c6_i32_116
  let v253 : BitVec 32 := Scalar.extui v252
  let v254 : BitVec 32 := Scalar.muli c2_i32_117 v253
  let v255 : BitVec 32 := Scalar.addi v251 v254
  let c1_i32_119 : BitVec 32 := 1#32
  let c7_i32_118 : BitVec 32 := 7#32
  let v256 : BitVec 1 := Scalar.cmpi .eq v227 c7_i32_118
  let v257 : BitVec 32 := Scalar.extui v256
  let v258 : BitVec 32 := Scalar.muli c1_i32_119 v257
  let v259 : BitVec 32 := Scalar.addi v255 v258
  let c64_i32_147 : BitVec 32 := 64#32
  let v307 : BitVec 32 := Scalar.muli v259 c64_i32_147
  let v308 : Index := Scalar.indexCast v307
  let c0_149 : Index := 0#32
  ![0, v308.toNat, 0]
def k0_off3 (d0 : Dev nD) : Fin 3 → Nat :=
  let c0_155 : Index := 0#32
  let c0_i32_105 : BitVec 32 := 0#32
  let c0_i32_104 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_95 : BitVec 32 := 1#32
  let v216 : BitVec 32 := Scalar.subi v61 c1_i32_95
  let c8_i32_96 : BitVec 32 := 8#32
  let v217 : BitVec 32 := Scalar.addi v216 c8_i32_96
  let c8_i32_97 : BitVec 32 := 8#32
  let c0_i32_98 : BitVec 32 := 0#32
  let v218 : BitVec 1 := Scalar.cmpi .eq c8_i32_97 c0_i32_98
  let c1_i32_99 : BitVec 32 := 1#32
  let v219 : BitVec 32 := Scalar.select v218 c1_i32_99 c8_i32_97
  let v220 : BitVec 32 := Scalar.remsi v217 v219
  let c0_i32_101 : BitVec 32 := 0#32
  let v222 : BitVec 1 := Scalar.cmpi .slt v220 c0_i32_101
  let c0_i32_102 : BitVec 32 := 0#32
  let v223 : BitVec 1 := Scalar.cmpi .slt v219 c0_i32_102
  let v224 : BitVec 1 := Scalar.xori v222 v223
  let c0_i32_100 : BitVec 32 := 0#32
  let v221 : BitVec 1 := Scalar.cmpi .ne v220 c0_i32_100
  let v225 : BitVec 1 := Scalar.andi v224 v221
  let v226 : BitVec 32 := Scalar.addi v220 v219
  let v227 : BitVec 32 := Scalar.select v225 v226 v220
  let c0_i32_103 : BitVec 32 := 0#32
  let v228 : BitVec 1 := Scalar.cmpi .eq v227 c0_i32_103
  let v229 : BitVec 32 := Scalar.extui v228
  let v230 : BitVec 32 := Scalar.muli c0_i32_104 v229
  let v231 : BitVec 32 := Scalar.addi c0_i32_105 v230
  let c3_i32_107 : BitVec 32 := 3#32
  let c1_i32_106 : BitVec 32 := 1#32
  let v232 : BitVec 1 := Scalar.cmpi .eq v227 c1_i32_106
  let v233 : BitVec 32 := Scalar.extui v232
  let v234 : BitVec 32 := Scalar.muli c3_i32_107 v233
  let v235 : BitVec 32 := Scalar.addi v231 v234
  let c4_i32_109 : BitVec 32 := 4#32
  let c2_i32_108 : BitVec 32 := 2#32
  let v236 : BitVec 1 := Scalar.cmpi .eq v227 c2_i32_108
  let v237 : BitVec 32 := Scalar.extui v236
  let v238 : BitVec 32 := Scalar.muli c4_i32_109 v237
  let v239 : BitVec 32 := Scalar.addi v235 v238
  let c7_i32_111 : BitVec 32 := 7#32
  let c3_i32_110 : BitVec 32 := 3#32
  let v240 : BitVec 1 := Scalar.cmpi .eq v227 c3_i32_110
  let v241 : BitVec 32 := Scalar.extui v240
  let v242 : BitVec 32 := Scalar.muli c7_i32_111 v241
  let v243 : BitVec 32 := Scalar.addi v239 v242
  let c6_i32_113 : BitVec 32 := 6#32
  let c4_i32_112 : BitVec 32 := 4#32
  let v244 : BitVec 1 := Scalar.cmpi .eq v227 c4_i32_112
  let v245 : BitVec 32 := Scalar.extui v244
  let v246 : BitVec 32 := Scalar.muli c6_i32_113 v245
  let v247 : BitVec 32 := Scalar.addi v243 v246
  let c5_i32_115 : BitVec 32 := 5#32
  let c5_i32_114 : BitVec 32 := 5#32
  let v248 : BitVec 1 := Scalar.cmpi .eq v227 c5_i32_114
  let v249 : BitVec 32 := Scalar.extui v248
  let v250 : BitVec 32 := Scalar.muli c5_i32_115 v249
  let v251 : BitVec 32 := Scalar.addi v247 v250
  let c2_i32_117 : BitVec 32 := 2#32
  let c6_i32_116 : BitVec 32 := 6#32
  let v252 : BitVec 1 := Scalar.cmpi .eq v227 c6_i32_116
  let v253 : BitVec 32 := Scalar.extui v252
  let v254 : BitVec 32 := Scalar.muli c2_i32_117 v253
  let v255 : BitVec 32 := Scalar.addi v251 v254
  let c1_i32_119 : BitVec 32 := 1#32
  let c7_i32_118 : BitVec 32 := 7#32
  let v256 : BitVec 1 := Scalar.cmpi .eq v227 c7_i32_118
  let v257 : BitVec 32 := Scalar.extui v256
  let v258 : BitVec 32 := Scalar.muli c1_i32_119 v257
  let v259 : BitVec 32 := Scalar.addi v255 v258
  let c64_i32_154 : BitVec 32 := 64#32
  let v318 : BitVec 32 := Scalar.muli v259 c64_i32_154
  let v319 : Index := Scalar.indexCast v318
  let c1 : Index := 1#32
  ![0, v319.toNat, 1]
def k0_off4 (d0 : Dev nD) : Fin 3 → Nat :=
  let c0_161 : Index := 0#32
  let c0_i32_105 : BitVec 32 := 0#32
  let c0_i32_104 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_95 : BitVec 32 := 1#32
  let v216 : BitVec 32 := Scalar.subi v61 c1_i32_95
  let c8_i32_96 : BitVec 32 := 8#32
  let v217 : BitVec 32 := Scalar.addi v216 c8_i32_96
  let c8_i32_97 : BitVec 32 := 8#32
  let c0_i32_98 : BitVec 32 := 0#32
  let v218 : BitVec 1 := Scalar.cmpi .eq c8_i32_97 c0_i32_98
  let c1_i32_99 : BitVec 32 := 1#32
  let v219 : BitVec 32 := Scalar.select v218 c1_i32_99 c8_i32_97
  let v220 : BitVec 32 := Scalar.remsi v217 v219
  let c0_i32_101 : BitVec 32 := 0#32
  let v222 : BitVec 1 := Scalar.cmpi .slt v220 c0_i32_101
  let c0_i32_102 : BitVec 32 := 0#32
  let v223 : BitVec 1 := Scalar.cmpi .slt v219 c0_i32_102
  let v224 : BitVec 1 := Scalar.xori v222 v223
  let c0_i32_100 : BitVec 32 := 0#32
  let v221 : BitVec 1 := Scalar.cmpi .ne v220 c0_i32_100
  let v225 : BitVec 1 := Scalar.andi v224 v221
  let v226 : BitVec 32 := Scalar.addi v220 v219
  let v227 : BitVec 32 := Scalar.select v225 v226 v220
  let c0_i32_103 : BitVec 32 := 0#32
  let v228 : BitVec 1 := Scalar.cmpi .eq v227 c0_i32_103
  let v229 : BitVec 32 := Scalar.extui v228
  let v230 : BitVec 32 := Scalar.muli c0_i32_104 v229
  let v231 : BitVec 32 := Scalar.addi c0_i32_105 v230
  let c3_i32_107 : BitVec 32 := 3#32
  let c1_i32_106 : BitVec 32 := 1#32
  let v232 : BitVec 1 := Scalar.cmpi .eq v227 c1_i32_106
  let v233 : BitVec 32 := Scalar.extui v232
  let v234 : BitVec 32 := Scalar.muli c3_i32_107 v233
  let v235 : BitVec 32 := Scalar.addi v231 v234
  let c4_i32_109 : BitVec 32 := 4#32
  let c2_i32_108 : BitVec 32 := 2#32
  let v236 : BitVec 1 := Scalar.cmpi .eq v227 c2_i32_108
  let v237 : BitVec 32 := Scalar.extui v236
  let v238 : BitVec 32 := Scalar.muli c4_i32_109 v237
  let v239 : BitVec 32 := Scalar.addi v235 v238
  let c7_i32_111 : BitVec 32 := 7#32
  let c3_i32_110 : BitVec 32 := 3#32
  let v240 : BitVec 1 := Scalar.cmpi .eq v227 c3_i32_110
  let v241 : BitVec 32 := Scalar.extui v240
  let v242 : BitVec 32 := Scalar.muli c7_i32_111 v241
  let v243 : BitVec 32 := Scalar.addi v239 v242
  let c6_i32_113 : BitVec 32 := 6#32
  let c4_i32_112 : BitVec 32 := 4#32
  let v244 : BitVec 1 := Scalar.cmpi .eq v227 c4_i32_112
  let v245 : BitVec 32 := Scalar.extui v244
  let v246 : BitVec 32 := Scalar.muli c6_i32_113 v245
  let v247 : BitVec 32 := Scalar.addi v243 v246
  let c5_i32_115 : BitVec 32 := 5#32
  let c5_i32_114 : BitVec 32 := 5#32
  let v248 : BitVec 1 := Scalar.cmpi .eq v227 c5_i32_114
  let v249 : BitVec 32 := Scalar.extui v248
  let v250 : BitVec 32 := Scalar.muli c5_i32_115 v249
  let v251 : BitVec 32 := Scalar.addi v247 v250
  let c2_i32_117 : BitVec 32 := 2#32
  let c6_i32_116 : BitVec 32 := 6#32
  let v252 : BitVec 1 := Scalar.cmpi .eq v227 c6_i32_116
  let v253 : BitVec 32 := Scalar.extui v252
  let v254 : BitVec 32 := Scalar.muli c2_i32_117 v253
  let v255 : BitVec 32 := Scalar.addi v251 v254
  let c1_i32_119 : BitVec 32 := 1#32
  let c7_i32_118 : BitVec 32 := 7#32
  let v256 : BitVec 1 := Scalar.cmpi .eq v227 c7_i32_118
  let v257 : BitVec 32 := Scalar.extui v256
  let v258 : BitVec 32 := Scalar.muli c1_i32_119 v257
  let v259 : BitVec 32 := Scalar.addi v255 v258
  let c64_i32_160 : BitVec 32 := 64#32
  let v329 : BitVec 32 := Scalar.muli v259 c64_i32_160
  let v330 : Index := Scalar.indexCast v329
  let c2 : Index := 2#32
  ![0, v330.toNat, 2]
def k0_off5 (d0 : Dev nD) : Fin 3 → Nat :=
  let c0_167 : Index := 0#32
  let c0_i32_105 : BitVec 32 := 0#32
  let c0_i32_104 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_95 : BitVec 32 := 1#32
  let v216 : BitVec 32 := Scalar.subi v61 c1_i32_95
  let c8_i32_96 : BitVec 32 := 8#32
  let v217 : BitVec 32 := Scalar.addi v216 c8_i32_96
  let c8_i32_97 : BitVec 32 := 8#32
  let c0_i32_98 : BitVec 32 := 0#32
  let v218 : BitVec 1 := Scalar.cmpi .eq c8_i32_97 c0_i32_98
  let c1_i32_99 : BitVec 32 := 1#32
  let v219 : BitVec 32 := Scalar.select v218 c1_i32_99 c8_i32_97
  let v220 : BitVec 32 := Scalar.remsi v217 v219
  let c0_i32_101 : BitVec 32 := 0#32
  let v222 : BitVec 1 := Scalar.cmpi .slt v220 c0_i32_101
  let c0_i32_102 : BitVec 32 := 0#32
  let v223 : BitVec 1 := Scalar.cmpi .slt v219 c0_i32_102
  let v224 : BitVec 1 := Scalar.xori v222 v223
  let c0_i32_100 : BitVec 32 := 0#32
  let v221 : BitVec 1 := Scalar.cmpi .ne v220 c0_i32_100
  let v225 : BitVec 1 := Scalar.andi v224 v221
  let v226 : BitVec 32 := Scalar.addi v220 v219
  let v227 : BitVec 32 := Scalar.select v225 v226 v220
  let c0_i32_103 : BitVec 32 := 0#32
  let v228 : BitVec 1 := Scalar.cmpi .eq v227 c0_i32_103
  let v229 : BitVec 32 := Scalar.extui v228
  let v230 : BitVec 32 := Scalar.muli c0_i32_104 v229
  let v231 : BitVec 32 := Scalar.addi c0_i32_105 v230
  let c3_i32_107 : BitVec 32 := 3#32
  let c1_i32_106 : BitVec 32 := 1#32
  let v232 : BitVec 1 := Scalar.cmpi .eq v227 c1_i32_106
  let v233 : BitVec 32 := Scalar.extui v232
  let v234 : BitVec 32 := Scalar.muli c3_i32_107 v233
  let v235 : BitVec 32 := Scalar.addi v231 v234
  let c4_i32_109 : BitVec 32 := 4#32
  let c2_i32_108 : BitVec 32 := 2#32
  let v236 : BitVec 1 := Scalar.cmpi .eq v227 c2_i32_108
  let v237 : BitVec 32 := Scalar.extui v236
  let v238 : BitVec 32 := Scalar.muli c4_i32_109 v237
  let v239 : BitVec 32 := Scalar.addi v235 v238
  let c7_i32_111 : BitVec 32 := 7#32
  let c3_i32_110 : BitVec 32 := 3#32
  let v240 : BitVec 1 := Scalar.cmpi .eq v227 c3_i32_110
  let v241 : BitVec 32 := Scalar.extui v240
  let v242 : BitVec 32 := Scalar.muli c7_i32_111 v241
  let v243 : BitVec 32 := Scalar.addi v239 v242
  let c6_i32_113 : BitVec 32 := 6#32
  let c4_i32_112 : BitVec 32 := 4#32
  let v244 : BitVec 1 := Scalar.cmpi .eq v227 c4_i32_112
  let v245 : BitVec 32 := Scalar.extui v244
  let v246 : BitVec 32 := Scalar.muli c6_i32_113 v245
  let v247 : BitVec 32 := Scalar.addi v243 v246
  let c5_i32_115 : BitVec 32 := 5#32
  let c5_i32_114 : BitVec 32 := 5#32
  let v248 : BitVec 1 := Scalar.cmpi .eq v227 c5_i32_114
  let v249 : BitVec 32 := Scalar.extui v248
  let v250 : BitVec 32 := Scalar.muli c5_i32_115 v249
  let v251 : BitVec 32 := Scalar.addi v247 v250
  let c2_i32_117 : BitVec 32 := 2#32
  let c6_i32_116 : BitVec 32 := 6#32
  let v252 : BitVec 1 := Scalar.cmpi .eq v227 c6_i32_116
  let v253 : BitVec 32 := Scalar.extui v252
  let v254 : BitVec 32 := Scalar.muli c2_i32_117 v253
  let v255 : BitVec 32 := Scalar.addi v251 v254
  let c1_i32_119 : BitVec 32 := 1#32
  let c7_i32_118 : BitVec 32 := 7#32
  let v256 : BitVec 1 := Scalar.cmpi .eq v227 c7_i32_118
  let v257 : BitVec 32 := Scalar.extui v256
  let v258 : BitVec 32 := Scalar.muli c1_i32_119 v257
  let v259 : BitVec 32 := Scalar.addi v255 v258
  let c64_i32_166 : BitVec 32 := 64#32
  let v340 : BitVec 32 := Scalar.muli v259 c64_i32_166
  let v341 : Index := Scalar.indexCast v340
  let c3 : Index := 3#32
  ![0, v341.toNat, 3]
def k0_off6 (d0 : Dev nD) : Fin 3 → Nat :=
  let c0_177 : Index := 0#32
  let c0_i32_129 : BitVec 32 := 0#32
  let c0_i32_128 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_120 : BitVec 32 := 1#32
  let v260 : BitVec 32 := Scalar.addi v61 c1_i32_120
  let c8_i32_121 : BitVec 32 := 8#32
  let c0_i32_122 : BitVec 32 := 0#32
  let v261 : BitVec 1 := Scalar.cmpi .eq c8_i32_121 c0_i32_122
  let c1_i32_123 : BitVec 32 := 1#32
  let v262 : BitVec 32 := Scalar.select v261 c1_i32_123 c8_i32_121
  let v263 : BitVec 32 := Scalar.remsi v260 v262
  let c0_i32_125 : BitVec 32 := 0#32
  let v265 : BitVec 1 := Scalar.cmpi .slt v263 c0_i32_125
  let c0_i32_126 : BitVec 32 := 0#32
  let v266 : BitVec 1 := Scalar.cmpi .slt v262 c0_i32_126
  let v267 : BitVec 1 := Scalar.xori v265 v266
  let c0_i32_124 : BitVec 32 := 0#32
  let v264 : BitVec 1 := Scalar.cmpi .ne v263 c0_i32_124
  let v268 : BitVec 1 := Scalar.andi v267 v264
  let v269 : BitVec 32 := Scalar.addi v263 v262
  let v270 : BitVec 32 := Scalar.select v268 v269 v263
  let c0_i32_127 : BitVec 32 := 0#32
  let v271 : BitVec 1 := Scalar.cmpi .eq v270 c0_i32_127
  let v272 : BitVec 32 := Scalar.extui v271
  let v273 : BitVec 32 := Scalar.muli c0_i32_128 v272
  let v274 : BitVec 32 := Scalar.addi c0_i32_129 v273
  let c3_i32_131 : BitVec 32 := 3#32
  let c1_i32_130 : BitVec 32 := 1#32
  let v275 : BitVec 1 := Scalar.cmpi .eq v270 c1_i32_130
  let v276 : BitVec 32 := Scalar.extui v275
  let v277 : BitVec 32 := Scalar.muli c3_i32_131 v276
  let v278 : BitVec 32 := Scalar.addi v274 v277
  let c4_i32_133 : BitVec 32 := 4#32
  let c2_i32_132 : BitVec 32 := 2#32
  let v279 : BitVec 1 := Scalar.cmpi .eq v270 c2_i32_132
  let v280 : BitVec 32 := Scalar.extui v279
  let v281 : BitVec 32 := Scalar.muli c4_i32_133 v280
  let v282 : BitVec 32 := Scalar.addi v278 v281
  let c7_i32_135 : BitVec 32 := 7#32
  let c3_i32_134 : BitVec 32 := 3#32
  let v283 : BitVec 1 := Scalar.cmpi .eq v270 c3_i32_134
  let v284 : BitVec 32 := Scalar.extui v283
  let v285 : BitVec 32 := Scalar.muli c7_i32_135 v284
  let v286 : BitVec 32 := Scalar.addi v282 v285
  let c6_i32_137 : BitVec 32 := 6#32
  let c4_i32_136 : BitVec 32 := 4#32
  let v287 : BitVec 1 := Scalar.cmpi .eq v270 c4_i32_136
  let v288 : BitVec 32 := Scalar.extui v287
  let v289 : BitVec 32 := Scalar.muli c6_i32_137 v288
  let v290 : BitVec 32 := Scalar.addi v286 v289
  let c5_i32_139 : BitVec 32 := 5#32
  let c5_i32_138 : BitVec 32 := 5#32
  let v291 : BitVec 1 := Scalar.cmpi .eq v270 c5_i32_138
  let v292 : BitVec 32 := Scalar.extui v291
  let v293 : BitVec 32 := Scalar.muli c5_i32_139 v292
  let v294 : BitVec 32 := Scalar.addi v290 v293
  let c2_i32_141 : BitVec 32 := 2#32
  let c6_i32_140 : BitVec 32 := 6#32
  let v295 : BitVec 1 := Scalar.cmpi .eq v270 c6_i32_140
  let v296 : BitVec 32 := Scalar.extui v295
  let v297 : BitVec 32 := Scalar.muli c2_i32_141 v296
  let v298 : BitVec 32 := Scalar.addi v294 v297
  let c1_i32_143 : BitVec 32 := 1#32
  let c7_i32_142 : BitVec 32 := 7#32
  let v299 : BitVec 1 := Scalar.cmpi .eq v270 c7_i32_142
  let v300 : BitVec 32 := Scalar.extui v299
  let v301 : BitVec 32 := Scalar.muli c1_i32_143 v300
  let v302 : BitVec 32 := Scalar.addi v298 v301
  let c64_i32_176 : BitVec 32 := 64#32
  let v356 : BitVec 32 := Scalar.muli v302 c64_i32_176
  let v357 : Index := Scalar.indexCast v356
  let c0_178 : Index := 0#32
  ![0, v357.toNat, 0]
def k0_off7 (d0 : Dev nD) : Fin 3 → Nat :=
  let c0_181 : Index := 0#32
  let c0_i32_129 : BitVec 32 := 0#32
  let c0_i32_128 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_120 : BitVec 32 := 1#32
  let v260 : BitVec 32 := Scalar.addi v61 c1_i32_120
  let c8_i32_121 : BitVec 32 := 8#32
  let c0_i32_122 : BitVec 32 := 0#32
  let v261 : BitVec 1 := Scalar.cmpi .eq c8_i32_121 c0_i32_122
  let c1_i32_123 : BitVec 32 := 1#32
  let v262 : BitVec 32 := Scalar.select v261 c1_i32_123 c8_i32_121
  let v263 : BitVec 32 := Scalar.remsi v260 v262
  let c0_i32_125 : BitVec 32 := 0#32
  let v265 : BitVec 1 := Scalar.cmpi .slt v263 c0_i32_125
  let c0_i32_126 : BitVec 32 := 0#32
  let v266 : BitVec 1 := Scalar.cmpi .slt v262 c0_i32_126
  let v267 : BitVec 1 := Scalar.xori v265 v266
  let c0_i32_124 : BitVec 32 := 0#32
  let v264 : BitVec 1 := Scalar.cmpi .ne v263 c0_i32_124
  let v268 : BitVec 1 := Scalar.andi v267 v264
  let v269 : BitVec 32 := Scalar.addi v263 v262
  let v270 : BitVec 32 := Scalar.select v268 v269 v263
  let c0_i32_127 : BitVec 32 := 0#32
  let v271 : BitVec 1 := Scalar.cmpi .eq v270 c0_i32_127
  let v272 : BitVec 32 := Scalar.extui v271
  let v273 : BitVec 32 := Scalar.muli c0_i32_128 v272
  let v274 : BitVec 32 := Scalar.addi c0_i32_129 v273
  let c3_i32_131 : BitVec 32 := 3#32
  let c1_i32_130 : BitVec 32 := 1#32
  let v275 : BitVec 1 := Scalar.cmpi .eq v270 c1_i32_130
  let v276 : BitVec 32 := Scalar.extui v275
  let v277 : BitVec 32 := Scalar.muli c3_i32_131 v276
  let v278 : BitVec 32 := Scalar.addi v274 v277
  let c4_i32_133 : BitVec 32 := 4#32
  let c2_i32_132 : BitVec 32 := 2#32
  let v279 : BitVec 1 := Scalar.cmpi .eq v270 c2_i32_132
  let v280 : BitVec 32 := Scalar.extui v279
  let v281 : BitVec 32 := Scalar.muli c4_i32_133 v280
  let v282 : BitVec 32 := Scalar.addi v278 v281
  let c7_i32_135 : BitVec 32 := 7#32
  let c3_i32_134 : BitVec 32 := 3#32
  let v283 : BitVec 1 := Scalar.cmpi .eq v270 c3_i32_134
  let v284 : BitVec 32 := Scalar.extui v283
  let v285 : BitVec 32 := Scalar.muli c7_i32_135 v284
  let v286 : BitVec 32 := Scalar.addi v282 v285
  let c6_i32_137 : BitVec 32 := 6#32
  let c4_i32_136 : BitVec 32 := 4#32
  let v287 : BitVec 1 := Scalar.cmpi .eq v270 c4_i32_136
  let v288 : BitVec 32 := Scalar.extui v287
  let v289 : BitVec 32 := Scalar.muli c6_i32_137 v288
  let v290 : BitVec 32 := Scalar.addi v286 v289
  let c5_i32_139 : BitVec 32 := 5#32
  let c5_i32_138 : BitVec 32 := 5#32
  let v291 : BitVec 1 := Scalar.cmpi .eq v270 c5_i32_138
  let v292 : BitVec 32 := Scalar.extui v291
  let v293 : BitVec 32 := Scalar.muli c5_i32_139 v292
  let v294 : BitVec 32 := Scalar.addi v290 v293
  let c2_i32_141 : BitVec 32 := 2#32
  let c6_i32_140 : BitVec 32 := 6#32
  let v295 : BitVec 1 := Scalar.cmpi .eq v270 c6_i32_140
  let v296 : BitVec 32 := Scalar.extui v295
  let v297 : BitVec 32 := Scalar.muli c2_i32_141 v296
  let v298 : BitVec 32 := Scalar.addi v294 v297
  let c1_i32_143 : BitVec 32 := 1#32
  let c7_i32_142 : BitVec 32 := 7#32
  let v299 : BitVec 1 := Scalar.cmpi .eq v270 c7_i32_142
  let v300 : BitVec 32 := Scalar.extui v299
  let v301 : BitVec 32 := Scalar.muli c1_i32_143 v300
  let v302 : BitVec 32 := Scalar.addi v298 v301
  let c64_i32_180 : BitVec 32 := 64#32
  let v360 : BitVec 32 := Scalar.muli v302 c64_i32_180
  let v361 : Index := Scalar.indexCast v360
  let c0_182 : Index := 0#32
  ![0, v361.toNat, 0]
def k0_off8 (d0 : Dev nD) : Fin 3 → Nat :=
  let c0_187 : Index := 0#32
  let c0_i32_129 : BitVec 32 := 0#32
  let c0_i32_128 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_120 : BitVec 32 := 1#32
  let v260 : BitVec 32 := Scalar.addi v61 c1_i32_120
  let c8_i32_121 : BitVec 32 := 8#32
  let c0_i32_122 : BitVec 32 := 0#32
  let v261 : BitVec 1 := Scalar.cmpi .eq c8_i32_121 c0_i32_122
  let c1_i32_123 : BitVec 32 := 1#32
  let v262 : BitVec 32 := Scalar.select v261 c1_i32_123 c8_i32_121
  let v263 : BitVec 32 := Scalar.remsi v260 v262
  let c0_i32_125 : BitVec 32 := 0#32
  let v265 : BitVec 1 := Scalar.cmpi .slt v263 c0_i32_125
  let c0_i32_126 : BitVec 32 := 0#32
  let v266 : BitVec 1 := Scalar.cmpi .slt v262 c0_i32_126
  let v267 : BitVec 1 := Scalar.xori v265 v266
  let c0_i32_124 : BitVec 32 := 0#32
  let v264 : BitVec 1 := Scalar.cmpi .ne v263 c0_i32_124
  let v268 : BitVec 1 := Scalar.andi v267 v264
  let v269 : BitVec 32 := Scalar.addi v263 v262
  let v270 : BitVec 32 := Scalar.select v268 v269 v263
  let c0_i32_127 : BitVec 32 := 0#32
  let v271 : BitVec 1 := Scalar.cmpi .eq v270 c0_i32_127
  let v272 : BitVec 32 := Scalar.extui v271
  let v273 : BitVec 32 := Scalar.muli c0_i32_128 v272
  let v274 : BitVec 32 := Scalar.addi c0_i32_129 v273
  let c3_i32_131 : BitVec 32 := 3#32
  let c1_i32_130 : BitVec 32 := 1#32
  let v275 : BitVec 1 := Scalar.cmpi .eq v270 c1_i32_130
  let v276 : BitVec 32 := Scalar.extui v275
  let v277 : BitVec 32 := Scalar.muli c3_i32_131 v276
  let v278 : BitVec 32 := Scalar.addi v274 v277
  let c4_i32_133 : BitVec 32 := 4#32
  let c2_i32_132 : BitVec 32 := 2#32
  let v279 : BitVec 1 := Scalar.cmpi .eq v270 c2_i32_132
  let v280 : BitVec 32 := Scalar.extui v279
  let v281 : BitVec 32 := Scalar.muli c4_i32_133 v280
  let v282 : BitVec 32 := Scalar.addi v278 v281
  let c7_i32_135 : BitVec 32 := 7#32
  let c3_i32_134 : BitVec 32 := 3#32
  let v283 : BitVec 1 := Scalar.cmpi .eq v270 c3_i32_134
  let v284 : BitVec 32 := Scalar.extui v283
  let v285 : BitVec 32 := Scalar.muli c7_i32_135 v284
  let v286 : BitVec 32 := Scalar.addi v282 v285
  let c6_i32_137 : BitVec 32 := 6#32
  let c4_i32_136 : BitVec 32 := 4#32
  let v287 : BitVec 1 := Scalar.cmpi .eq v270 c4_i32_136
  let v288 : BitVec 32 := Scalar.extui v287
  let v289 : BitVec 32 := Scalar.muli c6_i32_137 v288
  let v290 : BitVec 32 := Scalar.addi v286 v289
  let c5_i32_139 : BitVec 32 := 5#32
  let c5_i32_138 : BitVec 32 := 5#32
  let v291 : BitVec 1 := Scalar.cmpi .eq v270 c5_i32_138
  let v292 : BitVec 32 := Scalar.extui v291
  let v293 : BitVec 32 := Scalar.muli c5_i32_139 v292
  let v294 : BitVec 32 := Scalar.addi v290 v293
  let c2_i32_141 : BitVec 32 := 2#32
  let c6_i32_140 : BitVec 32 := 6#32
  let v295 : BitVec 1 := Scalar.cmpi .eq v270 c6_i32_140
  let v296 : BitVec 32 := Scalar.extui v295
  let v297 : BitVec 32 := Scalar.muli c2_i32_141 v296
  let v298 : BitVec 32 := Scalar.addi v294 v297
  let c1_i32_143 : BitVec 32 := 1#32
  let c7_i32_142 : BitVec 32 := 7#32
  let v299 : BitVec 1 := Scalar.cmpi .eq v270 c7_i32_142
  let v300 : BitVec 32 := Scalar.extui v299
  let v301 : BitVec 32 := Scalar.muli c1_i32_143 v300
  let v302 : BitVec 32 := Scalar.addi v298 v301
  let c64_i32_186 : BitVec 32 := 64#32
  let v371 : BitVec 32 := Scalar.muli v302 c64_i32_186
  let v372 : Index := Scalar.indexCast v371
  let c1_188 : Index := 1#32
  ![0, v372.toNat, 1]
def k0_off9 (d0 : Dev nD) : Fin 3 → Nat :=
  let c0_194 : Index := 0#32
  let c0_i32_129 : BitVec 32 := 0#32
  let c0_i32_128 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_120 : BitVec 32 := 1#32
  let v260 : BitVec 32 := Scalar.addi v61 c1_i32_120
  let c8_i32_121 : BitVec 32 := 8#32
  let c0_i32_122 : BitVec 32 := 0#32
  let v261 : BitVec 1 := Scalar.cmpi .eq c8_i32_121 c0_i32_122
  let c1_i32_123 : BitVec 32 := 1#32
  let v262 : BitVec 32 := Scalar.select v261 c1_i32_123 c8_i32_121
  let v263 : BitVec 32 := Scalar.remsi v260 v262
  let c0_i32_125 : BitVec 32 := 0#32
  let v265 : BitVec 1 := Scalar.cmpi .slt v263 c0_i32_125
  let c0_i32_126 : BitVec 32 := 0#32
  let v266 : BitVec 1 := Scalar.cmpi .slt v262 c0_i32_126
  let v267 : BitVec 1 := Scalar.xori v265 v266
  let c0_i32_124 : BitVec 32 := 0#32
  let v264 : BitVec 1 := Scalar.cmpi .ne v263 c0_i32_124
  let v268 : BitVec 1 := Scalar.andi v267 v264
  let v269 : BitVec 32 := Scalar.addi v263 v262
  let v270 : BitVec 32 := Scalar.select v268 v269 v263
  let c0_i32_127 : BitVec 32 := 0#32
  let v271 : BitVec 1 := Scalar.cmpi .eq v270 c0_i32_127
  let v272 : BitVec 32 := Scalar.extui v271
  let v273 : BitVec 32 := Scalar.muli c0_i32_128 v272
  let v274 : BitVec 32 := Scalar.addi c0_i32_129 v273
  let c3_i32_131 : BitVec 32 := 3#32
  let c1_i32_130 : BitVec 32 := 1#32
  let v275 : BitVec 1 := Scalar.cmpi .eq v270 c1_i32_130
  let v276 : BitVec 32 := Scalar.extui v275
  let v277 : BitVec 32 := Scalar.muli c3_i32_131 v276
  let v278 : BitVec 32 := Scalar.addi v274 v277
  let c4_i32_133 : BitVec 32 := 4#32
  let c2_i32_132 : BitVec 32 := 2#32
  let v279 : BitVec 1 := Scalar.cmpi .eq v270 c2_i32_132
  let v280 : BitVec 32 := Scalar.extui v279
  let v281 : BitVec 32 := Scalar.muli c4_i32_133 v280
  let v282 : BitVec 32 := Scalar.addi v278 v281
  let c7_i32_135 : BitVec 32 := 7#32
  let c3_i32_134 : BitVec 32 := 3#32
  let v283 : BitVec 1 := Scalar.cmpi .eq v270 c3_i32_134
  let v284 : BitVec 32 := Scalar.extui v283
  let v285 : BitVec 32 := Scalar.muli c7_i32_135 v284
  let v286 : BitVec 32 := Scalar.addi v282 v285
  let c6_i32_137 : BitVec 32 := 6#32
  let c4_i32_136 : BitVec 32 := 4#32
  let v287 : BitVec 1 := Scalar.cmpi .eq v270 c4_i32_136
  let v288 : BitVec 32 := Scalar.extui v287
  let v289 : BitVec 32 := Scalar.muli c6_i32_137 v288
  let v290 : BitVec 32 := Scalar.addi v286 v289
  let c5_i32_139 : BitVec 32 := 5#32
  let c5_i32_138 : BitVec 32 := 5#32
  let v291 : BitVec 1 := Scalar.cmpi .eq v270 c5_i32_138
  let v292 : BitVec 32 := Scalar.extui v291
  let v293 : BitVec 32 := Scalar.muli c5_i32_139 v292
  let v294 : BitVec 32 := Scalar.addi v290 v293
  let c2_i32_141 : BitVec 32 := 2#32
  let c6_i32_140 : BitVec 32 := 6#32
  let v295 : BitVec 1 := Scalar.cmpi .eq v270 c6_i32_140
  let v296 : BitVec 32 := Scalar.extui v295
  let v297 : BitVec 32 := Scalar.muli c2_i32_141 v296
  let v298 : BitVec 32 := Scalar.addi v294 v297
  let c1_i32_143 : BitVec 32 := 1#32
  let c7_i32_142 : BitVec 32 := 7#32
  let v299 : BitVec 1 := Scalar.cmpi .eq v270 c7_i32_142
  let v300 : BitVec 32 := Scalar.extui v299
  let v301 : BitVec 32 := Scalar.muli c1_i32_143 v300
  let v302 : BitVec 32 := Scalar.addi v298 v301
  let c64_i32_193 : BitVec 32 := 64#32
  let v382 : BitVec 32 := Scalar.muli v302 c64_i32_193
  let v383 : Index := Scalar.indexCast v382
  let c2_195 : Index := 2#32
  ![0, v383.toNat, 2]
def k0_off10 (d0 : Dev nD) : Fin 3 → Nat :=
  let c0_201 : Index := 0#32
  let c0_i32_129 : BitVec 32 := 0#32
  let c0_i32_128 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_120 : BitVec 32 := 1#32
  let v260 : BitVec 32 := Scalar.addi v61 c1_i32_120
  let c8_i32_121 : BitVec 32 := 8#32
  let c0_i32_122 : BitVec 32 := 0#32
  let v261 : BitVec 1 := Scalar.cmpi .eq c8_i32_121 c0_i32_122
  let c1_i32_123 : BitVec 32 := 1#32
  let v262 : BitVec 32 := Scalar.select v261 c1_i32_123 c8_i32_121
  let v263 : BitVec 32 := Scalar.remsi v260 v262
  let c0_i32_125 : BitVec 32 := 0#32
  let v265 : BitVec 1 := Scalar.cmpi .slt v263 c0_i32_125
  let c0_i32_126 : BitVec 32 := 0#32
  let v266 : BitVec 1 := Scalar.cmpi .slt v262 c0_i32_126
  let v267 : BitVec 1 := Scalar.xori v265 v266
  let c0_i32_124 : BitVec 32 := 0#32
  let v264 : BitVec 1 := Scalar.cmpi .ne v263 c0_i32_124
  let v268 : BitVec 1 := Scalar.andi v267 v264
  let v269 : BitVec 32 := Scalar.addi v263 v262
  let v270 : BitVec 32 := Scalar.select v268 v269 v263
  let c0_i32_127 : BitVec 32 := 0#32
  let v271 : BitVec 1 := Scalar.cmpi .eq v270 c0_i32_127
  let v272 : BitVec 32 := Scalar.extui v271
  let v273 : BitVec 32 := Scalar.muli c0_i32_128 v272
  let v274 : BitVec 32 := Scalar.addi c0_i32_129 v273
  let c3_i32_131 : BitVec 32 := 3#32
  let c1_i32_130 : BitVec 32 := 1#32
  let v275 : BitVec 1 := Scalar.cmpi .eq v270 c1_i32_130
  let v276 : BitVec 32 := Scalar.extui v275
  let v277 : BitVec 32 := Scalar.muli c3_i32_131 v276
  let v278 : BitVec 32 := Scalar.addi v274 v277
  let c4_i32_133 : BitVec 32 := 4#32
  let c2_i32_132 : BitVec 32 := 2#32
  let v279 : BitVec 1 := Scalar.cmpi .eq v270 c2_i32_132
  let v280 : BitVec 32 := Scalar.extui v279
  let v281 : BitVec 32 := Scalar.muli c4_i32_133 v280
  let v282 : BitVec 32 := Scalar.addi v278 v281
  let c7_i32_135 : BitVec 32 := 7#32
  let c3_i32_134 : BitVec 32 := 3#32
  let v283 : BitVec 1 := Scalar.cmpi .eq v270 c3_i32_134
  let v284 : BitVec 32 := Scalar.extui v283
  let v285 : BitVec 32 := Scalar.muli c7_i32_135 v284
  let v286 : BitVec 32 := Scalar.addi v282 v285
  let c6_i32_137 : BitVec 32 := 6#32
  let c4_i32_136 : BitVec 32 := 4#32
  let v287 : BitVec 1 := Scalar.cmpi .eq v270 c4_i32_136
  let v288 : BitVec 32 := Scalar.extui v287
  let v289 : BitVec 32 := Scalar.muli c6_i32_137 v288
  let v290 : BitVec 32 := Scalar.addi v286 v289
  let c5_i32_139 : BitVec 32 := 5#32
  let c5_i32_138 : BitVec 32 := 5#32
  let v291 : BitVec 1 := Scalar.cmpi .eq v270 c5_i32_138
  let v292 : BitVec 32 := Scalar.extui v291
  let v293 : BitVec 32 := Scalar.muli c5_i32_139 v292
  let v294 : BitVec 32 := Scalar.addi v290 v293
  let c2_i32_141 : BitVec 32 := 2#32
  let c6_i32_140 : BitVec 32 := 6#32
  let v295 : BitVec 1 := Scalar.cmpi .eq v270 c6_i32_140
  let v296 : BitVec 32 := Scalar.extui v295
  let v297 : BitVec 32 := Scalar.muli c2_i32_141 v296
  let v298 : BitVec 32 := Scalar.addi v294 v297
  let c1_i32_143 : BitVec 32 := 1#32
  let c7_i32_142 : BitVec 32 := 7#32
  let v299 : BitVec 1 := Scalar.cmpi .eq v270 c7_i32_142
  let v300 : BitVec 32 := Scalar.extui v299
  let v301 : BitVec 32 := Scalar.muli c1_i32_143 v300
  let v302 : BitVec 32 := Scalar.addi v298 v301
  let c64_i32_200 : BitVec 32 := 64#32
  let v393 : BitVec 32 := Scalar.muli v302 c64_i32_200
  let v394 : Index := Scalar.indexCast v393
  let c3_202 : Index := 3#32
  ![0, v394.toNat, 3]
def k0_dev1 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_236 : BitVec 32 := 1#32
  let v449 : BitVec 32 := Scalar.muli v152 c1_i32_236
  let v450 : BitVec 32 := Scalar.addi c0_i32_237 v449
  v450.toNat
def k0_dev2 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_239 : BitVec 32 := 1#32
  let v451 : BitVec 32 := Scalar.muli v106 c1_i32_239
  let v452 : BitVec 32 := Scalar.addi c0_i32_240 v451
  v452.toNat
def k0_dev3 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_211 : BitVec 32 := 1#32
  let v410 : BitVec 32 := Scalar.addi v19 c1_i32_211
  let c4_i32_212 : BitVec 32 := 4#32
  let c0_i32_213 : BitVec 32 := 0#32
  let v411 : BitVec 1 := Scalar.cmpi .eq c4_i32_212 c0_i32_213
  let c1_i32_214 : BitVec 32 := 1#32
  let v412 : BitVec 32 := Scalar.select v411 c1_i32_214 c4_i32_212
  let v413 : BitVec 32 := Scalar.remsi v410 v412
  let c0_i32_216 : BitVec 32 := 0#32
  let v415 : BitVec 1 := Scalar.cmpi .slt v413 c0_i32_216
  let c0_i32_217 : BitVec 32 := 0#32
  let v416 : BitVec 1 := Scalar.cmpi .slt v412 c0_i32_217
  let v417 : BitVec 1 := Scalar.xori v415 v416
  let c0_i32_215 : BitVec 32 := 0#32
  let v414 : BitVec 1 := Scalar.cmpi .ne v413 c0_i32_215
  let v418 : BitVec 1 := Scalar.andi v417 v414
  let v419 : BitVec 32 := Scalar.addi v413 v412
  let v420 : BitVec 32 := Scalar.select v418 v419 v413
  let c8_i32_218 : BitVec 32 := 8#32
  let v421 : BitVec 32 := Scalar.muli v420 c8_i32_218
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v422 : BitVec 32 := Scalar.addi v421 v29
  let c1_i32_242 : BitVec 32 := 1#32
  let v453 : BitVec 32 := Scalar.muli v422 c1_i32_242
  let v454 : BitVec 32 := Scalar.addi c0_i32_243 v453
  v454.toNat
def k0_dev4 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_219 : BitVec 32 := 2#32
  let v423 : BitVec 32 := Scalar.addi v19 c2_i32_219
  let c4_i32_220 : BitVec 32 := 4#32
  let c0_i32_221 : BitVec 32 := 0#32
  let v424 : BitVec 1 := Scalar.cmpi .eq c4_i32_220 c0_i32_221
  let c1_i32_222 : BitVec 32 := 1#32
  let v425 : BitVec 32 := Scalar.select v424 c1_i32_222 c4_i32_220
  let v426 : BitVec 32 := Scalar.remsi v423 v425
  let c0_i32_224 : BitVec 32 := 0#32
  let v428 : BitVec 1 := Scalar.cmpi .slt v426 c0_i32_224
  let c0_i32_225 : BitVec 32 := 0#32
  let v429 : BitVec 1 := Scalar.cmpi .slt v425 c0_i32_225
  let v430 : BitVec 1 := Scalar.xori v428 v429
  let c0_i32_223 : BitVec 32 := 0#32
  let v427 : BitVec 1 := Scalar.cmpi .ne v426 c0_i32_223
  let v431 : BitVec 1 := Scalar.andi v430 v427
  let v432 : BitVec 32 := Scalar.addi v426 v425
  let v433 : BitVec 32 := Scalar.select v431 v432 v426
  let c8_i32_226 : BitVec 32 := 8#32
  let v434 : BitVec 32 := Scalar.muli v433 c8_i32_226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v435 : BitVec 32 := Scalar.addi v434 v29
  let c1_i32_245 : BitVec 32 := 1#32
  let v455 : BitVec 32 := Scalar.muli v435 c1_i32_245
  let v456 : BitVec 32 := Scalar.addi c0_i32_246 v455
  v456.toNat
def k0_dev5 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_227 : BitVec 32 := 3#32
  let v436 : BitVec 32 := Scalar.addi v19 c3_i32_227
  let c4_i32_228 : BitVec 32 := 4#32
  let c0_i32_229 : BitVec 32 := 0#32
  let v437 : BitVec 1 := Scalar.cmpi .eq c4_i32_228 c0_i32_229
  let c1_i32_230 : BitVec 32 := 1#32
  let v438 : BitVec 32 := Scalar.select v437 c1_i32_230 c4_i32_228
  let v439 : BitVec 32 := Scalar.remsi v436 v438
  let c0_i32_232 : BitVec 32 := 0#32
  let v441 : BitVec 1 := Scalar.cmpi .slt v439 c0_i32_232
  let c0_i32_233 : BitVec 32 := 0#32
  let v442 : BitVec 1 := Scalar.cmpi .slt v438 c0_i32_233
  let v443 : BitVec 1 := Scalar.xori v441 v442
  let c0_i32_231 : BitVec 32 := 0#32
  let v440 : BitVec 1 := Scalar.cmpi .ne v439 c0_i32_231
  let v444 : BitVec 1 := Scalar.andi v443 v440
  let v445 : BitVec 32 := Scalar.addi v439 v438
  let v446 : BitVec 32 := Scalar.select v444 v445 v439
  let c8_i32_234 : BitVec 32 := 8#32
  let v447 : BitVec 32 := Scalar.muli v446 c8_i32_234
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v448 : BitVec 32 := Scalar.addi v447 v29
  let c1_i32_248 : BitVec 32 := 1#32
  let v457 : BitVec 32 := Scalar.muli v448 c1_i32_248
  let v458 : BitVec 32 := Scalar.addi c0_i32_249 v457
  v458.toNat
def k0_dev6 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_259 : BitVec 32 := 1#32
  let v459 : BitVec 32 := Scalar.muli v106 c1_i32_259
  let v460 : BitVec 32 := Scalar.addi c0_i32_260 v459
  v460.toNat
def k0_dev7 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_273 : BitVec 32 := 1#32
  let v469 : BitVec 32 := Scalar.muli v152 c1_i32_273
  let v470 : BitVec 32 := Scalar.addi c0_i32_274 v469
  v470.toNat
def k0_dev8 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_287 : BitVec 32 := 1#32
  let v479 : BitVec 32 := Scalar.muli v106 c1_i32_287
  let v480 : BitVec 32 := Scalar.addi c0_i32_288 v479
  v480.toNat
def k0_dev9 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_301 : BitVec 32 := 1#32
  let v489 : BitVec 32 := Scalar.muli v152 c1_i32_301
  let v490 : BitVec 32 := Scalar.addi c0_i32_302 v489
  v490.toNat
def k0_dev10 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_315 : BitVec 32 := 1#32
  let v499 : BitVec 32 := Scalar.muli v106 c1_i32_315
  let v500 : BitVec 32 := Scalar.addi c0_i32_316 v499
  v500.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_329 : BitVec 32 := 1#32
  let v509 : BitVec 32 := Scalar.muli v152 c1_i32_329
  let v510 : BitVec 32 := Scalar.addi c0_i32_330 v509
  v510.toNat
def k0_dev12 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_343 : BitVec 32 := 1#32
  let v519 : BitVec 32 := Scalar.muli v106 c1_i32_343
  let v520 : BitVec 32 := Scalar.addi c0_i32_344 v519
  v520.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_357 : BitVec 32 := 1#32
  let v529 : BitVec 32 := Scalar.muli v152 c1_i32_357
  let v530 : BitVec 32 := Scalar.addi c0_i32_358 v529
  v530.toNat
def k0_off11 (d0 : Dev nD) (c0_i32_363 : BitVec 32) : Fin 3 → Nat :=
  let c0_414 : Index := 0#32
  let c0_i32_373 : BitVec 32 := 0#32
  let c0_i32_372 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v539 : BitVec 32 := Scalar.subi v61 c0_i32_363
  let c2_i32_364 : BitVec 32 := 2#32
  let v540 : BitVec 32 := Scalar.subi v539 c2_i32_364
  let c16_i32 : BitVec 32 := 16#32
  let v541 : BitVec 32 := Scalar.addi v540 c16_i32
  let c8_i32_365 : BitVec 32 := 8#32
  let c0_i32_366 : BitVec 32 := 0#32
  let v542 : BitVec 1 := Scalar.cmpi .eq c8_i32_365 c0_i32_366
  let c1_i32_367 : BitVec 32 := 1#32
  let v543 : BitVec 32 := Scalar.select v542 c1_i32_367 c8_i32_365
  let v544 : BitVec 32 := Scalar.remsi v541 v543
  let c0_i32_369 : BitVec 32 := 0#32
  let v546 : BitVec 1 := Scalar.cmpi .slt v544 c0_i32_369
  let c0_i32_370 : BitVec 32 := 0#32
  let v547 : BitVec 1 := Scalar.cmpi .slt v543 c0_i32_370
  let v548 : BitVec 1 := Scalar.xori v546 v547
  let c0_i32_368 : BitVec 32 := 0#32
  let v545 : BitVec 1 := Scalar.cmpi .ne v544 c0_i32_368
  let v549 : BitVec 1 := Scalar.andi v548 v545
  let v550 : BitVec 32 := Scalar.addi v544 v543
  let v551 : BitVec 32 := Scalar.select v549 v550 v544
  let c0_i32_371 : BitVec 32 := 0#32
  let v552 : BitVec 1 := Scalar.cmpi .eq v551 c0_i32_371
  let v553 : BitVec 32 := Scalar.extui v552
  let v554 : BitVec 32 := Scalar.muli c0_i32_372 v553
  let v555 : BitVec 32 := Scalar.addi c0_i32_373 v554
  let c3_i32_375 : BitVec 32 := 3#32
  let c1_i32_374 : BitVec 32 := 1#32
  let v556 : BitVec 1 := Scalar.cmpi .eq v551 c1_i32_374
  let v557 : BitVec 32 := Scalar.extui v556
  let v558 : BitVec 32 := Scalar.muli c3_i32_375 v557
  let v559 : BitVec 32 := Scalar.addi v555 v558
  let c4_i32_377 : BitVec 32 := 4#32
  let c2_i32_376 : BitVec 32 := 2#32
  let v560 : BitVec 1 := Scalar.cmpi .eq v551 c2_i32_376
  let v561 : BitVec 32 := Scalar.extui v560
  let v562 : BitVec 32 := Scalar.muli c4_i32_377 v561
  let v563 : BitVec 32 := Scalar.addi v559 v562
  let c7_i32_379 : BitVec 32 := 7#32
  let c3_i32_378 : BitVec 32 := 3#32
  let v564 : BitVec 1 := Scalar.cmpi .eq v551 c3_i32_378
  let v565 : BitVec 32 := Scalar.extui v564
  let v566 : BitVec 32 := Scalar.muli c7_i32_379 v565
  let v567 : BitVec 32 := Scalar.addi v563 v566
  let c6_i32_381 : BitVec 32 := 6#32
  let c4_i32_380 : BitVec 32 := 4#32
  let v568 : BitVec 1 := Scalar.cmpi .eq v551 c4_i32_380
  let v569 : BitVec 32 := Scalar.extui v568
  let v570 : BitVec 32 := Scalar.muli c6_i32_381 v569
  let v571 : BitVec 32 := Scalar.addi v567 v570
  let c5_i32_383 : BitVec 32 := 5#32
  let c5_i32_382 : BitVec 32 := 5#32
  let v572 : BitVec 1 := Scalar.cmpi .eq v551 c5_i32_382
  let v573 : BitVec 32 := Scalar.extui v572
  let v574 : BitVec 32 := Scalar.muli c5_i32_383 v573
  let v575 : BitVec 32 := Scalar.addi v571 v574
  let c2_i32_385 : BitVec 32 := 2#32
  let c6_i32_384 : BitVec 32 := 6#32
  let v576 : BitVec 1 := Scalar.cmpi .eq v551 c6_i32_384
  let v577 : BitVec 32 := Scalar.extui v576
  let v578 : BitVec 32 := Scalar.muli c2_i32_385 v577
  let v579 : BitVec 32 := Scalar.addi v575 v578
  let c1_i32_387 : BitVec 32 := 1#32
  let c7_i32_386 : BitVec 32 := 7#32
  let v580 : BitVec 1 := Scalar.cmpi .eq v551 c7_i32_386
  let v581 : BitVec 32 := Scalar.extui v580
  let v582 : BitVec 32 := Scalar.muli c1_i32_387 v581
  let v583 : BitVec 32 := Scalar.addi v579 v582
  let c64_i32_413 : BitVec 32 := 64#32
  let v628 : BitVec 32 := Scalar.muli v583 c64_i32_413
  let v629 : Index := Scalar.indexCast v628
  let c0_415 : Index := 0#32
  ![0, v629.toNat, 0]
def k0_off12 (d0 : Dev nD) (c0_i32_363 : BitVec 32) : Fin 3 → Nat :=
  let c0_418 : Index := 0#32
  let c0_i32_373 : BitVec 32 := 0#32
  let c0_i32_372 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v539 : BitVec 32 := Scalar.subi v61 c0_i32_363
  let c2_i32_364 : BitVec 32 := 2#32
  let v540 : BitVec 32 := Scalar.subi v539 c2_i32_364
  let c16_i32 : BitVec 32 := 16#32
  let v541 : BitVec 32 := Scalar.addi v540 c16_i32
  let c8_i32_365 : BitVec 32 := 8#32
  let c0_i32_366 : BitVec 32 := 0#32
  let v542 : BitVec 1 := Scalar.cmpi .eq c8_i32_365 c0_i32_366
  let c1_i32_367 : BitVec 32 := 1#32
  let v543 : BitVec 32 := Scalar.select v542 c1_i32_367 c8_i32_365
  let v544 : BitVec 32 := Scalar.remsi v541 v543
  let c0_i32_369 : BitVec 32 := 0#32
  let v546 : BitVec 1 := Scalar.cmpi .slt v544 c0_i32_369
  let c0_i32_370 : BitVec 32 := 0#32
  let v547 : BitVec 1 := Scalar.cmpi .slt v543 c0_i32_370
  let v548 : BitVec 1 := Scalar.xori v546 v547
  let c0_i32_368 : BitVec 32 := 0#32
  let v545 : BitVec 1 := Scalar.cmpi .ne v544 c0_i32_368
  let v549 : BitVec 1 := Scalar.andi v548 v545
  let v550 : BitVec 32 := Scalar.addi v544 v543
  let v551 : BitVec 32 := Scalar.select v549 v550 v544
  let c0_i32_371 : BitVec 32 := 0#32
  let v552 : BitVec 1 := Scalar.cmpi .eq v551 c0_i32_371
  let v553 : BitVec 32 := Scalar.extui v552
  let v554 : BitVec 32 := Scalar.muli c0_i32_372 v553
  let v555 : BitVec 32 := Scalar.addi c0_i32_373 v554
  let c3_i32_375 : BitVec 32 := 3#32
  let c1_i32_374 : BitVec 32 := 1#32
  let v556 : BitVec 1 := Scalar.cmpi .eq v551 c1_i32_374
  let v557 : BitVec 32 := Scalar.extui v556
  let v558 : BitVec 32 := Scalar.muli c3_i32_375 v557
  let v559 : BitVec 32 := Scalar.addi v555 v558
  let c4_i32_377 : BitVec 32 := 4#32
  let c2_i32_376 : BitVec 32 := 2#32
  let v560 : BitVec 1 := Scalar.cmpi .eq v551 c2_i32_376
  let v561 : BitVec 32 := Scalar.extui v560
  let v562 : BitVec 32 := Scalar.muli c4_i32_377 v561
  let v563 : BitVec 32 := Scalar.addi v559 v562
  let c7_i32_379 : BitVec 32 := 7#32
  let c3_i32_378 : BitVec 32 := 3#32
  let v564 : BitVec 1 := Scalar.cmpi .eq v551 c3_i32_378
  let v565 : BitVec 32 := Scalar.extui v564
  let v566 : BitVec 32 := Scalar.muli c7_i32_379 v565
  let v567 : BitVec 32 := Scalar.addi v563 v566
  let c6_i32_381 : BitVec 32 := 6#32
  let c4_i32_380 : BitVec 32 := 4#32
  let v568 : BitVec 1 := Scalar.cmpi .eq v551 c4_i32_380
  let v569 : BitVec 32 := Scalar.extui v568
  let v570 : BitVec 32 := Scalar.muli c6_i32_381 v569
  let v571 : BitVec 32 := Scalar.addi v567 v570
  let c5_i32_383 : BitVec 32 := 5#32
  let c5_i32_382 : BitVec 32 := 5#32
  let v572 : BitVec 1 := Scalar.cmpi .eq v551 c5_i32_382
  let v573 : BitVec 32 := Scalar.extui v572
  let v574 : BitVec 32 := Scalar.muli c5_i32_383 v573
  let v575 : BitVec 32 := Scalar.addi v571 v574
  let c2_i32_385 : BitVec 32 := 2#32
  let c6_i32_384 : BitVec 32 := 6#32
  let v576 : BitVec 1 := Scalar.cmpi .eq v551 c6_i32_384
  let v577 : BitVec 32 := Scalar.extui v576
  let v578 : BitVec 32 := Scalar.muli c2_i32_385 v577
  let v579 : BitVec 32 := Scalar.addi v575 v578
  let c1_i32_387 : BitVec 32 := 1#32
  let c7_i32_386 : BitVec 32 := 7#32
  let v580 : BitVec 1 := Scalar.cmpi .eq v551 c7_i32_386
  let v581 : BitVec 32 := Scalar.extui v580
  let v582 : BitVec 32 := Scalar.muli c1_i32_387 v581
  let v583 : BitVec 32 := Scalar.addi v579 v582
  let c64_i32_417 : BitVec 32 := 64#32
  let v632 : BitVec 32 := Scalar.muli v583 c64_i32_417
  let v633 : Index := Scalar.indexCast v632
  let c0_419 : Index := 0#32
  ![0, v633.toNat, 0]
def k0_off13 (d0 : Dev nD) (c0_i32_363 : BitVec 32) : Fin 3 → Nat :=
  let c0_425 : Index := 0#32
  let c0_i32_373 : BitVec 32 := 0#32
  let c0_i32_372 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v539 : BitVec 32 := Scalar.subi v61 c0_i32_363
  let c2_i32_364 : BitVec 32 := 2#32
  let v540 : BitVec 32 := Scalar.subi v539 c2_i32_364
  let c16_i32 : BitVec 32 := 16#32
  let v541 : BitVec 32 := Scalar.addi v540 c16_i32
  let c8_i32_365 : BitVec 32 := 8#32
  let c0_i32_366 : BitVec 32 := 0#32
  let v542 : BitVec 1 := Scalar.cmpi .eq c8_i32_365 c0_i32_366
  let c1_i32_367 : BitVec 32 := 1#32
  let v543 : BitVec 32 := Scalar.select v542 c1_i32_367 c8_i32_365
  let v544 : BitVec 32 := Scalar.remsi v541 v543
  let c0_i32_369 : BitVec 32 := 0#32
  let v546 : BitVec 1 := Scalar.cmpi .slt v544 c0_i32_369
  let c0_i32_370 : BitVec 32 := 0#32
  let v547 : BitVec 1 := Scalar.cmpi .slt v543 c0_i32_370
  let v548 : BitVec 1 := Scalar.xori v546 v547
  let c0_i32_368 : BitVec 32 := 0#32
  let v545 : BitVec 1 := Scalar.cmpi .ne v544 c0_i32_368
  let v549 : BitVec 1 := Scalar.andi v548 v545
  let v550 : BitVec 32 := Scalar.addi v544 v543
  let v551 : BitVec 32 := Scalar.select v549 v550 v544
  let c0_i32_371 : BitVec 32 := 0#32
  let v552 : BitVec 1 := Scalar.cmpi .eq v551 c0_i32_371
  let v553 : BitVec 32 := Scalar.extui v552
  let v554 : BitVec 32 := Scalar.muli c0_i32_372 v553
  let v555 : BitVec 32 := Scalar.addi c0_i32_373 v554
  let c3_i32_375 : BitVec 32 := 3#32
  let c1_i32_374 : BitVec 32 := 1#32
  let v556 : BitVec 1 := Scalar.cmpi .eq v551 c1_i32_374
  let v557 : BitVec 32 := Scalar.extui v556
  let v558 : BitVec 32 := Scalar.muli c3_i32_375 v557
  let v559 : BitVec 32 := Scalar.addi v555 v558
  let c4_i32_377 : BitVec 32 := 4#32
  let c2_i32_376 : BitVec 32 := 2#32
  let v560 : BitVec 1 := Scalar.cmpi .eq v551 c2_i32_376
  let v561 : BitVec 32 := Scalar.extui v560
  let v562 : BitVec 32 := Scalar.muli c4_i32_377 v561
  let v563 : BitVec 32 := Scalar.addi v559 v562
  let c7_i32_379 : BitVec 32 := 7#32
  let c3_i32_378 : BitVec 32 := 3#32
  let v564 : BitVec 1 := Scalar.cmpi .eq v551 c3_i32_378
  let v565 : BitVec 32 := Scalar.extui v564
  let v566 : BitVec 32 := Scalar.muli c7_i32_379 v565
  let v567 : BitVec 32 := Scalar.addi v563 v566
  let c6_i32_381 : BitVec 32 := 6#32
  let c4_i32_380 : BitVec 32 := 4#32
  let v568 : BitVec 1 := Scalar.cmpi .eq v551 c4_i32_380
  let v569 : BitVec 32 := Scalar.extui v568
  let v570 : BitVec 32 := Scalar.muli c6_i32_381 v569
  let v571 : BitVec 32 := Scalar.addi v567 v570
  let c5_i32_383 : BitVec 32 := 5#32
  let c5_i32_382 : BitVec 32 := 5#32
  let v572 : BitVec 1 := Scalar.cmpi .eq v551 c5_i32_382
  let v573 : BitVec 32 := Scalar.extui v572
  let v574 : BitVec 32 := Scalar.muli c5_i32_383 v573
  let v575 : BitVec 32 := Scalar.addi v571 v574
  let c2_i32_385 : BitVec 32 := 2#32
  let c6_i32_384 : BitVec 32 := 6#32
  let v576 : BitVec 1 := Scalar.cmpi .eq v551 c6_i32_384
  let v577 : BitVec 32 := Scalar.extui v576
  let v578 : BitVec 32 := Scalar.muli c2_i32_385 v577
  let v579 : BitVec 32 := Scalar.addi v575 v578
  let c1_i32_387 : BitVec 32 := 1#32
  let c7_i32_386 : BitVec 32 := 7#32
  let v580 : BitVec 1 := Scalar.cmpi .eq v551 c7_i32_386
  let v581 : BitVec 32 := Scalar.extui v580
  let v582 : BitVec 32 := Scalar.muli c1_i32_387 v581
  let v583 : BitVec 32 := Scalar.addi v579 v582
  let c64_i32_424 : BitVec 32 := 64#32
  let v643 : BitVec 32 := Scalar.muli v583 c64_i32_424
  let v644 : Index := Scalar.indexCast v643
  let c1_426 : Index := 1#32
  ![0, v644.toNat, 1]
def k0_off14 (d0 : Dev nD) (c0_i32_363 : BitVec 32) : Fin 3 → Nat :=
  let c0_432 : Index := 0#32
  let c0_i32_373 : BitVec 32 := 0#32
  let c0_i32_372 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v539 : BitVec 32 := Scalar.subi v61 c0_i32_363
  let c2_i32_364 : BitVec 32 := 2#32
  let v540 : BitVec 32 := Scalar.subi v539 c2_i32_364
  let c16_i32 : BitVec 32 := 16#32
  let v541 : BitVec 32 := Scalar.addi v540 c16_i32
  let c8_i32_365 : BitVec 32 := 8#32
  let c0_i32_366 : BitVec 32 := 0#32
  let v542 : BitVec 1 := Scalar.cmpi .eq c8_i32_365 c0_i32_366
  let c1_i32_367 : BitVec 32 := 1#32
  let v543 : BitVec 32 := Scalar.select v542 c1_i32_367 c8_i32_365
  let v544 : BitVec 32 := Scalar.remsi v541 v543
  let c0_i32_369 : BitVec 32 := 0#32
  let v546 : BitVec 1 := Scalar.cmpi .slt v544 c0_i32_369
  let c0_i32_370 : BitVec 32 := 0#32
  let v547 : BitVec 1 := Scalar.cmpi .slt v543 c0_i32_370
  let v548 : BitVec 1 := Scalar.xori v546 v547
  let c0_i32_368 : BitVec 32 := 0#32
  let v545 : BitVec 1 := Scalar.cmpi .ne v544 c0_i32_368
  let v549 : BitVec 1 := Scalar.andi v548 v545
  let v550 : BitVec 32 := Scalar.addi v544 v543
  let v551 : BitVec 32 := Scalar.select v549 v550 v544
  let c0_i32_371 : BitVec 32 := 0#32
  let v552 : BitVec 1 := Scalar.cmpi .eq v551 c0_i32_371
  let v553 : BitVec 32 := Scalar.extui v552
  let v554 : BitVec 32 := Scalar.muli c0_i32_372 v553
  let v555 : BitVec 32 := Scalar.addi c0_i32_373 v554
  let c3_i32_375 : BitVec 32 := 3#32
  let c1_i32_374 : BitVec 32 := 1#32
  let v556 : BitVec 1 := Scalar.cmpi .eq v551 c1_i32_374
  let v557 : BitVec 32 := Scalar.extui v556
  let v558 : BitVec 32 := Scalar.muli c3_i32_375 v557
  let v559 : BitVec 32 := Scalar.addi v555 v558
  let c4_i32_377 : BitVec 32 := 4#32
  let c2_i32_376 : BitVec 32 := 2#32
  let v560 : BitVec 1 := Scalar.cmpi .eq v551 c2_i32_376
  let v561 : BitVec 32 := Scalar.extui v560
  let v562 : BitVec 32 := Scalar.muli c4_i32_377 v561
  let v563 : BitVec 32 := Scalar.addi v559 v562
  let c7_i32_379 : BitVec 32 := 7#32
  let c3_i32_378 : BitVec 32 := 3#32
  let v564 : BitVec 1 := Scalar.cmpi .eq v551 c3_i32_378
  let v565 : BitVec 32 := Scalar.extui v564
  let v566 : BitVec 32 := Scalar.muli c7_i32_379 v565
  let v567 : BitVec 32 := Scalar.addi v563 v566
  let c6_i32_381 : BitVec 32 := 6#32
  let c4_i32_380 : BitVec 32 := 4#32
  let v568 : BitVec 1 := Scalar.cmpi .eq v551 c4_i32_380
  let v569 : BitVec 32 := Scalar.extui v568
  let v570 : BitVec 32 := Scalar.muli c6_i32_381 v569
  let v571 : BitVec 32 := Scalar.addi v567 v570
  let c5_i32_383 : BitVec 32 := 5#32
  let c5_i32_382 : BitVec 32 := 5#32
  let v572 : BitVec 1 := Scalar.cmpi .eq v551 c5_i32_382
  let v573 : BitVec 32 := Scalar.extui v572
  let v574 : BitVec 32 := Scalar.muli c5_i32_383 v573
  let v575 : BitVec 32 := Scalar.addi v571 v574
  let c2_i32_385 : BitVec 32 := 2#32
  let c6_i32_384 : BitVec 32 := 6#32
  let v576 : BitVec 1 := Scalar.cmpi .eq v551 c6_i32_384
  let v577 : BitVec 32 := Scalar.extui v576
  let v578 : BitVec 32 := Scalar.muli c2_i32_385 v577
  let v579 : BitVec 32 := Scalar.addi v575 v578
  let c1_i32_387 : BitVec 32 := 1#32
  let c7_i32_386 : BitVec 32 := 7#32
  let v580 : BitVec 1 := Scalar.cmpi .eq v551 c7_i32_386
  let v581 : BitVec 32 := Scalar.extui v580
  let v582 : BitVec 32 := Scalar.muli c1_i32_387 v581
  let v583 : BitVec 32 := Scalar.addi v579 v582
  let c64_i32_431 : BitVec 32 := 64#32
  let v654 : BitVec 32 := Scalar.muli v583 c64_i32_431
  let v655 : Index := Scalar.indexCast v654
  let c2_433 : Index := 2#32
  ![0, v655.toNat, 2]
def k0_off15 (d0 : Dev nD) (c0_i32_363 : BitVec 32) : Fin 3 → Nat :=
  let c0_439 : Index := 0#32
  let c0_i32_373 : BitVec 32 := 0#32
  let c0_i32_372 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v539 : BitVec 32 := Scalar.subi v61 c0_i32_363
  let c2_i32_364 : BitVec 32 := 2#32
  let v540 : BitVec 32 := Scalar.subi v539 c2_i32_364
  let c16_i32 : BitVec 32 := 16#32
  let v541 : BitVec 32 := Scalar.addi v540 c16_i32
  let c8_i32_365 : BitVec 32 := 8#32
  let c0_i32_366 : BitVec 32 := 0#32
  let v542 : BitVec 1 := Scalar.cmpi .eq c8_i32_365 c0_i32_366
  let c1_i32_367 : BitVec 32 := 1#32
  let v543 : BitVec 32 := Scalar.select v542 c1_i32_367 c8_i32_365
  let v544 : BitVec 32 := Scalar.remsi v541 v543
  let c0_i32_369 : BitVec 32 := 0#32
  let v546 : BitVec 1 := Scalar.cmpi .slt v544 c0_i32_369
  let c0_i32_370 : BitVec 32 := 0#32
  let v547 : BitVec 1 := Scalar.cmpi .slt v543 c0_i32_370
  let v548 : BitVec 1 := Scalar.xori v546 v547
  let c0_i32_368 : BitVec 32 := 0#32
  let v545 : BitVec 1 := Scalar.cmpi .ne v544 c0_i32_368
  let v549 : BitVec 1 := Scalar.andi v548 v545
  let v550 : BitVec 32 := Scalar.addi v544 v543
  let v551 : BitVec 32 := Scalar.select v549 v550 v544
  let c0_i32_371 : BitVec 32 := 0#32
  let v552 : BitVec 1 := Scalar.cmpi .eq v551 c0_i32_371
  let v553 : BitVec 32 := Scalar.extui v552
  let v554 : BitVec 32 := Scalar.muli c0_i32_372 v553
  let v555 : BitVec 32 := Scalar.addi c0_i32_373 v554
  let c3_i32_375 : BitVec 32 := 3#32
  let c1_i32_374 : BitVec 32 := 1#32
  let v556 : BitVec 1 := Scalar.cmpi .eq v551 c1_i32_374
  let v557 : BitVec 32 := Scalar.extui v556
  let v558 : BitVec 32 := Scalar.muli c3_i32_375 v557
  let v559 : BitVec 32 := Scalar.addi v555 v558
  let c4_i32_377 : BitVec 32 := 4#32
  let c2_i32_376 : BitVec 32 := 2#32
  let v560 : BitVec 1 := Scalar.cmpi .eq v551 c2_i32_376
  let v561 : BitVec 32 := Scalar.extui v560
  let v562 : BitVec 32 := Scalar.muli c4_i32_377 v561
  let v563 : BitVec 32 := Scalar.addi v559 v562
  let c7_i32_379 : BitVec 32 := 7#32
  let c3_i32_378 : BitVec 32 := 3#32
  let v564 : BitVec 1 := Scalar.cmpi .eq v551 c3_i32_378
  let v565 : BitVec 32 := Scalar.extui v564
  let v566 : BitVec 32 := Scalar.muli c7_i32_379 v565
  let v567 : BitVec 32 := Scalar.addi v563 v566
  let c6_i32_381 : BitVec 32 := 6#32
  let c4_i32_380 : BitVec 32 := 4#32
  let v568 : BitVec 1 := Scalar.cmpi .eq v551 c4_i32_380
  let v569 : BitVec 32 := Scalar.extui v568
  let v570 : BitVec 32 := Scalar.muli c6_i32_381 v569
  let v571 : BitVec 32 := Scalar.addi v567 v570
  let c5_i32_383 : BitVec 32 := 5#32
  let c5_i32_382 : BitVec 32 := 5#32
  let v572 : BitVec 1 := Scalar.cmpi .eq v551 c5_i32_382
  let v573 : BitVec 32 := Scalar.extui v572
  let v574 : BitVec 32 := Scalar.muli c5_i32_383 v573
  let v575 : BitVec 32 := Scalar.addi v571 v574
  let c2_i32_385 : BitVec 32 := 2#32
  let c6_i32_384 : BitVec 32 := 6#32
  let v576 : BitVec 1 := Scalar.cmpi .eq v551 c6_i32_384
  let v577 : BitVec 32 := Scalar.extui v576
  let v578 : BitVec 32 := Scalar.muli c2_i32_385 v577
  let v579 : BitVec 32 := Scalar.addi v575 v578
  let c1_i32_387 : BitVec 32 := 1#32
  let c7_i32_386 : BitVec 32 := 7#32
  let v580 : BitVec 1 := Scalar.cmpi .eq v551 c7_i32_386
  let v581 : BitVec 32 := Scalar.extui v580
  let v582 : BitVec 32 := Scalar.muli c1_i32_387 v581
  let v583 : BitVec 32 := Scalar.addi v579 v582
  let c64_i32_438 : BitVec 32 := 64#32
  let v665 : BitVec 32 := Scalar.muli v583 c64_i32_438
  let v666 : Index := Scalar.indexCast v665
  let c3_440 : Index := 3#32
  ![0, v666.toNat, 3]
def k0_off16 (d0 : Dev nD) (c0_i32_388 : BitVec 32) : Fin 3 → Nat :=
  let c0_446 : Index := 0#32
  let c0_i32_398 : BitVec 32 := 0#32
  let c0_i32_397 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v584 : BitVec 32 := Scalar.addi v61 c0_i32_388
  let c2_i32_389 : BitVec 32 := 2#32
  let v585 : BitVec 32 := Scalar.addi v584 c2_i32_389
  let c8_i32_390 : BitVec 32 := 8#32
  let c0_i32_391 : BitVec 32 := 0#32
  let v586 : BitVec 1 := Scalar.cmpi .eq c8_i32_390 c0_i32_391
  let c1_i32_392 : BitVec 32 := 1#32
  let v587 : BitVec 32 := Scalar.select v586 c1_i32_392 c8_i32_390
  let v588 : BitVec 32 := Scalar.remsi v585 v587
  let c0_i32_394 : BitVec 32 := 0#32
  let v590 : BitVec 1 := Scalar.cmpi .slt v588 c0_i32_394
  let c0_i32_395 : BitVec 32 := 0#32
  let v591 : BitVec 1 := Scalar.cmpi .slt v587 c0_i32_395
  let v592 : BitVec 1 := Scalar.xori v590 v591
  let c0_i32_393 : BitVec 32 := 0#32
  let v589 : BitVec 1 := Scalar.cmpi .ne v588 c0_i32_393
  let v593 : BitVec 1 := Scalar.andi v592 v589
  let v594 : BitVec 32 := Scalar.addi v588 v587
  let v595 : BitVec 32 := Scalar.select v593 v594 v588
  let c0_i32_396 : BitVec 32 := 0#32
  let v596 : BitVec 1 := Scalar.cmpi .eq v595 c0_i32_396
  let v597 : BitVec 32 := Scalar.extui v596
  let v598 : BitVec 32 := Scalar.muli c0_i32_397 v597
  let v599 : BitVec 32 := Scalar.addi c0_i32_398 v598
  let c3_i32_400 : BitVec 32 := 3#32
  let c1_i32_399 : BitVec 32 := 1#32
  let v600 : BitVec 1 := Scalar.cmpi .eq v595 c1_i32_399
  let v601 : BitVec 32 := Scalar.extui v600
  let v602 : BitVec 32 := Scalar.muli c3_i32_400 v601
  let v603 : BitVec 32 := Scalar.addi v599 v602
  let c4_i32_402 : BitVec 32 := 4#32
  let c2_i32_401 : BitVec 32 := 2#32
  let v604 : BitVec 1 := Scalar.cmpi .eq v595 c2_i32_401
  let v605 : BitVec 32 := Scalar.extui v604
  let v606 : BitVec 32 := Scalar.muli c4_i32_402 v605
  let v607 : BitVec 32 := Scalar.addi v603 v606
  let c7_i32_404 : BitVec 32 := 7#32
  let c3_i32_403 : BitVec 32 := 3#32
  let v608 : BitVec 1 := Scalar.cmpi .eq v595 c3_i32_403
  let v609 : BitVec 32 := Scalar.extui v608
  let v610 : BitVec 32 := Scalar.muli c7_i32_404 v609
  let v611 : BitVec 32 := Scalar.addi v607 v610
  let c6_i32_406 : BitVec 32 := 6#32
  let c4_i32_405 : BitVec 32 := 4#32
  let v612 : BitVec 1 := Scalar.cmpi .eq v595 c4_i32_405
  let v613 : BitVec 32 := Scalar.extui v612
  let v614 : BitVec 32 := Scalar.muli c6_i32_406 v613
  let v615 : BitVec 32 := Scalar.addi v611 v614
  let c5_i32_408 : BitVec 32 := 5#32
  let c5_i32_407 : BitVec 32 := 5#32
  let v616 : BitVec 1 := Scalar.cmpi .eq v595 c5_i32_407
  let v617 : BitVec 32 := Scalar.extui v616
  let v618 : BitVec 32 := Scalar.muli c5_i32_408 v617
  let v619 : BitVec 32 := Scalar.addi v615 v618
  let c2_i32_410 : BitVec 32 := 2#32
  let c6_i32_409 : BitVec 32 := 6#32
  let v620 : BitVec 1 := Scalar.cmpi .eq v595 c6_i32_409
  let v621 : BitVec 32 := Scalar.extui v620
  let v622 : BitVec 32 := Scalar.muli c2_i32_410 v621
  let v623 : BitVec 32 := Scalar.addi v619 v622
  let c1_i32_412 : BitVec 32 := 1#32
  let c7_i32_411 : BitVec 32 := 7#32
  let v624 : BitVec 1 := Scalar.cmpi .eq v595 c7_i32_411
  let v625 : BitVec 32 := Scalar.extui v624
  let v626 : BitVec 32 := Scalar.muli c1_i32_412 v625
  let v627 : BitVec 32 := Scalar.addi v623 v626
  let c64_i32_445 : BitVec 32 := 64#32
  let v676 : BitVec 32 := Scalar.muli v627 c64_i32_445
  let v677 : Index := Scalar.indexCast v676
  let c0_447 : Index := 0#32
  ![0, v677.toNat, 0]
def k0_off17 (d0 : Dev nD) (c0_i32_388 : BitVec 32) : Fin 3 → Nat :=
  let c0_450 : Index := 0#32
  let c0_i32_398 : BitVec 32 := 0#32
  let c0_i32_397 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v584 : BitVec 32 := Scalar.addi v61 c0_i32_388
  let c2_i32_389 : BitVec 32 := 2#32
  let v585 : BitVec 32 := Scalar.addi v584 c2_i32_389
  let c8_i32_390 : BitVec 32 := 8#32
  let c0_i32_391 : BitVec 32 := 0#32
  let v586 : BitVec 1 := Scalar.cmpi .eq c8_i32_390 c0_i32_391
  let c1_i32_392 : BitVec 32 := 1#32
  let v587 : BitVec 32 := Scalar.select v586 c1_i32_392 c8_i32_390
  let v588 : BitVec 32 := Scalar.remsi v585 v587
  let c0_i32_394 : BitVec 32 := 0#32
  let v590 : BitVec 1 := Scalar.cmpi .slt v588 c0_i32_394
  let c0_i32_395 : BitVec 32 := 0#32
  let v591 : BitVec 1 := Scalar.cmpi .slt v587 c0_i32_395
  let v592 : BitVec 1 := Scalar.xori v590 v591
  let c0_i32_393 : BitVec 32 := 0#32
  let v589 : BitVec 1 := Scalar.cmpi .ne v588 c0_i32_393
  let v593 : BitVec 1 := Scalar.andi v592 v589
  let v594 : BitVec 32 := Scalar.addi v588 v587
  let v595 : BitVec 32 := Scalar.select v593 v594 v588
  let c0_i32_396 : BitVec 32 := 0#32
  let v596 : BitVec 1 := Scalar.cmpi .eq v595 c0_i32_396
  let v597 : BitVec 32 := Scalar.extui v596
  let v598 : BitVec 32 := Scalar.muli c0_i32_397 v597
  let v599 : BitVec 32 := Scalar.addi c0_i32_398 v598
  let c3_i32_400 : BitVec 32 := 3#32
  let c1_i32_399 : BitVec 32 := 1#32
  let v600 : BitVec 1 := Scalar.cmpi .eq v595 c1_i32_399
  let v601 : BitVec 32 := Scalar.extui v600
  let v602 : BitVec 32 := Scalar.muli c3_i32_400 v601
  let v603 : BitVec 32 := Scalar.addi v599 v602
  let c4_i32_402 : BitVec 32 := 4#32
  let c2_i32_401 : BitVec 32 := 2#32
  let v604 : BitVec 1 := Scalar.cmpi .eq v595 c2_i32_401
  let v605 : BitVec 32 := Scalar.extui v604
  let v606 : BitVec 32 := Scalar.muli c4_i32_402 v605
  let v607 : BitVec 32 := Scalar.addi v603 v606
  let c7_i32_404 : BitVec 32 := 7#32
  let c3_i32_403 : BitVec 32 := 3#32
  let v608 : BitVec 1 := Scalar.cmpi .eq v595 c3_i32_403
  let v609 : BitVec 32 := Scalar.extui v608
  let v610 : BitVec 32 := Scalar.muli c7_i32_404 v609
  let v611 : BitVec 32 := Scalar.addi v607 v610
  let c6_i32_406 : BitVec 32 := 6#32
  let c4_i32_405 : BitVec 32 := 4#32
  let v612 : BitVec 1 := Scalar.cmpi .eq v595 c4_i32_405
  let v613 : BitVec 32 := Scalar.extui v612
  let v614 : BitVec 32 := Scalar.muli c6_i32_406 v613
  let v615 : BitVec 32 := Scalar.addi v611 v614
  let c5_i32_408 : BitVec 32 := 5#32
  let c5_i32_407 : BitVec 32 := 5#32
  let v616 : BitVec 1 := Scalar.cmpi .eq v595 c5_i32_407
  let v617 : BitVec 32 := Scalar.extui v616
  let v618 : BitVec 32 := Scalar.muli c5_i32_408 v617
  let v619 : BitVec 32 := Scalar.addi v615 v618
  let c2_i32_410 : BitVec 32 := 2#32
  let c6_i32_409 : BitVec 32 := 6#32
  let v620 : BitVec 1 := Scalar.cmpi .eq v595 c6_i32_409
  let v621 : BitVec 32 := Scalar.extui v620
  let v622 : BitVec 32 := Scalar.muli c2_i32_410 v621
  let v623 : BitVec 32 := Scalar.addi v619 v622
  let c1_i32_412 : BitVec 32 := 1#32
  let c7_i32_411 : BitVec 32 := 7#32
  let v624 : BitVec 1 := Scalar.cmpi .eq v595 c7_i32_411
  let v625 : BitVec 32 := Scalar.extui v624
  let v626 : BitVec 32 := Scalar.muli c1_i32_412 v625
  let v627 : BitVec 32 := Scalar.addi v623 v626
  let c64_i32_449 : BitVec 32 := 64#32
  let v680 : BitVec 32 := Scalar.muli v627 c64_i32_449
  let v681 : Index := Scalar.indexCast v680
  let c0_451 : Index := 0#32
  ![0, v681.toNat, 0]
def k0_off18 (d0 : Dev nD) (c0_i32_388 : BitVec 32) : Fin 3 → Nat :=
  let c0_457 : Index := 0#32
  let c0_i32_398 : BitVec 32 := 0#32
  let c0_i32_397 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v584 : BitVec 32 := Scalar.addi v61 c0_i32_388
  let c2_i32_389 : BitVec 32 := 2#32
  let v585 : BitVec 32 := Scalar.addi v584 c2_i32_389
  let c8_i32_390 : BitVec 32 := 8#32
  let c0_i32_391 : BitVec 32 := 0#32
  let v586 : BitVec 1 := Scalar.cmpi .eq c8_i32_390 c0_i32_391
  let c1_i32_392 : BitVec 32 := 1#32
  let v587 : BitVec 32 := Scalar.select v586 c1_i32_392 c8_i32_390
  let v588 : BitVec 32 := Scalar.remsi v585 v587
  let c0_i32_394 : BitVec 32 := 0#32
  let v590 : BitVec 1 := Scalar.cmpi .slt v588 c0_i32_394
  let c0_i32_395 : BitVec 32 := 0#32
  let v591 : BitVec 1 := Scalar.cmpi .slt v587 c0_i32_395
  let v592 : BitVec 1 := Scalar.xori v590 v591
  let c0_i32_393 : BitVec 32 := 0#32
  let v589 : BitVec 1 := Scalar.cmpi .ne v588 c0_i32_393
  let v593 : BitVec 1 := Scalar.andi v592 v589
  let v594 : BitVec 32 := Scalar.addi v588 v587
  let v595 : BitVec 32 := Scalar.select v593 v594 v588
  let c0_i32_396 : BitVec 32 := 0#32
  let v596 : BitVec 1 := Scalar.cmpi .eq v595 c0_i32_396
  let v597 : BitVec 32 := Scalar.extui v596
  let v598 : BitVec 32 := Scalar.muli c0_i32_397 v597
  let v599 : BitVec 32 := Scalar.addi c0_i32_398 v598
  let c3_i32_400 : BitVec 32 := 3#32
  let c1_i32_399 : BitVec 32 := 1#32
  let v600 : BitVec 1 := Scalar.cmpi .eq v595 c1_i32_399
  let v601 : BitVec 32 := Scalar.extui v600
  let v602 : BitVec 32 := Scalar.muli c3_i32_400 v601
  let v603 : BitVec 32 := Scalar.addi v599 v602
  let c4_i32_402 : BitVec 32 := 4#32
  let c2_i32_401 : BitVec 32 := 2#32
  let v604 : BitVec 1 := Scalar.cmpi .eq v595 c2_i32_401
  let v605 : BitVec 32 := Scalar.extui v604
  let v606 : BitVec 32 := Scalar.muli c4_i32_402 v605
  let v607 : BitVec 32 := Scalar.addi v603 v606
  let c7_i32_404 : BitVec 32 := 7#32
  let c3_i32_403 : BitVec 32 := 3#32
  let v608 : BitVec 1 := Scalar.cmpi .eq v595 c3_i32_403
  let v609 : BitVec 32 := Scalar.extui v608
  let v610 : BitVec 32 := Scalar.muli c7_i32_404 v609
  let v611 : BitVec 32 := Scalar.addi v607 v610
  let c6_i32_406 : BitVec 32 := 6#32
  let c4_i32_405 : BitVec 32 := 4#32
  let v612 : BitVec 1 := Scalar.cmpi .eq v595 c4_i32_405
  let v613 : BitVec 32 := Scalar.extui v612
  let v614 : BitVec 32 := Scalar.muli c6_i32_406 v613
  let v615 : BitVec 32 := Scalar.addi v611 v614
  let c5_i32_408 : BitVec 32 := 5#32
  let c5_i32_407 : BitVec 32 := 5#32
  let v616 : BitVec 1 := Scalar.cmpi .eq v595 c5_i32_407
  let v617 : BitVec 32 := Scalar.extui v616
  let v618 : BitVec 32 := Scalar.muli c5_i32_408 v617
  let v619 : BitVec 32 := Scalar.addi v615 v618
  let c2_i32_410 : BitVec 32 := 2#32
  let c6_i32_409 : BitVec 32 := 6#32
  let v620 : BitVec 1 := Scalar.cmpi .eq v595 c6_i32_409
  let v621 : BitVec 32 := Scalar.extui v620
  let v622 : BitVec 32 := Scalar.muli c2_i32_410 v621
  let v623 : BitVec 32 := Scalar.addi v619 v622
  let c1_i32_412 : BitVec 32 := 1#32
  let c7_i32_411 : BitVec 32 := 7#32
  let v624 : BitVec 1 := Scalar.cmpi .eq v595 c7_i32_411
  let v625 : BitVec 32 := Scalar.extui v624
  let v626 : BitVec 32 := Scalar.muli c1_i32_412 v625
  let v627 : BitVec 32 := Scalar.addi v623 v626
  let c64_i32_456 : BitVec 32 := 64#32
  let v691 : BitVec 32 := Scalar.muli v627 c64_i32_456
  let v692 : Index := Scalar.indexCast v691
  let c1_458 : Index := 1#32
  ![0, v692.toNat, 1]
def k0_off19 (d0 : Dev nD) (c0_i32_388 : BitVec 32) : Fin 3 → Nat :=
  let c0_464 : Index := 0#32
  let c0_i32_398 : BitVec 32 := 0#32
  let c0_i32_397 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v584 : BitVec 32 := Scalar.addi v61 c0_i32_388
  let c2_i32_389 : BitVec 32 := 2#32
  let v585 : BitVec 32 := Scalar.addi v584 c2_i32_389
  let c8_i32_390 : BitVec 32 := 8#32
  let c0_i32_391 : BitVec 32 := 0#32
  let v586 : BitVec 1 := Scalar.cmpi .eq c8_i32_390 c0_i32_391
  let c1_i32_392 : BitVec 32 := 1#32
  let v587 : BitVec 32 := Scalar.select v586 c1_i32_392 c8_i32_390
  let v588 : BitVec 32 := Scalar.remsi v585 v587
  let c0_i32_394 : BitVec 32 := 0#32
  let v590 : BitVec 1 := Scalar.cmpi .slt v588 c0_i32_394
  let c0_i32_395 : BitVec 32 := 0#32
  let v591 : BitVec 1 := Scalar.cmpi .slt v587 c0_i32_395
  let v592 : BitVec 1 := Scalar.xori v590 v591
  let c0_i32_393 : BitVec 32 := 0#32
  let v589 : BitVec 1 := Scalar.cmpi .ne v588 c0_i32_393
  let v593 : BitVec 1 := Scalar.andi v592 v589
  let v594 : BitVec 32 := Scalar.addi v588 v587
  let v595 : BitVec 32 := Scalar.select v593 v594 v588
  let c0_i32_396 : BitVec 32 := 0#32
  let v596 : BitVec 1 := Scalar.cmpi .eq v595 c0_i32_396
  let v597 : BitVec 32 := Scalar.extui v596
  let v598 : BitVec 32 := Scalar.muli c0_i32_397 v597
  let v599 : BitVec 32 := Scalar.addi c0_i32_398 v598
  let c3_i32_400 : BitVec 32 := 3#32
  let c1_i32_399 : BitVec 32 := 1#32
  let v600 : BitVec 1 := Scalar.cmpi .eq v595 c1_i32_399
  let v601 : BitVec 32 := Scalar.extui v600
  let v602 : BitVec 32 := Scalar.muli c3_i32_400 v601
  let v603 : BitVec 32 := Scalar.addi v599 v602
  let c4_i32_402 : BitVec 32 := 4#32
  let c2_i32_401 : BitVec 32 := 2#32
  let v604 : BitVec 1 := Scalar.cmpi .eq v595 c2_i32_401
  let v605 : BitVec 32 := Scalar.extui v604
  let v606 : BitVec 32 := Scalar.muli c4_i32_402 v605
  let v607 : BitVec 32 := Scalar.addi v603 v606
  let c7_i32_404 : BitVec 32 := 7#32
  let c3_i32_403 : BitVec 32 := 3#32
  let v608 : BitVec 1 := Scalar.cmpi .eq v595 c3_i32_403
  let v609 : BitVec 32 := Scalar.extui v608
  let v610 : BitVec 32 := Scalar.muli c7_i32_404 v609
  let v611 : BitVec 32 := Scalar.addi v607 v610
  let c6_i32_406 : BitVec 32 := 6#32
  let c4_i32_405 : BitVec 32 := 4#32
  let v612 : BitVec 1 := Scalar.cmpi .eq v595 c4_i32_405
  let v613 : BitVec 32 := Scalar.extui v612
  let v614 : BitVec 32 := Scalar.muli c6_i32_406 v613
  let v615 : BitVec 32 := Scalar.addi v611 v614
  let c5_i32_408 : BitVec 32 := 5#32
  let c5_i32_407 : BitVec 32 := 5#32
  let v616 : BitVec 1 := Scalar.cmpi .eq v595 c5_i32_407
  let v617 : BitVec 32 := Scalar.extui v616
  let v618 : BitVec 32 := Scalar.muli c5_i32_408 v617
  let v619 : BitVec 32 := Scalar.addi v615 v618
  let c2_i32_410 : BitVec 32 := 2#32
  let c6_i32_409 : BitVec 32 := 6#32
  let v620 : BitVec 1 := Scalar.cmpi .eq v595 c6_i32_409
  let v621 : BitVec 32 := Scalar.extui v620
  let v622 : BitVec 32 := Scalar.muli c2_i32_410 v621
  let v623 : BitVec 32 := Scalar.addi v619 v622
  let c1_i32_412 : BitVec 32 := 1#32
  let c7_i32_411 : BitVec 32 := 7#32
  let v624 : BitVec 1 := Scalar.cmpi .eq v595 c7_i32_411
  let v625 : BitVec 32 := Scalar.extui v624
  let v626 : BitVec 32 := Scalar.muli c1_i32_412 v625
  let v627 : BitVec 32 := Scalar.addi v623 v626
  let c64_i32_463 : BitVec 32 := 64#32
  let v702 : BitVec 32 := Scalar.muli v627 c64_i32_463
  let v703 : Index := Scalar.indexCast v702
  let c2_465 : Index := 2#32
  ![0, v703.toNat, 2]
def k0_off20 (d0 : Dev nD) (c0_i32_388 : BitVec 32) : Fin 3 → Nat :=
  let c0_471 : Index := 0#32
  let c0_i32_398 : BitVec 32 := 0#32
  let c0_i32_397 : BitVec 32 := 0#32
  let c0_i32_13 : BitVec 32 := 0#32
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let v584 : BitVec 32 := Scalar.addi v61 c0_i32_388
  let c2_i32_389 : BitVec 32 := 2#32
  let v585 : BitVec 32 := Scalar.addi v584 c2_i32_389
  let c8_i32_390 : BitVec 32 := 8#32
  let c0_i32_391 : BitVec 32 := 0#32
  let v586 : BitVec 1 := Scalar.cmpi .eq c8_i32_390 c0_i32_391
  let c1_i32_392 : BitVec 32 := 1#32
  let v587 : BitVec 32 := Scalar.select v586 c1_i32_392 c8_i32_390
  let v588 : BitVec 32 := Scalar.remsi v585 v587
  let c0_i32_394 : BitVec 32 := 0#32
  let v590 : BitVec 1 := Scalar.cmpi .slt v588 c0_i32_394
  let c0_i32_395 : BitVec 32 := 0#32
  let v591 : BitVec 1 := Scalar.cmpi .slt v587 c0_i32_395
  let v592 : BitVec 1 := Scalar.xori v590 v591
  let c0_i32_393 : BitVec 32 := 0#32
  let v589 : BitVec 1 := Scalar.cmpi .ne v588 c0_i32_393
  let v593 : BitVec 1 := Scalar.andi v592 v589
  let v594 : BitVec 32 := Scalar.addi v588 v587
  let v595 : BitVec 32 := Scalar.select v593 v594 v588
  let c0_i32_396 : BitVec 32 := 0#32
  let v596 : BitVec 1 := Scalar.cmpi .eq v595 c0_i32_396
  let v597 : BitVec 32 := Scalar.extui v596
  let v598 : BitVec 32 := Scalar.muli c0_i32_397 v597
  let v599 : BitVec 32 := Scalar.addi c0_i32_398 v598
  let c3_i32_400 : BitVec 32 := 3#32
  let c1_i32_399 : BitVec 32 := 1#32
  let v600 : BitVec 1 := Scalar.cmpi .eq v595 c1_i32_399
  let v601 : BitVec 32 := Scalar.extui v600
  let v602 : BitVec 32 := Scalar.muli c3_i32_400 v601
  let v603 : BitVec 32 := Scalar.addi v599 v602
  let c4_i32_402 : BitVec 32 := 4#32
  let c2_i32_401 : BitVec 32 := 2#32
  let v604 : BitVec 1 := Scalar.cmpi .eq v595 c2_i32_401
  let v605 : BitVec 32 := Scalar.extui v604
  let v606 : BitVec 32 := Scalar.muli c4_i32_402 v605
  let v607 : BitVec 32 := Scalar.addi v603 v606
  let c7_i32_404 : BitVec 32 := 7#32
  let c3_i32_403 : BitVec 32 := 3#32
  let v608 : BitVec 1 := Scalar.cmpi .eq v595 c3_i32_403
  let v609 : BitVec 32 := Scalar.extui v608
  let v610 : BitVec 32 := Scalar.muli c7_i32_404 v609
  let v611 : BitVec 32 := Scalar.addi v607 v610
  let c6_i32_406 : BitVec 32 := 6#32
  let c4_i32_405 : BitVec 32 := 4#32
  let v612 : BitVec 1 := Scalar.cmpi .eq v595 c4_i32_405
  let v613 : BitVec 32 := Scalar.extui v612
  let v614 : BitVec 32 := Scalar.muli c6_i32_406 v613
  let v615 : BitVec 32 := Scalar.addi v611 v614
  let c5_i32_408 : BitVec 32 := 5#32
  let c5_i32_407 : BitVec 32 := 5#32
  let v616 : BitVec 1 := Scalar.cmpi .eq v595 c5_i32_407
  let v617 : BitVec 32 := Scalar.extui v616
  let v618 : BitVec 32 := Scalar.muli c5_i32_408 v617
  let v619 : BitVec 32 := Scalar.addi v615 v618
  let c2_i32_410 : BitVec 32 := 2#32
  let c6_i32_409 : BitVec 32 := 6#32
  let v620 : BitVec 1 := Scalar.cmpi .eq v595 c6_i32_409
  let v621 : BitVec 32 := Scalar.extui v620
  let v622 : BitVec 32 := Scalar.muli c2_i32_410 v621
  let v623 : BitVec 32 := Scalar.addi v619 v622
  let c1_i32_412 : BitVec 32 := 1#32
  let c7_i32_411 : BitVec 32 := 7#32
  let v624 : BitVec 1 := Scalar.cmpi .eq v595 c7_i32_411
  let v625 : BitVec 32 := Scalar.extui v624
  let v626 : BitVec 32 := Scalar.muli c1_i32_412 v625
  let v627 : BitVec 32 := Scalar.addi v623 v626
  let c64_i32_470 : BitVec 32 := 64#32
  let v713 : BitVec 32 := Scalar.muli v627 c64_i32_470
  let v714 : Index := Scalar.indexCast v713
  let c3_472 : Index := 3#32
  ![0, v714.toNat, 3]
def k0_dev14 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_555 : BitVec 32 := 1#32
  let v770 : BitVec 32 := Scalar.muli v106 c1_i32_555
  let v771 : BitVec 32 := Scalar.addi c0_i32_556 v770
  v771.toNat
def k0_dev15 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_569 : BitVec 32 := 1#32
  let v780 : BitVec 32 := Scalar.muli v152 c1_i32_569
  let v781 : BitVec 32 := Scalar.addi c0_i32_570 v780
  v781.toNat
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_653 : BitVec 32 := 1#32
  let v836 : BitVec 32 := Scalar.muli v106 c1_i32_653
  let v837 : BitVec 32 := Scalar.addi c0_i32_654 v836
  v837.toNat
def k0_dev17 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_667 : BitVec 32 := 1#32
  let v846 : BitVec 32 := Scalar.muli v152 c1_i32_667
  let v847 : BitVec 32 := Scalar.addi c0_i32_668 v846
  v847.toNat
def k0_dev18 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_751 : BitVec 32 := 1#32
  let v902 : BitVec 32 := Scalar.muli v106 c1_i32_751
  let v903 : BitVec 32 := Scalar.addi c0_i32_752 v902
  v903.toNat
def k0_dev19 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_765 : BitVec 32 := 1#32
  let v912 : BitVec 32 := Scalar.muli v152 c1_i32_765
  let v913 : BitVec 32 := Scalar.addi c0_i32_766 v912
  v913.toNat
def k0_dev20 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_849 : BitVec 32 := 1#32
  let v968 : BitVec 32 := Scalar.muli v106 c1_i32_849
  let v969 : BitVec 32 := Scalar.addi c0_i32_850 v968
  v969.toNat
def k0_dev21 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_863 : BitVec 32 := 1#32
  let v978 : BitVec 32 := Scalar.muli v152 c1_i32_863
  let v979 : BitVec 32 := Scalar.addi c0_i32_864 v978
  v979.toNat
def k0_dev22 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1062 : BitVec 32 := 1#32
  let v1219 : BitVec 32 := Scalar.muli v106 c1_i32_1062
  let v1220 : BitVec 32 := Scalar.addi c0_i32_1063 v1219
  v1220.toNat
def k0_dev23 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1076 : BitVec 32 := 1#32
  let v1229 : BitVec 32 := Scalar.muli v152 c1_i32_1076
  let v1230 : BitVec 32 := Scalar.addi c0_i32_1077 v1229
  v1230.toNat
def k0_dev24 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1160 : BitVec 32 := 1#32
  let v1285 : BitVec 32 := Scalar.muli v106 c1_i32_1160
  let v1286 : BitVec 32 := Scalar.addi c0_i32_1161 v1285
  v1286.toNat
def k0_dev25 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1174 : BitVec 32 := 1#32
  let v1295 : BitVec 32 := Scalar.muli v152 c1_i32_1174
  let v1296 : BitVec 32 := Scalar.addi c0_i32_1175 v1295
  v1296.toNat
def k0_dev26 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1258 : BitVec 32 := 1#32
  let v1351 : BitVec 32 := Scalar.muli v106 c1_i32_1258
  let v1352 : BitVec 32 := Scalar.addi c0_i32_1259 v1351
  v1352.toNat
def k0_dev27 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1272 : BitVec 32 := 1#32
  let v1361 : BitVec 32 := Scalar.muli v152 c1_i32_1272
  let v1362 : BitVec 32 := Scalar.addi c0_i32_1273 v1361
  v1362.toNat
def k0_dev28 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1356 : BitVec 32 := 1#32
  let v1417 : BitVec 32 := Scalar.muli v106 c1_i32_1356
  let v1418 : BitVec 32 := Scalar.addi c0_i32_1357 v1417
  v1418.toNat
def k0_dev29 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1370 : BitVec 32 := 1#32
  let v1427 : BitVec 32 := Scalar.muli v152 c1_i32_1370
  let v1428 : BitVec 32 := Scalar.addi c0_i32_1371 v1427
  v1428.toNat
def k0_dev30 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1569 : BitVec 32 := 1#32
  let v1668 : BitVec 32 := Scalar.muli v106 c1_i32_1569
  let v1669 : BitVec 32 := Scalar.addi c0_i32_1570 v1668
  v1669.toNat
def k0_dev31 (d0 : Dev nD) : Nat :=
  let c0_i32_1584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1583 : BitVec 32 := 1#32
  let v1678 : BitVec 32 := Scalar.muli v152 c1_i32_1583
  let v1679 : BitVec 32 := Scalar.addi c0_i32_1584 v1678
  v1679.toNat
def k0_dev32 (d0 : Dev nD) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1667 : BitVec 32 := 1#32
  let v1734 : BitVec 32 := Scalar.muli v106 c1_i32_1667
  let v1735 : BitVec 32 := Scalar.addi c0_i32_1668 v1734
  v1735.toNat
def k0_dev33 (d0 : Dev nD) : Nat :=
  let c0_i32_1682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1681 : BitVec 32 := 1#32
  let v1744 : BitVec 32 := Scalar.muli v152 c1_i32_1681
  let v1745 : BitVec 32 := Scalar.addi c0_i32_1682 v1744
  v1745.toNat
def k0_dev34 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1765 : BitVec 32 := 1#32
  let v1800 : BitVec 32 := Scalar.muli v106 c1_i32_1765
  let v1801 : BitVec 32 := Scalar.addi c0_i32_1766 v1800
  v1801.toNat
def k0_dev35 (d0 : Dev nD) : Nat :=
  let c0_i32_1780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1779 : BitVec 32 := 1#32
  let v1810 : BitVec 32 := Scalar.muli v152 c1_i32_1779
  let v1811 : BitVec 32 := Scalar.addi c0_i32_1780 v1810
  v1811.toNat
def k0_dev36 (d0 : Dev nD) : Nat :=
  let c0_i32_1864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_1863 : BitVec 32 := 1#32
  let v1866 : BitVec 32 := Scalar.muli v106 c1_i32_1863
  let v1867 : BitVec 32 := Scalar.addi c0_i32_1864 v1866
  v1867.toNat
def k0_dev37 (d0 : Dev nD) : Nat :=
  let c0_i32_1878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_1877 : BitVec 32 := 1#32
  let v1876 : BitVec 32 := Scalar.muli v152 c1_i32_1877
  let v1877 : BitVec 32 := Scalar.addi c0_i32_1878 v1876
  v1877.toNat
def k0_dev38 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2076 : BitVec 32 := 1#32
  let v2117 : BitVec 32 := Scalar.muli v106 c1_i32_2076
  let v2118 : BitVec 32 := Scalar.addi c0_i32_2077 v2117
  v2118.toNat
def k0_dev39 (d0 : Dev nD) : Nat :=
  let c0_i32_2091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2090 : BitVec 32 := 1#32
  let v2127 : BitVec 32 := Scalar.muli v152 c1_i32_2090
  let v2128 : BitVec 32 := Scalar.addi c0_i32_2091 v2127
  v2128.toNat
def k0_dev40 (d0 : Dev nD) : Nat :=
  let c0_i32_2175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2174 : BitVec 32 := 1#32
  let v2183 : BitVec 32 := Scalar.muli v106 c1_i32_2174
  let v2184 : BitVec 32 := Scalar.addi c0_i32_2175 v2183
  v2184.toNat
def k0_dev41 (d0 : Dev nD) : Nat :=
  let c0_i32_2189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2188 : BitVec 32 := 1#32
  let v2193 : BitVec 32 := Scalar.muli v152 c1_i32_2188
  let v2194 : BitVec 32 := Scalar.addi c0_i32_2189 v2193
  v2194.toNat
def k0_dev42 (d0 : Dev nD) : Nat :=
  let c0_i32_2273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2272 : BitVec 32 := 1#32
  let v2249 : BitVec 32 := Scalar.muli v106 c1_i32_2272
  let v2250 : BitVec 32 := Scalar.addi c0_i32_2273 v2249
  v2250.toNat
def k0_dev43 (d0 : Dev nD) : Nat :=
  let c0_i32_2287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2286 : BitVec 32 := 1#32
  let v2259 : BitVec 32 := Scalar.muli v152 c1_i32_2286
  let v2260 : BitVec 32 := Scalar.addi c0_i32_2287 v2259
  v2260.toNat
def k0_dev44 (d0 : Dev nD) : Nat :=
  let c0_i32_2371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2370 : BitVec 32 := 1#32
  let v2315 : BitVec 32 := Scalar.muli v106 c1_i32_2370
  let v2316 : BitVec 32 := Scalar.addi c0_i32_2371 v2315
  v2316.toNat
def k0_dev45 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2384 : BitVec 32 := 1#32
  let v2325 : BitVec 32 := Scalar.muli v152 c1_i32_2384
  let v2326 : BitVec 32 := Scalar.addi c0_i32_2385 v2325
  v2326.toNat
def k0_dev46 (d0 : Dev nD) : Nat :=
  let c0_i32_2583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2582 : BitVec 32 := 1#32
  let v2566 : BitVec 32 := Scalar.muli v106 c1_i32_2582
  let v2567 : BitVec 32 := Scalar.addi c0_i32_2583 v2566
  v2567.toNat
def k0_dev47 (d0 : Dev nD) : Nat :=
  let c0_i32_2597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2596 : BitVec 32 := 1#32
  let v2576 : BitVec 32 := Scalar.muli v152 c1_i32_2596
  let v2577 : BitVec 32 := Scalar.addi c0_i32_2597 v2576
  v2577.toNat
def k0_dev48 (d0 : Dev nD) : Nat :=
  let c0_i32_2681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2680 : BitVec 32 := 1#32
  let v2632 : BitVec 32 := Scalar.muli v106 c1_i32_2680
  let v2633 : BitVec 32 := Scalar.addi c0_i32_2681 v2632
  v2633.toNat
def k0_dev49 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2694 : BitVec 32 := 1#32
  let v2642 : BitVec 32 := Scalar.muli v152 c1_i32_2694
  let v2643 : BitVec 32 := Scalar.addi c0_i32_2695 v2642
  v2643.toNat
def k0_dev50 (d0 : Dev nD) : Nat :=
  let c0_i32_2779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2778 : BitVec 32 := 1#32
  let v2698 : BitVec 32 := Scalar.muli v106 c1_i32_2778
  let v2699 : BitVec 32 := Scalar.addi c0_i32_2779 v2698
  v2699.toNat
def k0_dev51 (d0 : Dev nD) : Nat :=
  let c0_i32_2793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2792 : BitVec 32 := 1#32
  let v2708 : BitVec 32 := Scalar.muli v152 c1_i32_2792
  let v2709 : BitVec 32 := Scalar.addi c0_i32_2793 v2708
  v2709.toNat
def k0_dev52 (d0 : Dev nD) : Nat :=
  let c0_i32_2877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_2876 : BitVec 32 := 1#32
  let v2764 : BitVec 32 := Scalar.muli v106 c1_i32_2876
  let v2765 : BitVec 32 := Scalar.addi c0_i32_2877 v2764
  v2765.toNat
def k0_dev53 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_2890 : BitVec 32 := 1#32
  let v2774 : BitVec 32 := Scalar.muli v152 c1_i32_2890
  let v2775 : BitVec 32 := Scalar.addi c0_i32_2891 v2774
  v2775.toNat
def k0_dev54 (d0 : Dev nD) : Nat :=
  let c0_i32_3089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_3088 : BitVec 32 := 1#32
  let v3015 : BitVec 32 := Scalar.muli v106 c1_i32_3088
  let v3016 : BitVec 32 := Scalar.addi c0_i32_3089 v3015
  v3016.toNat
def k0_dev55 (d0 : Dev nD) : Nat :=
  let c0_i32_3103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_3102 : BitVec 32 := 1#32
  let v3025 : BitVec 32 := Scalar.muli v152 c1_i32_3102
  let v3026 : BitVec 32 := Scalar.addi c0_i32_3103 v3025
  v3026.toNat
def k0_dev56 (d0 : Dev nD) : Nat :=
  let c0_i32_3187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_3186 : BitVec 32 := 1#32
  let v3081 : BitVec 32 := Scalar.muli v106 c1_i32_3186
  let v3082 : BitVec 32 := Scalar.addi c0_i32_3187 v3081
  v3082.toNat
def k0_dev57 (d0 : Dev nD) : Nat :=
  let c0_i32_3201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_3200 : BitVec 32 := 1#32
  let v3091 : BitVec 32 := Scalar.muli v152 c1_i32_3200
  let v3092 : BitVec 32 := Scalar.addi c0_i32_3201 v3091
  v3092.toNat
def k0_dev58 (d0 : Dev nD) : Nat :=
  let c0_i32_3285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_3284 : BitVec 32 := 1#32
  let v3147 : BitVec 32 := Scalar.muli v106 c1_i32_3284
  let v3148 : BitVec 32 := Scalar.addi c0_i32_3285 v3147
  v3148.toNat
def k0_dev59 (d0 : Dev nD) : Nat :=
  let c0_i32_3299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_3298 : BitVec 32 := 1#32
  let v3157 : BitVec 32 := Scalar.muli v152 c1_i32_3298
  let v3158 : BitVec 32 := Scalar.addi c0_i32_3299 v3157
  v3158.toNat
def k0_dev60 (d0 : Dev nD) : Nat :=
  let c0_i32_3383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v62 : BitVec 32 := Scalar.muli v19 c8_i32_22
  let c0_i32_32 : BitVec 32 := 0#32
  let c0_i32_31 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_23 : BitVec 32 := 1#32
  let v63 : BitVec 32 := Scalar.addi v61 c1_i32_23
  let c8_i32_24 : BitVec 32 := 8#32
  let c0_i32_25 : BitVec 32 := 0#32
  let v64 : BitVec 1 := Scalar.cmpi .eq c8_i32_24 c0_i32_25
  let c1_i32_26 : BitVec 32 := 1#32
  let v65 : BitVec 32 := Scalar.select v64 c1_i32_26 c8_i32_24
  let v66 : BitVec 32 := Scalar.remsi v63 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let c0_i32_30 : BitVec 32 := 0#32
  let v74 : BitVec 1 := Scalar.cmpi .eq v73 c0_i32_30
  let v75 : BitVec 32 := Scalar.extui v74
  let v76 : BitVec 32 := Scalar.muli c0_i32_31 v75
  let v77 : BitVec 32 := Scalar.addi c0_i32_32 v76
  let c3_i32_34 : BitVec 32 := 3#32
  let c1_i32_33 : BitVec 32 := 1#32
  let v78 : BitVec 1 := Scalar.cmpi .eq v73 c1_i32_33
  let v79 : BitVec 32 := Scalar.extui v78
  let v80 : BitVec 32 := Scalar.muli c3_i32_34 v79
  let v81 : BitVec 32 := Scalar.addi v77 v80
  let c4_i32_36 : BitVec 32 := 4#32
  let c2_i32_35 : BitVec 32 := 2#32
  let v82 : BitVec 1 := Scalar.cmpi .eq v73 c2_i32_35
  let v83 : BitVec 32 := Scalar.extui v82
  let v84 : BitVec 32 := Scalar.muli c4_i32_36 v83
  let v85 : BitVec 32 := Scalar.addi v81 v84
  let c7_i32_38 : BitVec 32 := 7#32
  let c3_i32_37 : BitVec 32 := 3#32
  let v86 : BitVec 1 := Scalar.cmpi .eq v73 c3_i32_37
  let v87 : BitVec 32 := Scalar.extui v86
  let v88 : BitVec 32 := Scalar.muli c7_i32_38 v87
  let v89 : BitVec 32 := Scalar.addi v85 v88
  let c6_i32_40 : BitVec 32 := 6#32
  let c4_i32_39 : BitVec 32 := 4#32
  let v90 : BitVec 1 := Scalar.cmpi .eq v73 c4_i32_39
  let v91 : BitVec 32 := Scalar.extui v90
  let v92 : BitVec 32 := Scalar.muli c6_i32_40 v91
  let v93 : BitVec 32 := Scalar.addi v89 v92
  let c5_i32_42 : BitVec 32 := 5#32
  let c5_i32_41 : BitVec 32 := 5#32
  let v94 : BitVec 1 := Scalar.cmpi .eq v73 c5_i32_41
  let v95 : BitVec 32 := Scalar.extui v94
  let v96 : BitVec 32 := Scalar.muli c5_i32_42 v95
  let v97 : BitVec 32 := Scalar.addi v93 v96
  let c2_i32_44 : BitVec 32 := 2#32
  let c6_i32_43 : BitVec 32 := 6#32
  let v98 : BitVec 1 := Scalar.cmpi .eq v73 c6_i32_43
  let v99 : BitVec 32 := Scalar.extui v98
  let v100 : BitVec 32 := Scalar.muli c2_i32_44 v99
  let v101 : BitVec 32 := Scalar.addi v97 v100
  let c1_i32_46 : BitVec 32 := 1#32
  let c7_i32_45 : BitVec 32 := 7#32
  let v102 : BitVec 1 := Scalar.cmpi .eq v73 c7_i32_45
  let v103 : BitVec 32 := Scalar.extui v102
  let v104 : BitVec 32 := Scalar.muli c1_i32_46 v103
  let v105 : BitVec 32 := Scalar.addi v101 v104
  let v106 : BitVec 32 := Scalar.addi v62 v105
  let c1_i32_3382 : BitVec 32 := 1#32
  let v3213 : BitVec 32 := Scalar.muli v106 c1_i32_3382
  let v3214 : BitVec 32 := Scalar.addi c0_i32_3383 v3213
  v3214.toNat
def k0_dev61 (d0 : Dev nD) : Nat :=
  let c0_i32_3397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v107 : BitVec 32 := Scalar.muli v19 c8_i32_47
  let c0_i32_58 : BitVec 32 := 0#32
  let c0_i32_57 : BitVec 32 := 0#32
  let c0_i32_13 : BitVec 32 := 0#32
  let c0_i32_12 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v31 : BitVec 32 := Scalar.extui v30
  let v32 : BitVec 32 := Scalar.muli c0_i32_12 v31
  let v33 : BitVec 32 := Scalar.addi c0_i32_13 v32
  let c7_i32 : BitVec 32 := 7#32
  let c1_i32_14 : BitVec 32 := 1#32
  let v34 : BitVec 1 := Scalar.cmpi .eq v29 c1_i32_14
  let v35 : BitVec 32 := Scalar.extui v34
  let v36 : BitVec 32 := Scalar.muli c7_i32 v35
  let v37 : BitVec 32 := Scalar.addi v33 v36
  let c6_i32 : BitVec 32 := 6#32
  let c2_i32 : BitVec 32 := 2#32
  let v38 : BitVec 1 := Scalar.cmpi .eq v29 c2_i32
  let v39 : BitVec 32 := Scalar.extui v38
  let v40 : BitVec 32 := Scalar.muli c6_i32 v39
  let v41 : BitVec 32 := Scalar.addi v37 v40
  let c1_i32_15 : BitVec 32 := 1#32
  let c3_i32 : BitVec 32 := 3#32
  let v42 : BitVec 1 := Scalar.cmpi .eq v29 c3_i32
  let v43 : BitVec 32 := Scalar.extui v42
  let v44 : BitVec 32 := Scalar.muli c1_i32_15 v43
  let v45 : BitVec 32 := Scalar.addi v41 v44
  let c2_i32_16 : BitVec 32 := 2#32
  let c4_i32 : BitVec 32 := 4#32
  let v46 : BitVec 1 := Scalar.cmpi .eq v29 c4_i32
  let v47 : BitVec 32 := Scalar.extui v46
  let v48 : BitVec 32 := Scalar.muli c2_i32_16 v47
  let v49 : BitVec 32 := Scalar.addi v45 v48
  let c5_i32_17 : BitVec 32 := 5#32
  let c5_i32 : BitVec 32 := 5#32
  let v50 : BitVec 1 := Scalar.cmpi .eq v29 c5_i32
  let v51 : BitVec 32 := Scalar.extui v50
  let v52 : BitVec 32 := Scalar.muli c5_i32_17 v51
  let v53 : BitVec 32 := Scalar.addi v49 v52
  let c4_i32_19 : BitVec 32 := 4#32
  let c6_i32_18 : BitVec 32 := 6#32
  let v54 : BitVec 1 := Scalar.cmpi .eq v29 c6_i32_18
  let v55 : BitVec 32 := Scalar.extui v54
  let v56 : BitVec 32 := Scalar.muli c4_i32_19 v55
  let v57 : BitVec 32 := Scalar.addi v53 v56
  let c3_i32_21 : BitVec 32 := 3#32
  let c7_i32_20 : BitVec 32 := 7#32
  let v58 : BitVec 1 := Scalar.cmpi .eq v29 c7_i32_20
  let v59 : BitVec 32 := Scalar.extui v58
  let v60 : BitVec 32 := Scalar.muli c3_i32_21 v59
  let v61 : BitVec 32 := Scalar.addi v57 v60
  let c1_i32_48 : BitVec 32 := 1#32
  let v108 : BitVec 32 := Scalar.subi v61 c1_i32_48
  let c8_i32_49 : BitVec 32 := 8#32
  let v109 : BitVec 32 := Scalar.addi v108 c8_i32_49
  let c8_i32_50 : BitVec 32 := 8#32
  let c0_i32_51 : BitVec 32 := 0#32
  let v110 : BitVec 1 := Scalar.cmpi .eq c8_i32_50 c0_i32_51
  let c1_i32_52 : BitVec 32 := 1#32
  let v111 : BitVec 32 := Scalar.select v110 c1_i32_52 c8_i32_50
  let v112 : BitVec 32 := Scalar.remsi v109 v111
  let c0_i32_54 : BitVec 32 := 0#32
  let v114 : BitVec 1 := Scalar.cmpi .slt v112 c0_i32_54
  let c0_i32_55 : BitVec 32 := 0#32
  let v115 : BitVec 1 := Scalar.cmpi .slt v111 c0_i32_55
  let v116 : BitVec 1 := Scalar.xori v114 v115
  let c0_i32_53 : BitVec 32 := 0#32
  let v113 : BitVec 1 := Scalar.cmpi .ne v112 c0_i32_53
  let v117 : BitVec 1 := Scalar.andi v116 v113
  let v118 : BitVec 32 := Scalar.addi v112 v111
  let v119 : BitVec 32 := Scalar.select v117 v118 v112
  let c0_i32_56 : BitVec 32 := 0#32
  let v120 : BitVec 1 := Scalar.cmpi .eq v119 c0_i32_56
  let v121 : BitVec 32 := Scalar.extui v120
  let v122 : BitVec 32 := Scalar.muli c0_i32_57 v121
  let v123 : BitVec 32 := Scalar.addi c0_i32_58 v122
  let c3_i32_60 : BitVec 32 := 3#32
  let c1_i32_59 : BitVec 32 := 1#32
  let v124 : BitVec 1 := Scalar.cmpi .eq v119 c1_i32_59
  let v125 : BitVec 32 := Scalar.extui v124
  let v126 : BitVec 32 := Scalar.muli c3_i32_60 v125
  let v127 : BitVec 32 := Scalar.addi v123 v126
  let c4_i32_62 : BitVec 32 := 4#32
  let c2_i32_61 : BitVec 32 := 2#32
  let v128 : BitVec 1 := Scalar.cmpi .eq v119 c2_i32_61
  let v129 : BitVec 32 := Scalar.extui v128
  let v130 : BitVec 32 := Scalar.muli c4_i32_62 v129
  let v131 : BitVec 32 := Scalar.addi v127 v130
  let c7_i32_64 : BitVec 32 := 7#32
  let c3_i32_63 : BitVec 32 := 3#32
  let v132 : BitVec 1 := Scalar.cmpi .eq v119 c3_i32_63
  let v133 : BitVec 32 := Scalar.extui v132
  let v134 : BitVec 32 := Scalar.muli c7_i32_64 v133
  let v135 : BitVec 32 := Scalar.addi v131 v134
  let c6_i32_66 : BitVec 32 := 6#32
  let c4_i32_65 : BitVec 32 := 4#32
  let v136 : BitVec 1 := Scalar.cmpi .eq v119 c4_i32_65
  let v137 : BitVec 32 := Scalar.extui v136
  let v138 : BitVec 32 := Scalar.muli c6_i32_66 v137
  let v139 : BitVec 32 := Scalar.addi v135 v138
  let c5_i32_68 : BitVec 32 := 5#32
  let c5_i32_67 : BitVec 32 := 5#32
  let v140 : BitVec 1 := Scalar.cmpi .eq v119 c5_i32_67
  let v141 : BitVec 32 := Scalar.extui v140
  let v142 : BitVec 32 := Scalar.muli c5_i32_68 v141
  let v143 : BitVec 32 := Scalar.addi v139 v142
  let c2_i32_70 : BitVec 32 := 2#32
  let c6_i32_69 : BitVec 32 := 6#32
  let v144 : BitVec 1 := Scalar.cmpi .eq v119 c6_i32_69
  let v145 : BitVec 32 := Scalar.extui v144
  let v146 : BitVec 32 := Scalar.muli c2_i32_70 v145
  let v147 : BitVec 32 := Scalar.addi v143 v146
  let c1_i32_72 : BitVec 32 := 1#32
  let c7_i32_71 : BitVec 32 := 7#32
  let v148 : BitVec 1 := Scalar.cmpi .eq v119 c7_i32_71
  let v149 : BitVec 32 := Scalar.extui v148
  let v150 : BitVec 32 := Scalar.muli c1_i32_72 v149
  let v151 : BitVec 32 := Scalar.addi v147 v150
  let v152 : BitVec 32 := Scalar.addi v107 v151
  let c1_i32_3396 : BitVec 32 := 1#32
  let v3223 : BitVec 32 := Scalar.muli v152 c1_i32_3396
  let v3224 : BitVec 32 := Scalar.addi c0_i32_3397 v3223
  v3224.toNat
def k0_cond1 (d0 : Dev nD) : BitVec 1 :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3464 : BitVec 32 := Scalar.subi c0_i32_3582 v19
  let c4_i32_3583 : BitVec 32 := 4#32
  let v3465 : BitVec 32 := Scalar.addi v3464 c4_i32_3583
  let c4_i32_3584 : BitVec 32 := 4#32
  let c0_i32_3585 : BitVec 32 := 0#32
  let v3466 : BitVec 1 := Scalar.cmpi .eq c4_i32_3584 c0_i32_3585
  let c1_i32_3586 : BitVec 32 := 1#32
  let v3467 : BitVec 32 := Scalar.select v3466 c1_i32_3586 c4_i32_3584
  let v3468 : BitVec 32 := Scalar.remsi v3465 v3467
  let c0_i32_3588 : BitVec 32 := 0#32
  let v3470 : BitVec 1 := Scalar.cmpi .slt v3468 c0_i32_3588
  let c0_i32_3589 : BitVec 32 := 0#32
  let v3471 : BitVec 1 := Scalar.cmpi .slt v3467 c0_i32_3589
  let v3472 : BitVec 1 := Scalar.xori v3470 v3471
  let c0_i32_3587 : BitVec 32 := 0#32
  let v3469 : BitVec 1 := Scalar.cmpi .ne v3468 c0_i32_3587
  let v3473 : BitVec 1 := Scalar.andi v3472 v3469
  let v3474 : BitVec 32 := Scalar.addi v3468 v3467
  let v3475 : BitVec 32 := Scalar.select v3473 v3474 v3468
  let c0_i32_3590 : BitVec 32 := 0#32
  let v3476 : BitVec 1 := Scalar.cmpi .ne v3475 c0_i32_3590
  let v3477 : BitVec 32 := Scalar.extui v3476
  let c0_i32_3591 : BitVec 32 := 0#32
  let v3478 : BitVec 1 := Scalar.cmpi .ne v3477 c0_i32_3591
  v3478

def k0_off21 (d0 : Dev nD) : Fin 1 → Nat :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3464 : BitVec 32 := Scalar.subi c0_i32_3582 v19
  let c4_i32_3583 : BitVec 32 := 4#32
  let v3465 : BitVec 32 := Scalar.addi v3464 c4_i32_3583
  let c4_i32_3584 : BitVec 32 := 4#32
  let c0_i32_3585 : BitVec 32 := 0#32
  let v3466 : BitVec 1 := Scalar.cmpi .eq c4_i32_3584 c0_i32_3585
  let c1_i32_3586 : BitVec 32 := 1#32
  let v3467 : BitVec 32 := Scalar.select v3466 c1_i32_3586 c4_i32_3584
  let v3468 : BitVec 32 := Scalar.remsi v3465 v3467
  let c0_i32_3588 : BitVec 32 := 0#32
  let v3470 : BitVec 1 := Scalar.cmpi .slt v3468 c0_i32_3588
  let c0_i32_3589 : BitVec 32 := 0#32
  let v3471 : BitVec 1 := Scalar.cmpi .slt v3467 c0_i32_3589
  let v3472 : BitVec 1 := Scalar.xori v3470 v3471
  let c0_i32_3587 : BitVec 32 := 0#32
  let v3469 : BitVec 1 := Scalar.cmpi .ne v3468 c0_i32_3587
  let v3473 : BitVec 1 := Scalar.andi v3472 v3469
  let v3474 : BitVec 32 := Scalar.addi v3468 v3467
  let v3475 : BitVec 32 := Scalar.select v3473 v3474 v3468
  let c1_i32_3910 : BitVec 32 := 1#32
  let v3776 : BitVec 32 := Scalar.subi v3475 c1_i32_3910
  ![v3776.toNat]
def k0_off22 (d0 : Dev nD) : Fin 3 → Nat :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3464 : BitVec 32 := Scalar.subi c0_i32_3582 v19
  let c4_i32_3583 : BitVec 32 := 4#32
  let v3465 : BitVec 32 := Scalar.addi v3464 c4_i32_3583
  let c4_i32_3584 : BitVec 32 := 4#32
  let c0_i32_3585 : BitVec 32 := 0#32
  let v3466 : BitVec 1 := Scalar.cmpi .eq c4_i32_3584 c0_i32_3585
  let c1_i32_3586 : BitVec 32 := 1#32
  let v3467 : BitVec 32 := Scalar.select v3466 c1_i32_3586 c4_i32_3584
  let v3468 : BitVec 32 := Scalar.remsi v3465 v3467
  let c0_i32_3588 : BitVec 32 := 0#32
  let v3470 : BitVec 1 := Scalar.cmpi .slt v3468 c0_i32_3588
  let c0_i32_3589 : BitVec 32 := 0#32
  let v3471 : BitVec 1 := Scalar.cmpi .slt v3467 c0_i32_3589
  let v3472 : BitVec 1 := Scalar.xori v3470 v3471
  let c0_i32_3587 : BitVec 32 := 0#32
  let v3469 : BitVec 1 := Scalar.cmpi .ne v3468 c0_i32_3587
  let v3473 : BitVec 1 := Scalar.andi v3472 v3469
  let v3474 : BitVec 32 := Scalar.addi v3468 v3467
  let v3475 : BitVec 32 := Scalar.select v3473 v3474 v3468
  let c1_i32_3909 : BitVec 32 := 1#32
  let v3775 : BitVec 32 := Scalar.subi v3475 c1_i32_3909
  let c0_i32_3915 : BitVec 32 := 0#32
  let c0_i32_3916 : BitVec 32 := 0#32
  ![v3775.toNat, 0, 0]
def k0_dev62 (d0 : Dev nD) : Nat :=
  let c0_i32_3914 : BitVec 32 := 0#32
  let c0_i32_3911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3777 : BitVec 32 := Scalar.addi c0_i32_3911 v29
  let c1_i32_3913 : BitVec 32 := 1#32
  let v3778 : BitVec 32 := Scalar.muli v3777 c1_i32_3913
  let v3779 : BitVec 32 := Scalar.addi c0_i32_3914 v3778
  v3779.toNat
def k0_cond2 (d0 : Dev nD) : BitVec 1 :=
  let c1_i32_3657 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3525 : BitVec 32 := Scalar.subi c1_i32_3657 v19
  let c4_i32_3658 : BitVec 32 := 4#32
  let v3526 : BitVec 32 := Scalar.addi v3525 c4_i32_3658
  let c4_i32_3659 : BitVec 32 := 4#32
  let c0_i32_3660 : BitVec 32 := 0#32
  let v3527 : BitVec 1 := Scalar.cmpi .eq c4_i32_3659 c0_i32_3660
  let c1_i32_3661 : BitVec 32 := 1#32
  let v3528 : BitVec 32 := Scalar.select v3527 c1_i32_3661 c4_i32_3659
  let v3529 : BitVec 32 := Scalar.remsi v3526 v3528
  let c0_i32_3663 : BitVec 32 := 0#32
  let v3531 : BitVec 1 := Scalar.cmpi .slt v3529 c0_i32_3663
  let c0_i32_3664 : BitVec 32 := 0#32
  let v3532 : BitVec 1 := Scalar.cmpi .slt v3528 c0_i32_3664
  let v3533 : BitVec 1 := Scalar.xori v3531 v3532
  let c0_i32_3662 : BitVec 32 := 0#32
  let v3530 : BitVec 1 := Scalar.cmpi .ne v3529 c0_i32_3662
  let v3534 : BitVec 1 := Scalar.andi v3533 v3530
  let v3535 : BitVec 32 := Scalar.addi v3529 v3528
  let v3536 : BitVec 32 := Scalar.select v3534 v3535 v3529
  let c0_i32_3665 : BitVec 32 := 0#32
  let v3537 : BitVec 1 := Scalar.cmpi .ne v3536 c0_i32_3665
  let v3538 : BitVec 32 := Scalar.extui v3537
  let c0_i32_3666 : BitVec 32 := 0#32
  let v3539 : BitVec 1 := Scalar.cmpi .ne v3538 c0_i32_3666
  v3539

def k0_off23 (d0 : Dev nD) : Fin 1 → Nat :=
  let c1_i32_3657 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3525 : BitVec 32 := Scalar.subi c1_i32_3657 v19
  let c4_i32_3658 : BitVec 32 := 4#32
  let v3526 : BitVec 32 := Scalar.addi v3525 c4_i32_3658
  let c4_i32_3659 : BitVec 32 := 4#32
  let c0_i32_3660 : BitVec 32 := 0#32
  let v3527 : BitVec 1 := Scalar.cmpi .eq c4_i32_3659 c0_i32_3660
  let c1_i32_3661 : BitVec 32 := 1#32
  let v3528 : BitVec 32 := Scalar.select v3527 c1_i32_3661 c4_i32_3659
  let v3529 : BitVec 32 := Scalar.remsi v3526 v3528
  let c0_i32_3663 : BitVec 32 := 0#32
  let v3531 : BitVec 1 := Scalar.cmpi .slt v3529 c0_i32_3663
  let c0_i32_3664 : BitVec 32 := 0#32
  let v3532 : BitVec 1 := Scalar.cmpi .slt v3528 c0_i32_3664
  let v3533 : BitVec 1 := Scalar.xori v3531 v3532
  let c0_i32_3662 : BitVec 32 := 0#32
  let v3530 : BitVec 1 := Scalar.cmpi .ne v3529 c0_i32_3662
  let v3534 : BitVec 1 := Scalar.andi v3533 v3530
  let v3535 : BitVec 32 := Scalar.addi v3529 v3528
  let v3536 : BitVec 32 := Scalar.select v3534 v3535 v3529
  let c1_i32_3910 : BitVec 32 := 1#32
  let v3776 : BitVec 32 := Scalar.subi v3536 c1_i32_3910
  ![v3776.toNat]
def k0_off24 (d0 : Dev nD) : Fin 3 → Nat :=
  let c1_i32_3657 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3525 : BitVec 32 := Scalar.subi c1_i32_3657 v19
  let c4_i32_3658 : BitVec 32 := 4#32
  let v3526 : BitVec 32 := Scalar.addi v3525 c4_i32_3658
  let c4_i32_3659 : BitVec 32 := 4#32
  let c0_i32_3660 : BitVec 32 := 0#32
  let v3527 : BitVec 1 := Scalar.cmpi .eq c4_i32_3659 c0_i32_3660
  let c1_i32_3661 : BitVec 32 := 1#32
  let v3528 : BitVec 32 := Scalar.select v3527 c1_i32_3661 c4_i32_3659
  let v3529 : BitVec 32 := Scalar.remsi v3526 v3528
  let c0_i32_3663 : BitVec 32 := 0#32
  let v3531 : BitVec 1 := Scalar.cmpi .slt v3529 c0_i32_3663
  let c0_i32_3664 : BitVec 32 := 0#32
  let v3532 : BitVec 1 := Scalar.cmpi .slt v3528 c0_i32_3664
  let v3533 : BitVec 1 := Scalar.xori v3531 v3532
  let c0_i32_3662 : BitVec 32 := 0#32
  let v3530 : BitVec 1 := Scalar.cmpi .ne v3529 c0_i32_3662
  let v3534 : BitVec 1 := Scalar.andi v3533 v3530
  let v3535 : BitVec 32 := Scalar.addi v3529 v3528
  let v3536 : BitVec 32 := Scalar.select v3534 v3535 v3529
  let c1_i32_3909 : BitVec 32 := 1#32
  let v3775 : BitVec 32 := Scalar.subi v3536 c1_i32_3909
  let c0_i32_3915 : BitVec 32 := 0#32
  let c0_i32_3916 : BitVec 32 := 0#32
  ![v3775.toNat, 0, 0]
def k0_dev63 (d0 : Dev nD) : Nat :=
  let c0_i32_3914 : BitVec 32 := 0#32
  let c8_i32_3911 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3777 : BitVec 32 := Scalar.addi c8_i32_3911 v29
  let c1_i32_3913 : BitVec 32 := 1#32
  let v3778 : BitVec 32 := Scalar.muli v3777 c1_i32_3913
  let v3779 : BitVec 32 := Scalar.addi c0_i32_3914 v3778
  v3779.toNat
def k0_cond3 (d0 : Dev nD) : BitVec 1 :=
  let c2_i32_3732 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3586 : BitVec 32 := Scalar.subi c2_i32_3732 v19
  let c4_i32_3733 : BitVec 32 := 4#32
  let v3587 : BitVec 32 := Scalar.addi v3586 c4_i32_3733
  let c4_i32_3734 : BitVec 32 := 4#32
  let c0_i32_3735 : BitVec 32 := 0#32
  let v3588 : BitVec 1 := Scalar.cmpi .eq c4_i32_3734 c0_i32_3735
  let c1_i32_3736 : BitVec 32 := 1#32
  let v3589 : BitVec 32 := Scalar.select v3588 c1_i32_3736 c4_i32_3734
  let v3590 : BitVec 32 := Scalar.remsi v3587 v3589
  let c0_i32_3738 : BitVec 32 := 0#32
  let v3592 : BitVec 1 := Scalar.cmpi .slt v3590 c0_i32_3738
  let c0_i32_3739 : BitVec 32 := 0#32
  let v3593 : BitVec 1 := Scalar.cmpi .slt v3589 c0_i32_3739
  let v3594 : BitVec 1 := Scalar.xori v3592 v3593
  let c0_i32_3737 : BitVec 32 := 0#32
  let v3591 : BitVec 1 := Scalar.cmpi .ne v3590 c0_i32_3737
  let v3595 : BitVec 1 := Scalar.andi v3594 v3591
  let v3596 : BitVec 32 := Scalar.addi v3590 v3589
  let v3597 : BitVec 32 := Scalar.select v3595 v3596 v3590
  let c0_i32_3740 : BitVec 32 := 0#32
  let v3598 : BitVec 1 := Scalar.cmpi .ne v3597 c0_i32_3740
  let v3599 : BitVec 32 := Scalar.extui v3598
  let c0_i32_3741 : BitVec 32 := 0#32
  let v3600 : BitVec 1 := Scalar.cmpi .ne v3599 c0_i32_3741
  v3600

def k0_off25 (d0 : Dev nD) : Fin 1 → Nat :=
  let c2_i32_3732 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3586 : BitVec 32 := Scalar.subi c2_i32_3732 v19
  let c4_i32_3733 : BitVec 32 := 4#32
  let v3587 : BitVec 32 := Scalar.addi v3586 c4_i32_3733
  let c4_i32_3734 : BitVec 32 := 4#32
  let c0_i32_3735 : BitVec 32 := 0#32
  let v3588 : BitVec 1 := Scalar.cmpi .eq c4_i32_3734 c0_i32_3735
  let c1_i32_3736 : BitVec 32 := 1#32
  let v3589 : BitVec 32 := Scalar.select v3588 c1_i32_3736 c4_i32_3734
  let v3590 : BitVec 32 := Scalar.remsi v3587 v3589
  let c0_i32_3738 : BitVec 32 := 0#32
  let v3592 : BitVec 1 := Scalar.cmpi .slt v3590 c0_i32_3738
  let c0_i32_3739 : BitVec 32 := 0#32
  let v3593 : BitVec 1 := Scalar.cmpi .slt v3589 c0_i32_3739
  let v3594 : BitVec 1 := Scalar.xori v3592 v3593
  let c0_i32_3737 : BitVec 32 := 0#32
  let v3591 : BitVec 1 := Scalar.cmpi .ne v3590 c0_i32_3737
  let v3595 : BitVec 1 := Scalar.andi v3594 v3591
  let v3596 : BitVec 32 := Scalar.addi v3590 v3589
  let v3597 : BitVec 32 := Scalar.select v3595 v3596 v3590
  let c1_i32_3910 : BitVec 32 := 1#32
  let v3776 : BitVec 32 := Scalar.subi v3597 c1_i32_3910
  ![v3776.toNat]
def k0_off26 (d0 : Dev nD) : Fin 3 → Nat :=
  let c2_i32_3732 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3586 : BitVec 32 := Scalar.subi c2_i32_3732 v19
  let c4_i32_3733 : BitVec 32 := 4#32
  let v3587 : BitVec 32 := Scalar.addi v3586 c4_i32_3733
  let c4_i32_3734 : BitVec 32 := 4#32
  let c0_i32_3735 : BitVec 32 := 0#32
  let v3588 : BitVec 1 := Scalar.cmpi .eq c4_i32_3734 c0_i32_3735
  let c1_i32_3736 : BitVec 32 := 1#32
  let v3589 : BitVec 32 := Scalar.select v3588 c1_i32_3736 c4_i32_3734
  let v3590 : BitVec 32 := Scalar.remsi v3587 v3589
  let c0_i32_3738 : BitVec 32 := 0#32
  let v3592 : BitVec 1 := Scalar.cmpi .slt v3590 c0_i32_3738
  let c0_i32_3739 : BitVec 32 := 0#32
  let v3593 : BitVec 1 := Scalar.cmpi .slt v3589 c0_i32_3739
  let v3594 : BitVec 1 := Scalar.xori v3592 v3593
  let c0_i32_3737 : BitVec 32 := 0#32
  let v3591 : BitVec 1 := Scalar.cmpi .ne v3590 c0_i32_3737
  let v3595 : BitVec 1 := Scalar.andi v3594 v3591
  let v3596 : BitVec 32 := Scalar.addi v3590 v3589
  let v3597 : BitVec 32 := Scalar.select v3595 v3596 v3590
  let c1_i32_3909 : BitVec 32 := 1#32
  let v3775 : BitVec 32 := Scalar.subi v3597 c1_i32_3909
  let c0_i32_3915 : BitVec 32 := 0#32
  let c0_i32_3916 : BitVec 32 := 0#32
  ![v3775.toNat, 0, 0]
def k0_dev64 (d0 : Dev nD) : Nat :=
  let c0_i32_3914 : BitVec 32 := 0#32
  let c16_i32_3911 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3777 : BitVec 32 := Scalar.addi c16_i32_3911 v29
  let c1_i32_3913 : BitVec 32 := 1#32
  let v3778 : BitVec 32 := Scalar.muli v3777 c1_i32_3913
  let v3779 : BitVec 32 := Scalar.addi c0_i32_3914 v3778
  v3779.toNat
def k0_cond4 (d0 : Dev nD) : BitVec 1 :=
  let c3_i32_3807 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3647 : BitVec 32 := Scalar.subi c3_i32_3807 v19
  let c4_i32_3808 : BitVec 32 := 4#32
  let v3648 : BitVec 32 := Scalar.addi v3647 c4_i32_3808
  let c4_i32_3809 : BitVec 32 := 4#32
  let c0_i32_3810 : BitVec 32 := 0#32
  let v3649 : BitVec 1 := Scalar.cmpi .eq c4_i32_3809 c0_i32_3810
  let c1_i32_3811 : BitVec 32 := 1#32
  let v3650 : BitVec 32 := Scalar.select v3649 c1_i32_3811 c4_i32_3809
  let v3651 : BitVec 32 := Scalar.remsi v3648 v3650
  let c0_i32_3813 : BitVec 32 := 0#32
  let v3653 : BitVec 1 := Scalar.cmpi .slt v3651 c0_i32_3813
  let c0_i32_3814 : BitVec 32 := 0#32
  let v3654 : BitVec 1 := Scalar.cmpi .slt v3650 c0_i32_3814
  let v3655 : BitVec 1 := Scalar.xori v3653 v3654
  let c0_i32_3812 : BitVec 32 := 0#32
  let v3652 : BitVec 1 := Scalar.cmpi .ne v3651 c0_i32_3812
  let v3656 : BitVec 1 := Scalar.andi v3655 v3652
  let v3657 : BitVec 32 := Scalar.addi v3651 v3650
  let v3658 : BitVec 32 := Scalar.select v3656 v3657 v3651
  let c0_i32_3815 : BitVec 32 := 0#32
  let v3659 : BitVec 1 := Scalar.cmpi .ne v3658 c0_i32_3815
  let v3660 : BitVec 32 := Scalar.extui v3659
  let c0_i32_3816 : BitVec 32 := 0#32
  let v3661 : BitVec 1 := Scalar.cmpi .ne v3660 c0_i32_3816
  v3661

def k0_off27 (d0 : Dev nD) : Fin 1 → Nat :=
  let c3_i32_3807 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3647 : BitVec 32 := Scalar.subi c3_i32_3807 v19
  let c4_i32_3808 : BitVec 32 := 4#32
  let v3648 : BitVec 32 := Scalar.addi v3647 c4_i32_3808
  let c4_i32_3809 : BitVec 32 := 4#32
  let c0_i32_3810 : BitVec 32 := 0#32
  let v3649 : BitVec 1 := Scalar.cmpi .eq c4_i32_3809 c0_i32_3810
  let c1_i32_3811 : BitVec 32 := 1#32
  let v3650 : BitVec 32 := Scalar.select v3649 c1_i32_3811 c4_i32_3809
  let v3651 : BitVec 32 := Scalar.remsi v3648 v3650
  let c0_i32_3813 : BitVec 32 := 0#32
  let v3653 : BitVec 1 := Scalar.cmpi .slt v3651 c0_i32_3813
  let c0_i32_3814 : BitVec 32 := 0#32
  let v3654 : BitVec 1 := Scalar.cmpi .slt v3650 c0_i32_3814
  let v3655 : BitVec 1 := Scalar.xori v3653 v3654
  let c0_i32_3812 : BitVec 32 := 0#32
  let v3652 : BitVec 1 := Scalar.cmpi .ne v3651 c0_i32_3812
  let v3656 : BitVec 1 := Scalar.andi v3655 v3652
  let v3657 : BitVec 32 := Scalar.addi v3651 v3650
  let v3658 : BitVec 32 := Scalar.select v3656 v3657 v3651
  let c1_i32_3910 : BitVec 32 := 1#32
  let v3776 : BitVec 32 := Scalar.subi v3658 c1_i32_3910
  ![v3776.toNat]
def k0_off28 (d0 : Dev nD) : Fin 3 → Nat :=
  let c3_i32_3807 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3647 : BitVec 32 := Scalar.subi c3_i32_3807 v19
  let c4_i32_3808 : BitVec 32 := 4#32
  let v3648 : BitVec 32 := Scalar.addi v3647 c4_i32_3808
  let c4_i32_3809 : BitVec 32 := 4#32
  let c0_i32_3810 : BitVec 32 := 0#32
  let v3649 : BitVec 1 := Scalar.cmpi .eq c4_i32_3809 c0_i32_3810
  let c1_i32_3811 : BitVec 32 := 1#32
  let v3650 : BitVec 32 := Scalar.select v3649 c1_i32_3811 c4_i32_3809
  let v3651 : BitVec 32 := Scalar.remsi v3648 v3650
  let c0_i32_3813 : BitVec 32 := 0#32
  let v3653 : BitVec 1 := Scalar.cmpi .slt v3651 c0_i32_3813
  let c0_i32_3814 : BitVec 32 := 0#32
  let v3654 : BitVec 1 := Scalar.cmpi .slt v3650 c0_i32_3814
  let v3655 : BitVec 1 := Scalar.xori v3653 v3654
  let c0_i32_3812 : BitVec 32 := 0#32
  let v3652 : BitVec 1 := Scalar.cmpi .ne v3651 c0_i32_3812
  let v3656 : BitVec 1 := Scalar.andi v3655 v3652
  let v3657 : BitVec 32 := Scalar.addi v3651 v3650
  let v3658 : BitVec 32 := Scalar.select v3656 v3657 v3651
  let c1_i32_3909 : BitVec 32 := 1#32
  let v3775 : BitVec 32 := Scalar.subi v3658 c1_i32_3909
  let c0_i32_3914 : BitVec 32 := 0#32
  let c0_i32_3915 : BitVec 32 := 0#32
  ![v3775.toNat, 0, 0]
def k0_dev65 (d0 : Dev nD) : Nat :=
  let c0_i32_3913 : BitVec 32 := 0#32
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v3777 : BitVec 32 := Scalar.addi c24_i32 v29
  let c1_i32_3912 : BitVec 32 := 1#32
  let v3778 : BitVec 32 := Scalar.muli v3777 c1_i32_3912
  let v3779 : BitVec 32 := Scalar.addi c0_i32_3913 v3778
  v3779.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_3817 : BitVec 32 := 64#32
  let v3662 : BitVec 32 := Scalar.muli v2 c64_i32_3817
  let v3663 : Index := Scalar.indexCast v3662
  let c0_3818 : Index := 0#32
  ![v3663.toNat, 0]
def k0_cond5 (d0 : Dev nD) : BitVec 1 :=
  let c0_i32_3824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3672 : BitVec 32 := Scalar.subi c0_i32_3824 v19
  let c4_i32_3825 : BitVec 32 := 4#32
  let v3673 : BitVec 32 := Scalar.addi v3672 c4_i32_3825
  let c4_i32_3826 : BitVec 32 := 4#32
  let c0_i32_3827 : BitVec 32 := 0#32
  let v3674 : BitVec 1 := Scalar.cmpi .eq c4_i32_3826 c0_i32_3827
  let c1_i32_3828 : BitVec 32 := 1#32
  let v3675 : BitVec 32 := Scalar.select v3674 c1_i32_3828 c4_i32_3826
  let v3676 : BitVec 32 := Scalar.remsi v3673 v3675
  let c0_i32_3830 : BitVec 32 := 0#32
  let v3678 : BitVec 1 := Scalar.cmpi .slt v3676 c0_i32_3830
  let c0_i32_3831 : BitVec 32 := 0#32
  let v3679 : BitVec 1 := Scalar.cmpi .slt v3675 c0_i32_3831
  let v3680 : BitVec 1 := Scalar.xori v3678 v3679
  let c0_i32_3829 : BitVec 32 := 0#32
  let v3677 : BitVec 1 := Scalar.cmpi .ne v3676 c0_i32_3829
  let v3681 : BitVec 1 := Scalar.andi v3680 v3677
  let v3682 : BitVec 32 := Scalar.addi v3676 v3675
  let v3683 : BitVec 32 := Scalar.select v3681 v3682 v3676
  let c0_i32_3832 : BitVec 32 := 0#32
  let v3684 : BitVec 1 := Scalar.cmpi .ne v3683 c0_i32_3832
  let v3685 : BitVec 32 := Scalar.extui v3684
  let c0_i32_3833 : BitVec 32 := 0#32
  let v3686 : BitVec 1 := Scalar.cmpi .ne v3685 c0_i32_3833
  v3686

def k0_off30 (d0 : Dev nD) : Fin 3 → Nat :=
  let c0_i32_3824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3672 : BitVec 32 := Scalar.subi c0_i32_3824 v19
  let c4_i32_3825 : BitVec 32 := 4#32
  let v3673 : BitVec 32 := Scalar.addi v3672 c4_i32_3825
  let c4_i32_3826 : BitVec 32 := 4#32
  let c0_i32_3827 : BitVec 32 := 0#32
  let v3674 : BitVec 1 := Scalar.cmpi .eq c4_i32_3826 c0_i32_3827
  let c1_i32_3828 : BitVec 32 := 1#32
  let v3675 : BitVec 32 := Scalar.select v3674 c1_i32_3828 c4_i32_3826
  let v3676 : BitVec 32 := Scalar.remsi v3673 v3675
  let c0_i32_3830 : BitVec 32 := 0#32
  let v3678 : BitVec 1 := Scalar.cmpi .slt v3676 c0_i32_3830
  let c0_i32_3831 : BitVec 32 := 0#32
  let v3679 : BitVec 1 := Scalar.cmpi .slt v3675 c0_i32_3831
  let v3680 : BitVec 1 := Scalar.xori v3678 v3679
  let c0_i32_3829 : BitVec 32 := 0#32
  let v3677 : BitVec 1 := Scalar.cmpi .ne v3676 c0_i32_3829
  let v3681 : BitVec 1 := Scalar.andi v3680 v3677
  let v3682 : BitVec 32 := Scalar.addi v3676 v3675
  let v3683 : BitVec 32 := Scalar.select v3681 v3682 v3676
  let c1_i32_3909 : BitVec 32 := 1#32
  let v3775 : BitVec 32 := Scalar.subi v3683 c1_i32_3909
  let c0_i32_3916 : BitVec 32 := 0#32
  let c0_i32_3917 : BitVec 32 := 0#32
  ![v3775.toNat, 0, 0]
def k0_cond6 (d0 : Dev nD) : BitVec 1 :=
  let c1_i32_3834 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3687 : BitVec 32 := Scalar.subi c1_i32_3834 v19
  let c4_i32_3835 : BitVec 32 := 4#32
  let v3688 : BitVec 32 := Scalar.addi v3687 c4_i32_3835
  let c4_i32_3836 : BitVec 32 := 4#32
  let c0_i32_3837 : BitVec 32 := 0#32
  let v3689 : BitVec 1 := Scalar.cmpi .eq c4_i32_3836 c0_i32_3837
  let c1_i32_3838 : BitVec 32 := 1#32
  let v3690 : BitVec 32 := Scalar.select v3689 c1_i32_3838 c4_i32_3836
  let v3691 : BitVec 32 := Scalar.remsi v3688 v3690
  let c0_i32_3840 : BitVec 32 := 0#32
  let v3693 : BitVec 1 := Scalar.cmpi .slt v3691 c0_i32_3840
  let c0_i32_3841 : BitVec 32 := 0#32
  let v3694 : BitVec 1 := Scalar.cmpi .slt v3690 c0_i32_3841
  let v3695 : BitVec 1 := Scalar.xori v3693 v3694
  let c0_i32_3839 : BitVec 32 := 0#32
  let v3692 : BitVec 1 := Scalar.cmpi .ne v3691 c0_i32_3839
  let v3696 : BitVec 1 := Scalar.andi v3695 v3692
  let v3697 : BitVec 32 := Scalar.addi v3691 v3690
  let v3698 : BitVec 32 := Scalar.select v3696 v3697 v3691
  let c0_i32_3842 : BitVec 32 := 0#32
  let v3699 : BitVec 1 := Scalar.cmpi .ne v3698 c0_i32_3842
  let v3700 : BitVec 32 := Scalar.extui v3699
  let c0_i32_3843 : BitVec 32 := 0#32
  let v3701 : BitVec 1 := Scalar.cmpi .ne v3700 c0_i32_3843
  v3701

def k0_off31 (d0 : Dev nD) : Fin 3 → Nat :=
  let c1_i32_3834 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3687 : BitVec 32 := Scalar.subi c1_i32_3834 v19
  let c4_i32_3835 : BitVec 32 := 4#32
  let v3688 : BitVec 32 := Scalar.addi v3687 c4_i32_3835
  let c4_i32_3836 : BitVec 32 := 4#32
  let c0_i32_3837 : BitVec 32 := 0#32
  let v3689 : BitVec 1 := Scalar.cmpi .eq c4_i32_3836 c0_i32_3837
  let c1_i32_3838 : BitVec 32 := 1#32
  let v3690 : BitVec 32 := Scalar.select v3689 c1_i32_3838 c4_i32_3836
  let v3691 : BitVec 32 := Scalar.remsi v3688 v3690
  let c0_i32_3840 : BitVec 32 := 0#32
  let v3693 : BitVec 1 := Scalar.cmpi .slt v3691 c0_i32_3840
  let c0_i32_3841 : BitVec 32 := 0#32
  let v3694 : BitVec 1 := Scalar.cmpi .slt v3690 c0_i32_3841
  let v3695 : BitVec 1 := Scalar.xori v3693 v3694
  let c0_i32_3839 : BitVec 32 := 0#32
  let v3692 : BitVec 1 := Scalar.cmpi .ne v3691 c0_i32_3839
  let v3696 : BitVec 1 := Scalar.andi v3695 v3692
  let v3697 : BitVec 32 := Scalar.addi v3691 v3690
  let v3698 : BitVec 32 := Scalar.select v3696 v3697 v3691
  let c1_i32_3909 : BitVec 32 := 1#32
  let v3775 : BitVec 32 := Scalar.subi v3698 c1_i32_3909
  let c0_i32_3916 : BitVec 32 := 0#32
  let c0_i32_3917 : BitVec 32 := 0#32
  ![v3775.toNat, 0, 0]
def k0_cond7 (d0 : Dev nD) : BitVec 1 :=
  let c2_i32_3844 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3702 : BitVec 32 := Scalar.subi c2_i32_3844 v19
  let c4_i32_3845 : BitVec 32 := 4#32
  let v3703 : BitVec 32 := Scalar.addi v3702 c4_i32_3845
  let c4_i32_3846 : BitVec 32 := 4#32
  let c0_i32_3847 : BitVec 32 := 0#32
  let v3704 : BitVec 1 := Scalar.cmpi .eq c4_i32_3846 c0_i32_3847
  let c1_i32_3848 : BitVec 32 := 1#32
  let v3705 : BitVec 32 := Scalar.select v3704 c1_i32_3848 c4_i32_3846
  let v3706 : BitVec 32 := Scalar.remsi v3703 v3705
  let c0_i32_3850 : BitVec 32 := 0#32
  let v3708 : BitVec 1 := Scalar.cmpi .slt v3706 c0_i32_3850
  let c0_i32_3851 : BitVec 32 := 0#32
  let v3709 : BitVec 1 := Scalar.cmpi .slt v3705 c0_i32_3851
  let v3710 : BitVec 1 := Scalar.xori v3708 v3709
  let c0_i32_3849 : BitVec 32 := 0#32
  let v3707 : BitVec 1 := Scalar.cmpi .ne v3706 c0_i32_3849
  let v3711 : BitVec 1 := Scalar.andi v3710 v3707
  let v3712 : BitVec 32 := Scalar.addi v3706 v3705
  let v3713 : BitVec 32 := Scalar.select v3711 v3712 v3706
  let c0_i32_3852 : BitVec 32 := 0#32
  let v3714 : BitVec 1 := Scalar.cmpi .ne v3713 c0_i32_3852
  let v3715 : BitVec 32 := Scalar.extui v3714
  let c0_i32_3853 : BitVec 32 := 0#32
  let v3716 : BitVec 1 := Scalar.cmpi .ne v3715 c0_i32_3853
  v3716

def k0_off32 (d0 : Dev nD) : Fin 3 → Nat :=
  let c2_i32_3844 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3702 : BitVec 32 := Scalar.subi c2_i32_3844 v19
  let c4_i32_3845 : BitVec 32 := 4#32
  let v3703 : BitVec 32 := Scalar.addi v3702 c4_i32_3845
  let c4_i32_3846 : BitVec 32 := 4#32
  let c0_i32_3847 : BitVec 32 := 0#32
  let v3704 : BitVec 1 := Scalar.cmpi .eq c4_i32_3846 c0_i32_3847
  let c1_i32_3848 : BitVec 32 := 1#32
  let v3705 : BitVec 32 := Scalar.select v3704 c1_i32_3848 c4_i32_3846
  let v3706 : BitVec 32 := Scalar.remsi v3703 v3705
  let c0_i32_3850 : BitVec 32 := 0#32
  let v3708 : BitVec 1 := Scalar.cmpi .slt v3706 c0_i32_3850
  let c0_i32_3851 : BitVec 32 := 0#32
  let v3709 : BitVec 1 := Scalar.cmpi .slt v3705 c0_i32_3851
  let v3710 : BitVec 1 := Scalar.xori v3708 v3709
  let c0_i32_3849 : BitVec 32 := 0#32
  let v3707 : BitVec 1 := Scalar.cmpi .ne v3706 c0_i32_3849
  let v3711 : BitVec 1 := Scalar.andi v3710 v3707
  let v3712 : BitVec 32 := Scalar.addi v3706 v3705
  let v3713 : BitVec 32 := Scalar.select v3711 v3712 v3706
  let c1_i32_3909 : BitVec 32 := 1#32
  let v3775 : BitVec 32 := Scalar.subi v3713 c1_i32_3909
  let c0_i32_3915 : BitVec 32 := 0#32
  let c0_i32_3916 : BitVec 32 := 0#32
  ![v3775.toNat, 0, 0]
def k0_cond8 (d0 : Dev nD) : BitVec 1 :=
  let c3_i32_3854 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3717 : BitVec 32 := Scalar.subi c3_i32_3854 v19
  let c4_i32_3855 : BitVec 32 := 4#32
  let v3718 : BitVec 32 := Scalar.addi v3717 c4_i32_3855
  let c4_i32_3856 : BitVec 32 := 4#32
  let c0_i32_3857 : BitVec 32 := 0#32
  let v3719 : BitVec 1 := Scalar.cmpi .eq c4_i32_3856 c0_i32_3857
  let c1_i32_3858 : BitVec 32 := 1#32
  let v3720 : BitVec 32 := Scalar.select v3719 c1_i32_3858 c4_i32_3856
  let v3721 : BitVec 32 := Scalar.remsi v3718 v3720
  let c0_i32_3860 : BitVec 32 := 0#32
  let v3723 : BitVec 1 := Scalar.cmpi .slt v3721 c0_i32_3860
  let c0_i32_3861 : BitVec 32 := 0#32
  let v3724 : BitVec 1 := Scalar.cmpi .slt v3720 c0_i32_3861
  let v3725 : BitVec 1 := Scalar.xori v3723 v3724
  let c0_i32_3859 : BitVec 32 := 0#32
  let v3722 : BitVec 1 := Scalar.cmpi .ne v3721 c0_i32_3859
  let v3726 : BitVec 1 := Scalar.andi v3725 v3722
  let v3727 : BitVec 32 := Scalar.addi v3721 v3720
  let v3728 : BitVec 32 := Scalar.select v3726 v3727 v3721
  let c0_i32_3862 : BitVec 32 := 0#32
  let v3729 : BitVec 1 := Scalar.cmpi .ne v3728 c0_i32_3862
  let v3730 : BitVec 32 := Scalar.extui v3729
  let c0_i32_3863 : BitVec 32 := 0#32
  let v3731 : BitVec 1 := Scalar.cmpi .ne v3730 c0_i32_3863
  v3731

def k0_off33 (d0 : Dev nD) : Fin 3 → Nat :=
  let c3_i32_3854 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v3717 : BitVec 32 := Scalar.subi c3_i32_3854 v19
  let c4_i32_3855 : BitVec 32 := 4#32
  let v3718 : BitVec 32 := Scalar.addi v3717 c4_i32_3855
  let c4_i32_3856 : BitVec 32 := 4#32
  let c0_i32_3857 : BitVec 32 := 0#32
  let v3719 : BitVec 1 := Scalar.cmpi .eq c4_i32_3856 c0_i32_3857
  let c1_i32_3858 : BitVec 32 := 1#32
  let v3720 : BitVec 32 := Scalar.select v3719 c1_i32_3858 c4_i32_3856
  let v3721 : BitVec 32 := Scalar.remsi v3718 v3720
  let c0_i32_3860 : BitVec 32 := 0#32
  let v3723 : BitVec 1 := Scalar.cmpi .slt v3721 c0_i32_3860
  let c0_i32_3861 : BitVec 32 := 0#32
  let v3724 : BitVec 1 := Scalar.cmpi .slt v3720 c0_i32_3861
  let v3725 : BitVec 1 := Scalar.xori v3723 v3724
  let c0_i32_3859 : BitVec 32 := 0#32
  let v3722 : BitVec 1 := Scalar.cmpi .ne v3721 c0_i32_3859
  let v3726 : BitVec 1 := Scalar.andi v3725 v3722
  let v3727 : BitVec 32 := Scalar.addi v3721 v3720
  let v3728 : BitVec 32 := Scalar.select v3726 v3727 v3721
  let c1_i32_3909 : BitVec 32 := 1#32
  let v3775 : BitVec 32 := Scalar.subi v3728 c1_i32_3909
  let c0_i32_3914 : BitVec 32 := 0#32
  let c0_i32_3915 : BitVec 32 := 0#32
  ![v3775.toNat, 0, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_3894 : BitVec 32 := 64#32
  let v3756 : BitVec 32 := Scalar.muli v19 c64_i32_3894
  let v3757 : Index := Scalar.indexCast v3756
  let c0_3895 : Index := 0#32
  ![v3757.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S2048x128 : Shape := ⟨2, ![2048, 128]⟩
abbrev S_ : Shape := ⟨0, ![]⟩
abbrev S2048 : Shape := ⟨1, ![2048]⟩
abbrev S2048x1024 : Shape := ⟨2, ![2048, 1024]⟩
abbrev S128 : Shape := ⟨1, ![128]⟩
abbrev S1x128 : Shape := ⟨2, ![1, 128]⟩
abbrev S2048x128x1024 : Shape := ⟨3, ![2048, 128, 1024]⟩
abbrev S2048x128x1 : Shape := ⟨3, ![2048, 128, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S128x512x1024, .f32⟩
  | .hbm, ⟨4, _⟩ => ⟨S512x1024, .f32⟩
  | .hbm, ⟨5, _⟩ => ⟨S2048x128, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x128, .f32⟩
  | .hbm, ⟨16, _⟩ => ⟨S2048x128, .f32⟩
  | .hbm, ⟨17, _⟩ => ⟨S2048x1024, .f32⟩
  | .hbm, ⟨18, _⟩ => ⟨S128, .i32⟩
  | .hbm, ⟨19, _⟩ => ⟨S1x128, .i32⟩
  | .hbm, ⟨20, _⟩ => ⟨S2048x128, .i32⟩
  | .hbm, ⟨21, _⟩ => ⟨S2048x128, .i32⟩
  | .hbm, ⟨22, _⟩ => ⟨S2048x128, .i1⟩
  | .hbm, ⟨23, _⟩ => ⟨S2048x128, .f32⟩
  | .hbm, ⟨24, _⟩ => ⟨S2048x128x1024, .f32⟩
  | .hbm, ⟨25, _⟩ => ⟨S2048x128, .f32⟩
  | .hbm, ⟨26, _⟩ => ⟨S2048x128x1, .f32⟩
  | .hbm, ⟨27, _⟩ => ⟨S2048x128x1024, .f32⟩
  | .hbm, ⟨28, _⟩ => ⟨S2048x128x1024, .f32⟩
  | .hbm, ⟨29, _⟩ => ⟨S_, .f32⟩
  | .hbm, ⟨30, _⟩ => ⟨S2048x1024, .f32⟩
  | .hbm, ⟨31, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Norm.lean ====
/-
# The kernel's body, written once more as loops

The printed body of the kernel is one straight line of some five hundred memory operations. This module writes
the same sequence of operations as a short program: a partial product is `partP`, a ring copy `sndP`, the two
waits of a direction `waitsP`, one accumulation `accP`, a ring step `stepP`, and the tail of the last step
`finP`/`sendZ`. `Norm/Eq.lean` proves that the printed body is this program, operation by operation; everything
else about the run is then proved of the short program, for a symbolic step and a symbolic row block.

A direction is a Boolean: `false` is the right ring (columns 0–511), `true` the left one (columns 512–1023).
-/
module

public import proofs.«01_k».proof.Proof.Gen.KernelIdeal
public import proofs.«01_k».proof.Proof.Gen.KernelIdeal.Skeleton

@[expose] public section

set_option maxRecDepth 16384

noncomputable section

namespace Cert.Moe

open Idealize.ShloMosaic Idealize.SL.Sem
open Cert.KernelIdeal Cert.KernelIdeal.Gen

variable {F : FTy → Type} [FloatOps F]

/-- The programs of one TensorCore's kernel body. -/
abbrev PR (F : FTy → Type) [FloatOps F] (α : Type) : Type 1 := Prog (TpuEff nD τ sig (Elt F) Λ₀ .tc) α

/-! ## The buffers -/

/-- The accumulator a direction sends from. -/
abbrev accM (d : Bool) : Memref sig .tc .vmem S2x4x64x512 .bf16 := bif d then Memref.whole cc0_scratch4 else Memref.whole cc0_scratch3
/-- The buffer a direction receives into. -/
abbrev rcvM (d : Bool) : Memref sig .tc .vmem S7x4x64x512 .bf16 := bif d then Memref.whole cc0_scratch6 else Memref.whole cc0_scratch5
theorem accM_whole : ∀ d : Bool, (accM d).IsWhole
  | true => Memref.isWhole_whole _
  | false => Memref.isWhole_whole _
theorem rcvM_whole : ∀ d : Bool, (rcvM d).IsWhole
  | true => Memref.isWhole_whole _
  | false => Memref.isWhole_whole _
/-- The send semaphores of a direction. -/
abbrev sndS (d : Bool) : DmaSems sig S7x4 := bif d then cc0_scratch11 else cc0_scratch9
/-- The receive semaphores of a direction. -/
abbrev rcvS (d : Bool) : DmaSems sig S7x4 := bif d then cc0_scratch12 else cc0_scratch10
abbrev xbM : Memref sig .tc .vmem S4x512x512 .bf16 := Memref.whole cc0_scratch0
abbrev gtM : Memref sig .tc .vmem S4x512x4 .bf16 := Memref.whole cc0_scratch1
abbrev shM : Memref sig .tc .vmem S64x1024 .f32 := Memref.whole cc0_scratch2
abbrev sM : Memref sig .tc .vmem S256x1024 .bf16 := Memref.whole cc0_scratch7
abbrev zM : Memref sig .tc .vmem S3x64x1024 .bf16 := Memref.whole cc0_scratch8
abbrev xM : Memref sig .tc .vmem S2048x512 .f32 := Memref.whole cc0_stg0_0
abbrev rwM : Memref sig .tc .vmem S512x128 .f32 := Memref.whole cc0_stg1_0
abbrev rtM : Memref sig .tc .vmem S2048x1 .i32 := Memref.whole cc0_stg2_0
abbrev ewM : Memref sig .tc .vmem S4x512x1024 .f32 := Memref.whole cc0_stg3_0
abbrev swM : Memref sig .tc .vmem S512x1024 .f32 := Memref.whole cc0_stg4_0
abbrev outM : Memref sig .tc .vmem S64x1024 .f32 := Memref.whole cc0_stg5_0

/-! ## The rectangles -/

theorem acc_inb : ∀ (s : Fin 7) (u : Fin 4), ∀ a, (![s.val % 2, u.val, 0, 0] : Fin 4 → Nat) a + S1x1x64x512.size a ≤ S2x4x64x512.size a := by decide
theorem rcv_inb : ∀ (s : Fin 7) (u : Fin 4), ∀ a, (![s.val, u.val, 0, 0] : Fin 4 → Nat) a + S1x1x64x512.size a ≤ S7x4x64x512.size a := by decide
theorem sem_inb : ∀ (s : Fin 7) (u : Fin 4), ∀ a, (![s.val, u.val] : Fin 2 → Nat) a + S1x1.size a ≤ S7x4.size a := by decide
theorem ew_inb : ∀ (j : Fin 4) (d : Bool), ∀ a, (![j.val, 0, bif d then 512 else 0] : Fin 3 → Nat) a + S1x512x512.size a ≤ S4x512x1024.size a := by decide
theorem s_inb : ∀ (u : Fin 4), ∀ a, (![64 * u.val, 0] : Fin 2 → Nat) a + S64x1024.size a ≤ S256x1024.size a := by decide
theorem sh_inb : ∀ (u : Fin 4) (d : Bool), ∀ a, (![64 * u.val, bif d then 512 else 0] : Fin 2 → Nat) a + S64x512.size a ≤ S256x1024.size a := by decide
theorem z_inb : ∀ (k : Fin 3), ∀ a, (![k.val, 0, 0] : Fin 3 → Nat) a + S1x64x1024.size a ≤ S3x64x1024.size a := by decide
theorem zs_inb : ∀ (u : Fin 4), ∀ a, (![u.val] : Fin 1 → Nat) a + S1.size a ≤ S4.size a := by decide
theorem zr_inb : ∀ (k : Fin 3), ∀ a, (![k.val] : Fin 1 → Nat) a + S1.size a ≤ S3.size a := by decide

/-- The accumulator slot of step `s`, row block `u`. -/
abbrev accR (s : Fin 7) (u : Fin 4) : Rect S2x4x64x512 := Rect.unit (s := S2x4x64x512) ![s.val % 2, u.val, 0, 0] S1x1x64x512.size (acc_inb s u)
/-- The receive slot of step `s`, row block `u`. -/
abbrev rcvR (s : Fin 7) (u : Fin 4) : Rect S7x4x64x512 := Rect.unit (s := S7x4x64x512) ![s.val, u.val, 0, 0] S1x1x64x512.size (rcv_inb s u)
/-- Row block `u` of the reduced rows. -/
abbrev sR (u : Fin 4) : Rect S256x1024 := Rect.unit (s := S256x1024) ![64 * u.val, 0] S64x1024.size (s_inb u)
/-- A direction's half of row block `u` of the reduced rows. -/
abbrev shR (u : Fin 4) (d : Bool) : Rect S256x1024 := Rect.unit (s := S256x1024) ![64 * u.val, bif d then 512 else 0] S64x512.size (sh_inb u d)
/-- Slot `k` of the second exchange. -/
abbrev zR (k : Fin 3) : Rect S3x64x1024 := Rect.unit (s := S3x64x1024) ![k.val, 0, 0] S1x64x1024.size (z_inb k)

theorem acc_words : ∀ (s : Fin 7) (u : Fin 4), (accR s u).WholeWords (EltTy.packing .bf16) := by decide
theorem acc_packed : ∀ (s : Fin 7) (u : Fin 4), (accR s u).PackedRows (EltTy.packing .bf16) := by decide
theorem rcv_words : ∀ (s : Fin 7) (u : Fin 4), (rcvR s u).WholeWords (EltTy.packing .bf16) := by decide
theorem s_words : ∀ (u : Fin 4), (sR u).WholeWords (EltTy.packing .bf16) := by decide
theorem sh_packed : ∀ (u : Fin 4) (d : Bool), (shR u d).PackedRows (EltTy.packing .bf16) := by decide
theorem z_words : ∀ (k : Fin 3), (zR k).WholeWords (EltTy.packing .bf16) := by decide

/-! ## The views copies and waits name, and their semaphores -/

/-- The accumulator slot of step `s` and row block `u`, as a copy reads it. -/
abbrev accV (d : Bool) (s : Fin 7) (u : Fin 4) : Memref sig .tc .vmem S64x512 .bf16 :=
  ((accM d).slice (accR s u) (fun _ => rfl)).squeeze S64x512 squeezes_S1x1x64x512_S64x512
/-- The receive slot of step `s` and row block `u`, as a copy writes it. -/
abbrev rcvV (d : Bool) (s : Fin 7) (u : Fin 4) : Memref sig .tc .vmem S64x512 .bf16 :=
  ((rcvM d).slice (rcvR s u) (fun _ => rfl)).squeeze S64x512 squeezes_S1x1x64x512_S64x512
theorem accV_words (d : Bool) (s : Fin 7) (u : Fin 4) : (accV d s u).view.WordExact :=
  ((accM_whole d).wordExact_slice rfl _ (acc_words s u)).reshape _ _
theorem rcvV_words (d : Bool) (s : Fin 7) (u : Fin 4) : (rcvV d s u).view.WordExact :=
  ((rcvM_whole d).wordExact_slice rfl _ (rcv_words s u)).reshape _ _
/-- The send semaphore of a ring copy. -/
abbrev sndC (d : Bool) (s : Fin 7) (u : Fin 4) : DmaSem sig :=
  (((sndS d).slice (Rect.unit (s := S7x4) ![s.val, u.val] S1x1.size (sem_inb s u))).squeeze S_ squeezes_S1x1_S_).sem
/-- The receive semaphore of a ring copy. -/
abbrev rcvC (d : Bool) (s : Fin 7) (u : Fin 4) : DmaSem sig :=
  (((rcvS d).slice (Rect.unit (s := S7x4) ![s.val, u.val] S1x1.size (sem_inb s u))).squeeze S_ squeezes_S1x1_S_).sem
/-- Row block `u` of the reduced rows, as a copy reads it. -/
abbrev sV (u : Fin 4) : Memref sig .tc .vmem S64x1024 .bf16 := sM.slice (sR u) (fun _ => rfl)
theorem sV_words (u : Fin 4) : (sV u).view.WordExact := (Memref.isWhole_whole _).wordExact_slice rfl _ (s_words u)
/-- Slot `k` of the second exchange, as a wait names it. -/
abbrev zV (k : Fin 3) : Memref sig .tc .vmem S64x1024 .bf16 := (zM.slice (zR k) (fun _ => rfl)).squeeze S64x1024 squeezes_S1x64x1024_S64x1024
theorem zV_words (k : Fin 3) : (zV k).view.WordExact := ((Memref.isWhole_whole _).wordExact_slice rfl _ (z_words k)).reshape _ _
/-- The send semaphore of the second exchange's copy of row block `u`. -/
abbrev zsC (u : Fin 4) : DmaSem sig :=
  ((cc0_scratch13.slice (Rect.unit (s := S4) ![u.val] S1.size (zs_inb u))).squeeze S_ squeezes_S1_S_).sem
/-- The receive semaphore of the second exchange's slot `k`. -/
abbrev zrC (k : Fin 3) : DmaSem sig :=
  ((cc0_scratch14.slice (Rect.unit (s := S3) ![k.val] S1.size (zr_inb k))).squeeze S_ squeezes_S1_S_).sem
/-- The barrier semaphore. -/
abbrev barC : Sem sig := (SemArray.scalar (sig.barrier 0 rfl) : Sems sig S_).sem

/-! ## The printed addresses, by step and row block -/

/-- The device a ring copy is sent to, as printed. -/
def devT (d : Bool) : Fin 7 → Fin 4 → Dev nD → ℕ :=
  bif d then ![![k0_dev7, k0_dev9, k0_dev11, k0_dev13], ![k0_dev15, k0_dev17, k0_dev19, k0_dev21], ![k0_dev23, k0_dev25, k0_dev27, k0_dev29], ![k0_dev31, k0_dev33, k0_dev35, k0_dev37], ![k0_dev39, k0_dev41, k0_dev43, k0_dev45], ![k0_dev47, k0_dev49, k0_dev51, k0_dev53], ![k0_dev55, k0_dev57, k0_dev59, k0_dev61]]
  else ![![k0_dev6, k0_dev8, k0_dev10, k0_dev12], ![k0_dev14, k0_dev16, k0_dev18, k0_dev20], ![k0_dev22, k0_dev24, k0_dev26, k0_dev28], ![k0_dev30, k0_dev32, k0_dev34, k0_dev36], ![k0_dev38, k0_dev40, k0_dev42, k0_dev44], ![k0_dev46, k0_dev48, k0_dev50, k0_dev52], ![k0_dev54, k0_dev56, k0_dev58, k0_dev60]]
theorem devT_lt : ∀ (d : Bool) (s : Fin 7) (u : Fin 4) (c : Dev nD), devT d s u c < nD := by decide +kernel
/-- The device a ring copy is sent to. -/
abbrev devD (d : Bool) (s : Fin 7) (u : Fin 4) (c : Dev nD) : Dev nD := ⟨devT d s u c, devT_lt d s u c⟩
/-- The devices a device signals at the barrier, as printed. -/
def barT : Fin 5 → Dev nD → ℕ := ![k0_dev1, k0_dev2, k0_dev3, k0_dev4, k0_dev5]
theorem barT_lt : ∀ (k : Fin 5) (c : Dev nD), barT k c < nD := by decide +kernel
abbrev barD (k : Fin 5) (c : Dev nD) : Dev nD := ⟨barT k c, barT_lt k c⟩

/-- Where one partial product reads its rows and its four gate columns. -/
structure POff where
  x : Fin 3 → ℕ
  g : Fin 4 → Fin 3 → ℕ
  hx : ∀ a, x a + S4x64x512.size a ≤ S4x512x512.size a
  hg : ∀ j a, g j a + S4x64x1.size a ≤ S4x512x4.size a

theorem offG_I : ∀ (c : Dev nD) (j : Fin 4) (a : Fin 3), (![k0_off2 c, k0_off3 c, k0_off4 c, k0_off5 c] : Fin 4 → Fin 3 → ℕ) j a + S4x64x1.size a ≤ S4x512x4.size a := by decide +kernel
theorem offG_IL : ∀ (c : Dev nD) (j : Fin 4) (a : Fin 3), (![k0_off7 c, k0_off8 c, k0_off9 c, k0_off10 c] : Fin 4 → Fin 3 → ℕ) j a + S4x64x1.size a ≤ S4x512x4.size a := by decide +kernel
theorem offG_S : ∀ (c : Dev nD) (s : Fin 7) (j : Fin 4) (a : Fin 3), (![k0_off12 c (BitVec.ofNat 32 s.val), k0_off13 c (BitVec.ofNat 32 s.val), k0_off14 c (BitVec.ofNat 32 s.val), k0_off15 c (BitVec.ofNat 32 s.val)] : Fin 4 → Fin 3 → ℕ) j a + S4x64x1.size a ≤ S4x512x4.size a := by decide +kernel
theorem offG_SL : ∀ (c : Dev nD) (s : Fin 7) (j : Fin 4) (a : Fin 3), (![k0_off17 c (BitVec.ofNat 32 s.val), k0_off18 c (BitVec.ofNat 32 s.val), k0_off19 c (BitVec.ofNat 32 s.val), k0_off20 c (BitVec.ofNat 32 s.val)] : Fin 4 → Fin 3 → ℕ) j a + S4x64x1.size a ≤ S4x512x4.size a := by decide +kernel

/-- The addresses of the first partial product of a direction. -/
def offI (d : Bool) (c : Dev nD) : POff :=
  bif d then ⟨k0_off6 c, ![k0_off7 c, k0_off8 c, k0_off9 c, k0_off10 c], k0_off6_inb c, offG_IL c⟩
  else ⟨k0_off1 c, ![k0_off2 c, k0_off3 c, k0_off4 c, k0_off5 c], k0_off1_inb c, offG_I c⟩
/-- The addresses of the partial product of step `s`. -/
def offS (d : Bool) (c : Dev nD) (s : Fin 7) : POff :=
  bif d then ⟨k0_off16 c (BitVec.ofNat 32 s.val), ![k0_off17 c (BitVec.ofNat 32 s.val), k0_off18 c (BitVec.ofNat 32 s.val), k0_off19 c (BitVec.ofNat 32 s.val), k0_off20 c (BitVec.ofNat 32 s.val)], k0_off16_inb c s, offG_SL c s⟩
  else ⟨k0_off11 c (BitVec.ofNat 32 s.val), ![k0_off12 c (BitVec.ofNat 32 s.val), k0_off13 c (BitVec.ofNat 32 s.val), k0_off14 c (BitVec.ofNat 32 s.val), k0_off15 c (BitVec.ofNat 32 s.val)], k0_off11_inb c s, offG_S c s⟩

/-- The second exchange's tests, addresses and targets, as printed. -/
def zcond : Fin 4 → Dev nD → BitVec 1 := ![k0_cond1, k0_cond2, k0_cond3, k0_cond4]
def wcond : Fin 4 → Dev nD → BitVec 1 := ![k0_cond5, k0_cond6, k0_cond7, k0_cond8]
def zsem : Fin 4 → Dev nD → Fin 1 → ℕ := ![k0_off21, k0_off23, k0_off25, k0_off27]
def zdst : Fin 4 → Dev nD → Fin 3 → ℕ := ![k0_off22, k0_off24, k0_off26, k0_off28]
def wdst : Fin 4 → Dev nD → Fin 3 → ℕ := ![k0_off30, k0_off31, k0_off32, k0_off33]
def zdev : Fin 4 → Dev nD → ℕ := ![k0_dev62, k0_dev63, k0_dev64, k0_dev65]
theorem zsem_inb : ∀ (u : Fin 4) (c : Dev nD), zcond u c = 1#1 → ∀ a, zsem u c a + S1.size a ≤ S3.size a := by decide +kernel
theorem zdst_inb : ∀ (u : Fin 4) (c : Dev nD), zcond u c = 1#1 → ∀ a, zdst u c a + S1x64x1024.size a ≤ S3x64x1024.size a := by decide +kernel
theorem wdst_inb : ∀ (u : Fin 4) (c : Dev nD), wcond u c = 1#1 → ∀ a, wdst u c a + S1x64x1024.size a ≤ S3x64x1024.size a := by decide +kernel
theorem zdev_lt : ∀ (u : Fin 4) (c : Dev nD), zcond u c = 1#1 → zdev u c < nD := by decide +kernel
theorem zdst_words : ∀ (u : Fin 4) (c : Dev nD) (h : zcond u c = 1#1), (Rect.unit (s := S3x64x1024) (zdst u c) S1x64x1024.size (zdst_inb u c h)).WholeWords (EltTy.packing .bf16) := by decide +kernel
theorem wdst_words : ∀ (u : Fin 4) (c : Dev nD) (h : wcond u c = 1#1), (Rect.unit (s := S3x64x1024) (wdst u c) S1x64x1024.size (wdst_inb u c h)).WholeWords (EltTy.packing .bf16) := by decide +kernel

/-! ## The values the body computes -/

/-- One expert's product: the rows times their gate, times the expert's weights. -/
def mmV (x : Vec F S4x64x512 .bf16) (g : Vec F S4x64x1 .bf16) (w : Vec F S1x512x512 .f32) : FVec F S256x512 .f32 :=
  matmul dot_S256x512_S512x512_S256x512_1_0_0_1_n_n none
    (shapeCast S256x512 (mulf x (broadcastTo S4x64x512 g broadcasts_S4x64x1_S4x64x512)) shapeCasts_S4x64x512_S256x512)
    (truncf .bf16 (shapeCast S512x512 w shapeCasts_S1x512x512_S512x512) bitsLt_bf16_f32)
    (constant S256x512 .f32 0x00000000#32)
/-- A partial product: the four experts of the device, added to zero in order. -/
def partV (x : Vec F S4x64x512 .bf16) (g0 : Vec F S4x64x1 .bf16) (w0 : Vec F S1x512x512 .f32) (g1 : Vec F S4x64x1 .bf16) (w1 : Vec F S1x512x512 .f32)
    (g2 : Vec F S4x64x1 .bf16) (w2 : Vec F S1x512x512 .f32) (g3 : Vec F S4x64x1 .bf16) (w3 : Vec F S1x512x512 .f32) : FVec F S256x512 .f32 :=
  addf (addf (addf (addf (broadcast S256x512 (Scalar.ofBits .f32 0x00000000#32)) (mmV x g0 w0)) (mmV x g1 w1)) (mmV x g2 w2)) (mmV x g3 w3)
/-- A partial product as it is put into the accumulator's first half. -/
def initV (p : FVec F S256x512 .f32) : FVec F S1x4x64x512 .bf16 :=
  shapeCast S1x4x64x512 (shapeCast S4x64x512 (truncf .bf16 p bitsLt_bf16_f32) shapeCasts_S256x512_S4x64x512) shapeCasts_S4x64x512_S1x4x64x512
theorem slice_ok : ∀ u : Fin 4, S256x512.Slices ![64 * u.val, 0] S64x512 := by decide
/-- Row block `u` received, plus the same rows of this step's partial product. -/
def sumV (u : Fin 4) (p : FVec F S256x512 .f32) (r : Vec F S1x1x64x512 .bf16) : FVec F S64x512 .bf16 :=
  truncf .bf16 (addf (extf .f32 (shapeCast S64x512 r shapeCasts_S1x1x64x512_S64x512) bitsLt_bf16_f32)
    (extractStridedSlice S64x512 ![64 * u.val, 0] p (slice_ok u))) bitsLt_bf16_f32
/-- That sum as the accumulator holds it. -/
def stepV (u : Fin 4) (p : FVec F S256x512 .f32) (r : Vec F S1x1x64x512 .bf16) : FVec F S1x1x64x512 .bf16 :=
  shapeCast S1x1x64x512 (sumV u p r) shapeCasts_S64x512_S1x1x64x512
/-- That sum as the reduced rows hold it. -/
def finV (u : Fin 4) (p : FVec F S256x512 .f32) (r : Vec F S1x1x64x512 .bf16) : FVec F S64x512 .bf16 :=
  shapeCast S64x512 (sumV u p r) shapeCasts_S64x512_S64x512
/-- The gates of the device's four experts. -/
def gateV (c : Dev nD) (x : Vec F S2048x512 .f32) (rw : Vec F S512x128 .f32) (rt : Vec F S2048x1 .i32) : FVec F S4x512x4 .bf16 :=
  let v2 : BitVec 32 := Scalar.remsi (Scalar.divsi (Dev.word c) 1#32) 32#32
  k0_pay8 (k0_pay3 rt) (k0_pay4 x rw rt) (k0_pay5 v2 x rw rt) (k0_pay6 v2 x rw rt) (k0_pay7 v2 x rw rt)
    (Scalar.muli 4#32 v2)
/-- The rows, rounded. -/
def xbV (x : Vec F S2048x512 .f32) : FVec F S4x512x512 .bf16 := k0_pay9 (k0_pay2 x)

/-! ## The program -/

/-- The loads of one partial product, and its value. -/
@[reducible] def partP (d : Bool) (o : POff) : PR F (FVec F S256x512 .f32) := do
  let x ← Prog.lift (.load xbM (Rect.unit (s := S4x512x512) o.x S4x64x512.size o.hx).toLoadRect (View.loadsAt_vmem h_S4x64x512))
  let g0 ← Prog.lift (.load gtM (Rect.unit (s := S4x512x4) (o.g 0) S4x64x1.size (o.hg 0)).toLoadRect (View.loadsAt_vmem h_S4x64x1))
  let w0 ← Prog.lift (.load ewM (Rect.unit (s := S4x512x1024) ![(0 : Fin 4).val, 0, bif d then 512 else 0] S1x512x512.size (ew_inb 0 d)).toLoadRect (View.loadsAt_vmem h_S1x512x512))
  let g1 ← Prog.lift (.load gtM (Rect.unit (s := S4x512x4) (o.g 1) S4x64x1.size (o.hg 1)).toLoadRect (View.loadsAt_vmem h_S4x64x1))
  let w1 ← Prog.lift (.load ewM (Rect.unit (s := S4x512x1024) ![(1 : Fin 4).val, 0, bif d then 512 else 0] S1x512x512.size (ew_inb 1 d)).toLoadRect (View.loadsAt_vmem h_S1x512x512))
  let g2 ← Prog.lift (.load gtM (Rect.unit (s := S4x512x4) (o.g 2) S4x64x1.size (o.hg 2)).toLoadRect (View.loadsAt_vmem h_S4x64x1))
  let w2 ← Prog.lift (.load ewM (Rect.unit (s := S4x512x1024) ![(2 : Fin 4).val, 0, bif d then 512 else 0] S1x512x512.size (ew_inb 2 d)).toLoadRect (View.loadsAt_vmem h_S1x512x512))
  let g3 ← Prog.lift (.load gtM (Rect.unit (s := S4x512x4) (o.g 3) S4x64x1.size (o.hg 3)).toLoadRect (View.loadsAt_vmem h_S4x64x1))
  let w3 ← Prog.lift (.load ewM (Rect.unit (s := S4x512x1024) ![(3 : Fin 4).val, 0, bif d then 512 else 0] S1x512x512.size (ew_inb 3 d)).toLoadRect (View.loadsAt_vmem h_S1x512x512))
  pure (partV x g0 w0 g1 w1 g2 w2 g3 w3)

/-- The gates and the rounded rows, computed and stored. -/
@[reducible] def gateP (c : Dev nD) : PR F PUnit := do
  let x ← Prog.lift (.load xM (Rect.unit (s := S2048x512) ![0, 0] S2048x512.size inb_S2048x512_S2048x512_0_0).toLoadRect (View.loadsAt_vmem h_S2048x512))
  let rw ← Prog.lift (.load rwM (Rect.unit (s := S512x128) ![0, 0] S512x128.size inb_S512x128_S512x128_0_0).toLoadRect (View.loadsAt_vmem h_S512x128))
  let rt ← Prog.lift (.load rtM (Rect.unit (s := S2048x1) ![0, 0] S2048x1.size inb_S2048x1_S2048x1_0_0).toLoadRect (View.loadsAt_vmem h_S2048x1))
  let _ ← Prog.lift (.load gtM (Rect.unit (s := S4x512x4) ![0, 0, 0] S4x512x4.size inb_S4x512x4_S4x512x4_0_0_0).toLoadRect (View.loadsAt_vmem h_S4x512x4))
  Prog.lift (.store gtM (Rect.unit (s := S4x512x4) ![0, 0, 0] S4x512x4.size inb_S4x512x4_S4x512x4_0_0_0) (gateV c x rw rt) Finset.univ (View.stores_vmem h_S4x512x4 ((Memref.isWhole_whole _).storeExact_slice rfl _ packedbf16_S4x512x4_S4x512x4_0_0_0) (fun _ => rfl)) (.inl rfl))
  let _ ← Prog.lift (.load xbM (Rect.unit (s := S4x512x512) ![0, 0, 0] S4x512x512.size inb_S4x512x512_S4x512x512_0_0_0).toLoadRect (View.loadsAt_vmem h_S4x512x512))
  Prog.lift (.store xbM (Rect.unit (s := S4x512x512) ![0, 0, 0] S4x512x512.size inb_S4x512x512_S4x512x512_0_0_0) (xbV x) Finset.univ (View.stores_vmem h_S4x512x512 ((Memref.isWhole_whole _).storeExact_slice rfl _ packedbf16_S4x512x512_S4x512x512_0_0_0) (fun _ => rfl)) (.inl rfl))

/-- A direction's first partial product, put into the first half of its accumulator. -/
@[reducible] def initP (d : Bool) (c : Dev nD) : PR F PUnit := do
  let p ← partP d (offI d c)
  let _ ← Prog.lift (.load (accM d) (Rect.unit (s := S2x4x64x512) ![0, 0, 0, 0] S1x4x64x512.size inb_S2x4x64x512_S1x4x64x512_0_0_0_0).toLoadRect (View.loadsAt_vmem h_S1x4x64x512))
  Prog.lift (.store (accM d) (Rect.unit (s := S2x4x64x512) ![0, 0, 0, 0] S1x4x64x512.size inb_S2x4x64x512_S1x4x64x512_0_0_0_0) (initV p) Finset.univ (View.stores_vmem h_S1x4x64x512 ((accM_whole d).storeExact_slice rfl _ packedbf16_S2x4x64x512_S1x4x64x512_0_0_0_0) (fun _ => rfl)) (.inl rfl))

/-- The entry barrier: five signals, one wait for five. -/
@[reducible] def barP (c : Dev nD) : PR F PUnit := do
  semSignalWord (barD 0 c) barC 1#32
  semSignalWord (barD 1 c) barC 1#32
  semSignalWord (barD 2 c) barC 1#32
  semSignalWord (barD 3 c) barC 1#32
  semSignalWord (barD 4 c) barC 1#32
  semWaitWord barC 5#32

/-- A ring copy: the accumulator slot of step `s` and row block `u` to the next device's receive slot. -/
@[reducible] def sndP (c : Dev nD) (d : Bool) (s : Fin 7) (u : Fin 4) : PR F PUnit :=
  Prog.lift (.enqueueDma (accV d s u) (.remote (Dev.tc (devD d s u c)) (rcvV d s u) (.dma (sndC d s u)) (by cases d <;> rfl)) (.dma (rcvC d s u))
    (accV_words d s u) (rcvV_words d s u) ⟨⟨rfl, Or.inl rfl⟩, trivial⟩)

/-- The two waits of a direction: its own copy is out, the other device's copy is in. -/
@[reducible] def waitsP (d : Bool) (s : Fin 7) (u : Fin 4) : PR F PUnit := do
  Prog.lift (.waitDma2 (sndC d s u) (rcvV d s u) (accV d s u) (rcvV_words d s u) (accV_words d s u))
  Prog.lift (.waitDma2 (rcvC d s u) (accV d s u) (rcvV d s u) (accV_words d s u) (rcvV_words d s u))

/-- One accumulation: what step `s` received in row block `u`, plus the partial product, for step `s + 1`. -/
@[reducible] def accP (d : Bool) (s : Fin 6) (u : Fin 4) (p : FVec F S256x512 .f32) : PR F PUnit := do
  let r ← Prog.lift (.load (rcvM d) (rcvR s.castSucc u).toLoadRect (View.loadsAt_vmem h_S1x1x64x512))
  let _ ← Prog.lift (.load (accM d) (accR s.succ u).toLoadRect (View.loadsAt_vmem h_S1x1x64x512))
  Prog.lift (.store (accM d) (accR s.succ u) (stepV u p r) Finset.univ (View.stores_vmem h_S1x1x64x512 ((accM_whole d).storeExact_slice rfl _ (acc_packed s.succ u)) (fun _ => rfl)) (.inl rfl))

/-- A row block of a ring step. -/
@[reducible] def subP (c : Dev nD) (s : Fin 6) (pr pl : FVec F S256x512 .f32) (u : Fin 4) : PR F PUnit := do
  waitsP false s.castSucc u
  waitsP true s.castSucc u
  accP false s u pr
  accP true s u pl
  sndP c false s.succ u
  sndP c true s.succ u

/-- A ring step: the two partial products, then the four row blocks. -/
@[reducible] def stepP (c : Dev nD) (s : Fin 6) : PR F PUnit := do
  let pr ← partP false (offS false c s.castSucc)
  let pl ← partP true (offS true c s.castSucc)
  subP c s pr pl 0
  subP c s pr pl 1
  subP c s pr pl 2
  subP c s pr pl 3

/-- The last step's accumulation of a direction, into the reduced rows. -/
@[reducible] def finP (d : Bool) (u : Fin 4) (p : FVec F S256x512 .f32) : PR F PUnit := do
  let r ← Prog.lift (.load (rcvM d) (rcvR 6 u).toLoadRect (View.loadsAt_vmem h_S1x1x64x512))
  let _ ← Prog.lift (.load sM (shR u d).toLoadRect (View.loadsAt_vmem h_S64x512))
  Prog.lift (.store sM (shR u d) (finV u p r) Finset.univ (View.stores_vmem h_S64x512 ((Memref.isWhole_whole _).storeExact_slice rfl _ (sh_packed u d)) (fun _ => rfl)) (.inl rfl))

/-- The second exchange's copy of row block `u`, by every device outside layer `u`. -/
@[reducible] def sendZ (c : Dev nD) (u : Fin 4) : PR F PUnit :=
  if h : zcond u c = 1#1 then
    Prog.lift (.enqueueDma (sV u) (.remote (Dev.tc (⟨zdev u c, zdev_lt u c h⟩ : Dev nD)) ((zM.slice (Rect.unit (s := S3x64x1024) (zdst u c) S1x64x1024.size (zdst_inb u c h)) (fun _ => rfl)).squeeze S64x1024 squeezes_S1x64x1024_S64x1024) (.dma (zsC u)))
      (.dma ((cc0_scratch14.slice (Rect.unit (s := S3) (zsem u c) S1.size (zsem_inb u c h))).squeeze S_ squeezes_S1_S_).sem)
      (sV_words u) (((Memref.isWhole_whole _).wordExact_slice rfl _ (zdst_words u c h)).reshape _ _) ⟨⟨rfl, Or.inl rfl⟩, trivial⟩)
  else pure ⟨⟩

/-- The last step's row block: waits, accumulations, the second exchange's copy. -/
@[reducible] def lastP (c : Dev nD) (pr pl : FVec F S256x512 .f32) (u : Fin 4) : PR F PUnit := do
  waitsP false 6 u
  waitsP true 6 u
  finP false u pr
  finP true u pl

/-- The shared expert on the device's own rows. -/
@[reducible] def sharedP (c : Dev nD) : PR F PUnit := do
  let x ← Prog.lift (.load xM (Rect.unit (s := S2048x512) (k0_off29 c) S64x512.size (k0_off29_inb c)).toLoadRect (View.loadsAt_vmem h_S64x512))
  let w ← Prog.lift (.load swM (Rect.unit (s := S512x1024) ![0, 0] S512x1024.size inb_S512x1024_S512x1024_0_0).toLoadRect (View.loadsAt_vmem h_S512x1024))
  let _ ← Prog.lift (.load shM (Rect.unit (s := S64x1024) ![0, 0] S64x1024.size inb_S64x1024_S64x1024_0_0).toLoadRect (View.loadsAt_vmem h_S64x1024))
  Prog.lift (.store shM (Rect.unit (s := S64x1024) ![0, 0] S64x1024.size inb_S64x1024_S64x1024_0_0) (k0_pay129 x w) Finset.univ (View.stores_vmem_bits_univ h_S64x1024 rfl) (.inl rfl))

/-- The wait for the second exchange's own copy of row block `u`. -/
@[reducible] def waitZ (c : Dev nD) (u : Fin 4) : PR F PUnit :=
  if h : wcond u c = 1#1 then
    Prog.lift (.waitDma2 (zsC u) ((zM.slice (Rect.unit (s := S3x64x1024) (wdst u c) S1x64x1024.size (wdst_inb u c h)) (fun _ => rfl)).squeeze S64x1024 squeezes_S1x64x1024_S64x1024) (sV u)
      (((Memref.isWhole_whole _).wordExact_slice rfl _ (wdst_words u c h)).reshape _ _) (sV_words u))
  else pure ⟨⟩

/-- The wait for slot `k` of the second exchange. -/
@[reducible] def recvZ (k : Fin 3) : PR F PUnit :=
  Prog.lift (.waitDma2 (zrC k) (sV 0) (zV k) (sV_words 0) (zV_words k))

/-- The result: the device's own rows of the reduction, the shared expert, and the three slots received. -/
@[reducible] def outP (c : Dev nD) : PR F PUnit := do
  let a ← Prog.lift (.load sM (Rect.unit (s := S256x1024) (k0_off34 c) S64x1024.size (k0_off34_inb c)).toLoadRect (View.loadsAt_vmem h_S64x1024))
  let b ← Prog.lift (.load shM (Rect.unit (s := S64x1024) ![0, 0] S64x1024.size inb_S64x1024_S64x1024_0_0).toLoadRect (View.loadsAt_vmem h_S64x1024))
  let r0 ← Prog.lift (.load zM (zR 0).toLoadRect (View.loadsAt_vmem h_S1x64x1024))
  let r1 ← Prog.lift (.load zM (zR 1).toLoadRect (View.loadsAt_vmem h_S1x64x1024))
  let r2 ← Prog.lift (.load zM (zR 2).toLoadRect (View.loadsAt_vmem h_S1x64x1024))
  let _ ← Prog.lift (.load outM (Rect.unit (s := S64x1024) ![0, 0] S64x1024.size inb_S64x1024_S64x1024_0_0).toLoadRect (View.loadsAt_vmem h_S64x1024))
  Prog.lift (.store outM (Rect.unit (s := S64x1024) ![0, 0] S64x1024.size inb_S64x1024_S64x1024_0_0) (k0_pay1 a b r0 r1 r2) Finset.univ (View.stores_vmem_bits_univ h_S64x1024 rfl) (.inl rfl))

/-- Everything up to the barrier. -/
@[reducible] def preP (c : Dev nD) : PR F PUnit := do
  gateP c
  initP false c
  initP true c
  barP c

/-- The copies of step 0. -/
@[reducible] def send0P (c : Dev nD) : PR F PUnit := do
  sndP c false 0 0
  sndP c true 0 0
  sndP c false 0 1
  sndP c true 0 1
  sndP c false 0 2
  sndP c true 0 2
  sndP c false 0 3
  sndP c true 0 3

/-- Steps 0 to 5. -/
@[reducible] def ringP (c : Dev nD) : PR F PUnit := do
  stepP c 0
  stepP c 1
  stepP c 2
  stepP c 3
  stepP c 4
  stepP c 5

/-- Everything after step 5. -/
@[reducible] def tailP (c : Dev nD) : PR F PUnit := do
  let pr ← partP false (offS false c 6)
  let pl ← partP true (offS true c 6)
  lastP c pr pl 0
  sendZ c 0
  lastP c pr pl 1
  sendZ c 1
  lastP c pr pl 2
  sendZ c 2
  lastP c pr pl 3
  sendZ c 3
  sharedP c
  waitZ c 0
  waitZ c 1
  waitZ c 2
  waitZ c 3
  recvZ 0
  recvZ 1
  recvZ 2
  outP c

/-- The body of the kernel. -/
@[reducible] def bodyP : PR F PUnit := do
  let c ← Prog.lift .deviceId
  preP c
  send0P c
  ringP c
  tailP c

end Cert.Moe

end
-- ==== Proof.Mesh.lean ====
/-
# The mesh and the semaphores, as tables

Which device a ring copy, a barrier signal and a copy of the second exchange go to; which semaphore number each
copy uses and, read back from the number, what a semaphore is for. Everything here is decided over the 32 devices.
-/
module

public import proofs.«01_k».proof.Proof.Norm

@[expose] public section

set_option maxRecDepth 65536

noncomputable section

namespace Cert.Moe

open Idealize.ShloMosaic Idealize.SL.Sem
open Cert.KernelIdeal Cert.KernelIdeal.Gen

/-- The step of ring transfer `n` (28 a direction, four row blocks a step). -/
def sOf (n : ℕ) : Fin 7 := ⟨n / 4 % 7, Nat.mod_lt _ (by decide)⟩
/-- The row block of ring transfer `n`. -/
def uOf (n : ℕ) : Fin 4 := ⟨n % 4, Nat.mod_lt _ (by decide)⟩

/-- The device direction `d` sends to. -/
def tgt (d : Bool) (c : Dev nD) : Dev nD := devD d 0 0 c
theorem devD_eq : ∀ (d : Bool) (s : Fin 7) (u : Fin 4) (c : Dev nD), devD d s u c = tgt d c := by decide +kernel
theorem tgt_tgt : ∀ (d : Bool) (c : Dev nD), tgt d (tgt (!d) c) = c := by decide +kernel
/-- A direction's neighbour, as a permutation of the devices. -/
def tgtE (d : Bool) : Dev nD ≃ Dev nD := ⟨tgt d, tgt (!d), fun c => by have := tgt_tgt (!d) c; rwa [Bool.not_not] at this, tgt_tgt d⟩

/-- The layer of a device: the row block of the reduced rows that is its own. -/
def zOf : Dev nD → Fin 4 := fun c => ⟨c.val / 8, Nat.div_lt_of_lt_mul c.isLt⟩
/-- The device `j` layers up, at the same place of its ring. -/
def zsh (j : ℕ) (c : Dev nD) : Dev nD := ⟨(c.val + 8 * j) % 32, Nat.mod_lt _ (by decide)⟩
theorem zsh_back : ∀ (k : Fin 3) (c : Dev nD), zsh (k.val + 1) (zsh (3 - k.val) c) = c ∧ zsh (3 - k.val) (zsh (k.val + 1) c) = c := by decide +kernel
/-- `k + 1` layers up, as a permutation. -/
def zshE (k : Fin 3) : Dev nD ≃ Dev nD := ⟨zsh (k.val + 1), zsh (3 - k.val), fun c => (zsh_back k c).2, fun c => (zsh_back k c).1⟩
/-- The slot in which a device of layer `z` puts row block `u`. -/
def kk (u z : Fin 4) : Fin 3 := ⟨(u.val + 3 - z.val) % 4 % 3, Nat.mod_lt _ (by decide)⟩
/-- The device of layer `u` at the same place. -/
def zt (u : Fin 4) (c : Dev nD) : Dev nD := ⟨(8 * u.val + c.val % 8) % 32, Nat.mod_lt _ (by decide)⟩
theorem zt_eq : ∀ (u : Fin 4) (c : Dev nD), u ≠ zOf c → zt u c = zsh ((kk u (zOf c)).val + 1) c := by decide +kernel
theorem zOf_zt : ∀ (u : Fin 4) (c : Dev nD), zOf (zt u c) = u := by decide +kernel
theorem zt_back : ∀ (u : Fin 4) (c : Dev nD), u ≠ zOf c → zsh (3 - (kk u (zOf c)).val) (zt u c) = c := by decide +kernel

theorem zcond_iff : ∀ (u : Fin 4) (c : Dev nD), zcond u c = 1#1 ↔ u ≠ zOf c := by decide +kernel
theorem wcond_iff : ∀ (u : Fin 4) (c : Dev nD), wcond u c = 1#1 ↔ u ≠ zOf c := by decide +kernel
theorem zdev_eq : ∀ (u : Fin 4) (c : Dev nD) (h : zcond u c = 1#1), (⟨zdev u c, zdev_lt u c h⟩ : Dev nD) = zt u c := by decide +kernel
theorem zdst_eq : ∀ (u : Fin 4) (c : Dev nD), zcond u c = 1#1 → zdst u c = ![(kk u (zOf c)).val, 0, 0] := by decide +kernel
theorem zsem_eq : ∀ (u : Fin 4) (c : Dev nD), zcond u c = 1#1 → zsem u c = ![(kk u (zOf c)).val] := by decide +kernel
theorem off34_eq : ∀ c : Dev nD, k0_off34 c = ![64 * (zOf c).val, 0] := by decide +kernel

/-- Whom the five barrier signals go to. -/
theorem bar0 : ∀ c : Dev nD, barD 0 c = tgt true c := by decide +kernel
theorem bar1 : ∀ c : Dev nD, barD 1 c = tgt false c := by decide +kernel
theorem bar2 : ∀ c : Dev nD, barD 2 c = zsh 1 c := by decide +kernel
theorem bar3 : ∀ c : Dev nD, barD 3 c = zsh 2 c := by decide +kernel
theorem bar4 : ∀ c : Dev nD, barD 4 c = zsh 3 c := by decide +kernel
/-- The barrier's five partners, as permutations. -/
def barE : Fin 5 → (Dev nD ≃ Dev nD) := ![tgtE true, tgtE false, zshE 0, zshE 1, zshE 2]
theorem barE_eq : ∀ (j : Fin 5) (c : Dev nD), barE j c = barD j c := by
  intro j c; fin_cases j
  · exact (bar0 c).symm
  · exact (bar1 c).symm
  · exact (bar2 c).symm
  · exact (bar3 c).symm
  · exact (bar4 c).symm

/-! ## The semaphores -/

/-- What a DMA semaphore is for. -/
inductive SemKind where
  | stg
  | snd (d : Bool) (n : Fin 28)
  | rcv (d : Bool) (n : Fin 28)
  | zs (u : Fin 4)
  | zr (k : Fin 3)
  deriving DecidableEq

/-- Read off its number. -/
def semKind (q : DmaSem sig) : SemKind :=
  if q.val < 6 then .stg
  else if q.val < 34 then .snd false ⟨(q.val - 6) % 28, Nat.mod_lt _ (by decide)⟩
  else if q.val < 62 then .rcv false ⟨(q.val - 34) % 28, Nat.mod_lt _ (by decide)⟩
  else if q.val < 90 then .snd true ⟨(q.val - 62) % 28, Nat.mod_lt _ (by decide)⟩
  else if q.val < 118 then .rcv true ⟨(q.val - 90) % 28, Nat.mod_lt _ (by decide)⟩
  else if q.val < 122 then .zs ⟨(q.val - 118) % 4, Nat.mod_lt _ (by decide)⟩
  else .zr ⟨(q.val - 122) % 3, Nat.mod_lt _ (by decide)⟩

/-- The send semaphore of ring transfer `n`. -/
abbrev sndN (d : Bool) (n : ℕ) : DmaSem sig := sndC d (sOf n) (uOf n)
/-- The receive semaphore of ring transfer `n`. -/
abbrev rcvN (d : Bool) (n : ℕ) : DmaSem sig := rcvC d (sOf n) (uOf n)

theorem kind_snd : ∀ (d : Bool) (n : Fin 28), semKind (sndN d n.val) = .snd d n := by decide +kernel
theorem kind_rcv : ∀ (d : Bool) (n : Fin 28), semKind (rcvN d n.val) = .rcv d n := by decide +kernel
theorem kind_zs : ∀ u : Fin 4, semKind (zsC u) = .zs u := by decide +kernel
theorem kind_zr : ∀ k : Fin 3, semKind (zrC k) = .zr k := by decide +kernel

end Cert.Moe

end
-- ==== Proof.Values.lean ====
/-
# What each buffer holds

The values of the run, as functions of the launch memory: the rounded rows and the gates, the partial products, the
running sums that go round each ring (`ACC`), the reduced rows (`SRow`), the slots of the second exchange (`ZV`) and
the result (`OUT`).
-/
module

public import proofs.«01_k».proof.Proof.Mesh
public import proofs.«01_k».proof.Proof.Gen.KernelIdeal.Frame

@[expose] public section

set_option maxRecDepth 16384

noncomputable section

namespace Cert.Moe

open Idealize.ShloMosaic Idealize.SL.Sem
open Idealize.ShloMosaic.TcCoe
open Cert.KernelIdeal Cert.KernelIdeal.Gen

variable {F : FTy → Type} [FloatOps F]
variable (m : (ℓ : Loc nD τ sig) → Buf (Elt F) ℓ)

/-! ## The staged arguments -/

def X (c : Dev nD) : Vec F S2048x512 .f32 := iblk m c (0 : Fin 6) t0_0
def RW (c : Dev nD) : Vec F S512x128 .f32 := iblk m c (1 : Fin 6) t0_0
def RT (c : Dev nD) : Vec F S2048x1 .i32 := iblk m c (2 : Fin 6) t0_0
def EW (c : Dev nD) : Vec F S4x512x1024 .f32 := iblk m c (3 : Fin 6) t0_0
def SW (c : Dev nD) : Vec F S512x1024 .f32 := iblk m c (4 : Fin 6) t0_0

/-- The rounded rows and the gates, as their buffers hold them. -/
def xbC (c : Dev nD) : Vec F S4x512x512 .bf16 := xbV (X m c)
def gtC (c : Dev nD) : Vec F S4x512x4 .bf16 := gateV c (X m c) (RW m c) (RT m c)

/-- The rectangle a partial product reads its rows from, and its gate columns. -/
abbrev xR (o : POff) : Rect S4x512x512 := Rect.unit (s := S4x512x512) o.x S4x64x512.size o.hx
abbrev gR (o : POff) (j : Fin 4) : Rect S4x512x4 := Rect.unit (s := S4x512x4) (o.g j) S4x64x1.size (o.hg j)
abbrev wR (d : Bool) (j : Fin 4) : Rect S4x512x1024 := Rect.unit (s := S4x512x1024) ![j.val, 0, bif d then 512 else 0] S1x512x512.size (ew_inb j d)

/-- The partial product of direction `d` at addresses `o` on device `c`. -/
def partF (d : Bool) (o : POff) (c : Dev nD) : FVec F S256x512 .f32 :=
  partV (xbM.view.readAt (Elt F) (xR o).toLoadRect (xbC m c))
    (gtM.view.readAt (Elt F) (gR o 0).toLoadRect (gtC m c)) (ewM.view.readAt (Elt F) (wR d 0).toLoadRect (EW m c))
    (gtM.view.readAt (Elt F) (gR o 1).toLoadRect (gtC m c)) (ewM.view.readAt (Elt F) (wR d 1).toLoadRect (EW m c))
    (gtM.view.readAt (Elt F) (gR o 2).toLoadRect (gtC m c)) (ewM.view.readAt (Elt F) (wR d 2).toLoadRect (EW m c))
    (gtM.view.readAt (Elt F) (gR o 3).toLoadRect (gtC m c)) (ewM.view.readAt (Elt F) (wR d 3).toLoadRect (EW m c))

theorem init_inb : ∀ (u : Fin 4), ∀ a, (![0, u.val, 0, 0] : Fin 4 → Nat) a + S1x1x64x512.size a ≤ S1x4x64x512.size a := by decide
/-- Row block `u` of what the first partial product puts into the accumulator. -/
def initSlot (u : Fin 4) (p : FVec F S256x512 .f32) : Vec F S1x1x64x512 .bf16 :=
  fun i => initV p ((Rect.unit (s := S1x4x64x512) ![0, u.val, 0, 0] S1x1x64x512.size (init_inb u)).emb i)

/-- The step as an index. -/
def stp (s : ℕ) : Fin 7 := ⟨s % 7, Nat.mod_lt _ (by decide)⟩

/-- What direction `d` sends of row block `u` at step `s` from device `c`. -/
def ACC (d : Bool) (u : Fin 4) : ℕ → Dev nD → Vec F S1x1x64x512 .bf16
  | 0, c => initSlot u (partF m d (offI d c) c)
  | s + 1, c => stepV u (partF m d (offS d c (stp s)) c) (ACC d u s (tgt (!d) c))

/-- A direction's half of row block `u`, reduced over the ring of device `c`. -/
def FIN (d : Bool) (u : Fin 4) (c : Dev nD) : FVec F S64x512 .bf16 :=
  finV u (partF m d (offS d c 6) c) (ACC m d u 6 (tgt (!d) c))

/-- Row block `u` reduced over the ring of device `c`: the right ring's columns, then the left one's. -/
def SRow (u : Fin 4) (c : Dev nD) : Vec F S64x1024 .bf16 := fun i =>
  if h : (i 1).val < 512 then FIN m false u c (Fin.cons (α := fun a => Fin (S64x512.size a)) (i 0) (Fin.cons (α := fun a => Fin (S64x512.size a.succ)) ⟨(i 1).val, h⟩ (fun a => a.elim0)))
  else FIN m true u c (Fin.cons (α := fun a => Fin (S64x512.size a)) (i 0) (Fin.cons (α := fun a => Fin (S64x512.size a.succ)) ⟨(i 1).val - 512, by have h2 : (i 1).val < 1024 := (i 1).isLt; show (i 1).val - 512 < 512; omega⟩ (fun a => a.elim0)))

theorem zcast : S64x1024.ShapeCasts S1x64x1024 := by decide
/-- What device `c` receives in slot `k` of the second exchange: its own row block, reduced over another layer's ring. -/
def ZV (k : Fin 3) (c : Dev nD) : Vec F S1x64x1024 .bf16 := shapeCast S1x64x1024 (SRow m (zOf c) (zsh (3 - k.val) c)) zcast

/-- The shared expert on the device's own rows. -/
def SHV (c : Dev nD) : FVec F S64x1024 .f32 :=
  k0_pay129 (xM.view.readAt (Elt F) (Rect.unit (s := S2048x512) (k0_off29 c) S64x512.size (k0_off29_inb c)).toLoadRect (X m c)) (SW m c)

/-- The result of device `c`. -/
def OUT (c : Dev nD) : FVec F S64x1024 .f32 := k0_pay1 (SRow m (zOf c) c) (SHV m c) (ZV m 0 c) (ZV m 1 c) (ZV m 2 c)

end Cert.Moe

end
-- ==== Proof.Protocol.lean ====
/-
# The protocol: cells, payloads, levels and what each core owes

One round a semaphore. A barrier cell collects five units, each bringing buffers the payer lends: its receive buffer of
one direction, or one slot of its second-exchange buffer. A ring copy's send cell brings the accumulator slot back, its
receive cell the slot received, holding the running sum. Levels: the barrier below the ring copies in their order,
below the second exchange.
-/
module

public import proofs.«01_k».proof.Proof.Values
public import Idealize.ShloMosaic.Lib.Pipeline.Launch
public import Idealize.ShloMosaic.Lib.Pipeline.Kit
public import Idealize.ShloMosaic.Lib.Tactic

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-! ## The slots -/

/-- The step of the accumulator slot transfer `n` uses. -/
def bOf (n : ℕ) : Fin 7 := ⟨n / 4 % 2, by omega⟩
/-- The accumulator slot transfer `n` is sent from. -/
abbrev accW (d : Bool) (n : ℕ) : View sig .tc .vmem S1x1x64x512 .bf16 := (accM d).access (accR (bOf n) (uOf n))
/-- The receive slot of transfer `n`. -/
abbrev rcvW (d : Bool) (n : ℕ) : View sig .tc .vmem S1x1x64x512 .bf16 := (rcvM d).access (rcvR (sOf n) (uOf n))
/-- Row block `u` of the reduced rows. -/
abbrev sW (u : Fin 4) : View sig .tc .vmem S64x1024 .bf16 := sM.access (sR u)
/-- Slot `k` of the second exchange. -/
abbrev zW (k : Fin 3) : View sig .tc .vmem S1x64x1024 .bf16 := zM.access (zR k)

section Slot
variable {sp : Space} {s : Shape} {e : EltTy}
/-- The elements of a view on device `c`, holding anything. -/
def slotAny (c : Dev nD) (V : View sig .tc sp s e) : sProp 𝕄 :=
  iprop(∃ f : Buf (Elt F) (V.loc (c : Thread nD τ)), V.loc (c : Thread nD τ) ↦[V.set]{fullShare} f)
/-- The elements of a view on device `c`, read as `w`. -/
def slotIs (c : Dev nD) (V : View sig .tc sp s e) (w : s.Idx → Elt F e) : sProp 𝕄 :=
  iprop(∃ f : Buf (Elt F) (V.loc (c : Thread nD τ)), ⌜V.read (Elt F) f = w⌝ ∗ (V.loc (c : Thread nD τ) ↦[V.set]{fullShare} f))
omit [FloatOps F] in
instance slotAny_storable (c : Dev nD) (V : View sig .tc sp s e) : BI.Storable (upEmb : UEmb _ 𝕄) (slotAny (F := F) c V) := by unfold slotAny; infer_instance
omit [FloatOps F] in
instance slotIs_storable (c : Dev nD) (V : View sig .tc sp s e) (w) : BI.Storable (upEmb : UEmb _ 𝕄) (slotIs (F := F) c V w) := by unfold slotIs; infer_instance
omit [FloatOps F] in
theorem slotIs_any (c : Dev nD) (V : View sig .tc sp s e) (w : s.Idx → Elt F e) : (slotIs c V w : sProp 𝕄) ⊢ slotAny c V := by
  unfold slotIs slotAny; iintro ⟨%f, -, H⟩; iexists f; iexact H
end Slot

/-! ## The cells -/

abbrev barG (c : Dev nD) : GSem nD τ sig := ((c : Thread nD τ), .reg barC)
abbrev sndG (d : Bool) (n : ℕ) (c : Dev nD) : GSem nD τ sig := ((c : Thread nD τ), .dma (sndN d n))
abbrev rcvG (d : Bool) (n : ℕ) (c : Dev nD) : GSem nD τ sig := ((c : Thread nD τ), .dma (rcvN d n))
abbrev zsG (u : Fin 4) (c : Dev nD) : GSem nD τ sig := ((c : Thread nD τ), .dma (zsC u))
abbrev zrG (k : Fin 3) (c : Dev nD) : GSem nD τ sig := ((c : Thread nD τ), .dma (zrC k))

/-- The kernel's own DMA semaphores: of each direction and transfer the send and the receive one; the second exchange's. -/
abbrev J : Type := (Bool × Bool × Fin 28) ⊕ (Fin 4 ⊕ Fin 3)
def jsem : J → DmaSem sig
  | .inl (true, d, n) => rcvN d n.val
  | .inl (false, d, n) => sndN d n.val
  | .inr (.inl u) => zsC u
  | .inr (.inr k) => zrC k
abbrev osem (j : J) : SemLoc sig := .dma (jsem j)
theorem jsem_inj : Function.Injective jsem := by
  intro a b h
  have h' := congrArg semKind h
  rcases a with ⟨_ | _, d, n⟩ | u | k <;> rcases b with ⟨_ | _, d', n'⟩ | u' | k' <;>
    simp only [jsem, kind_snd, kind_rcv, kind_zs, kind_zr] at h' <;> cases h' <;> rfl
/-- All cells of a device: those and the barrier's. -/
abbrev csem : Option J → SemLoc sig
  | some j => osem j
  | none => .reg barC
abbrev kcell (ck : Dev nD × Option J) : GSem nD τ sig := ((ck.1 : Thread nD τ), csem ck.2)

/-- The credit of a ring copy, and of a copy of the second exchange. -/
abbrev N1 : ℕ := (rcvV false 0 0).view.dmaCredit
abbrev N2 : ℕ := (zV 0).view.dmaCredit
theorem N1_pos : 0 < N1 := View.dmaCredit_pos _ (by decide)
theorem N2_pos : 0 < N2 := View.dmaCredit_pos _ (by decide)

/-! ## The schedule -/

/-- What transfer `n` of direction `d` leaves in device `c`'s receive slot. -/
def RCV (d : Bool) (n : ℕ) (c : Dev nD) : Vec F S1x1x64x512 .bf16 := ACC m d (uOf n) (n / 4) (tgt (!d) c)

/-- The 28 receive slots of direction `d` on device `c`. -/
def rcvAll (d : Bool) (c : Dev nD) : sProp 𝕄 := bigSep (Finset.range 28) fun n => slotAny (F := F) c (rcvW d n)
omit [FloatOps F] in
instance rcvAll_storable (d : Bool) (c : Dev nD) : BI.Storable (upEmb : UEmb _ 𝕄) (rcvAll (F := F) d c) := by unfold rcvAll; infer_instance

/-- What the five units of device `c`'s barrier bring. -/
def barPay (c : Dev nD) (j : Fin 5) : sProp 𝕄 :=
  match j with
  | 0 => rcvAll false (tgt false c)
  | 1 => rcvAll true (tgt true c)
  | 2 => slotAny (zsh 3 c) (zW 2)
  | 3 => slotAny (zsh 2 c) (zW 1)
  | 4 => slotAny (zsh 1 c) (zW 0)
omit [FloatOps F] in
instance barPay_storable (c : Dev nD) (j : Fin 5) : BI.Storable (upEmb : UEmb _ 𝕄) (barPay (F := F) c j) := by
  unfold barPay; split <;> infer_instance

def kDuties (c : Dev nD) : SemKind → Finset (Fin 5)
  | .stg => ∅
  | .snd _ _ => {0}
  | .rcv _ _ => {0}
  | .zs u => if u = zOf c then ∅ else {0}
  | .zr _ => {0}
def kAmount : SemKind → ℕ
  | .stg => 1
  | .snd _ _ => N1
  | .rcv _ _ => N1
  | .zs _ => N2
  | .zr _ => N2
def kPay (c : Dev nD) : SemKind → sProp 𝕄
  | .stg => iprop(emp)
  | .snd d n => slotAny c (accW d n.val)
  | .rcv d n => slotIs c (rcvW d n.val) (RCV m d n.val c)
  | .zs u => slotAny c (sW u)
  | .zr k => slotIs c (zW k) (ZV m k c)
theorem kAmount_pos (k : SemKind) : 0 < kAmount k := by
  cases k <;> first | exact N1_pos | exact N2_pos | exact Nat.one_pos
instance kPay_storable (c : Dev nD) (k : SemKind) : BI.Storable (upEmb : UEmb _ 𝕄) (kPay m c k) := by
  unfold kPay; split <;> infer_instance

/-- One round: five duties of one unit at a barrier cell, one of a copy's credit at a copy's cell. -/
def Rd : Rounds.Schedule (GSem nD τ sig) (Fin 5) 𝕄 where
  duties g r := if r = 0 ∧ g.1.2 = .tc then (match g.2 with | .reg _ => Finset.univ | .dma q => kDuties g.1.1 (semKind q)) else ∅
  unitless _ := False
  amount g _ _ := match g.2 with | .reg _ => 1 | .dma q => kAmount (semKind q)
  payload g _ d := match g.2 with | .reg _ => barPay g.1.1 d | .dma q => kPay m g.1.1 (semKind q)
  amount_pos g _ _ _ := by
    rcases g with ⟨t, s | q⟩
    · exact Nat.one_pos
    · exact kAmount_pos _

instance Rd_payload_storable (g : GSem nD τ sig) (r : ℕ) (d : Fin 5) : BI.Storable (upEmb : UEmb _ 𝕄) ((Rd (F := F) m).payload g r d) := by
  show BI.Storable upEmb (match g.2 with | .reg _ => barPay g.1.1 d | .dma q => kPay m g.1.1 (semKind q))
  split <;> infer_instance

theorem duties_later (g : GSem nD τ sig) : ∀ r, 1 ≤ r → (Rd (F := F) m).duties g r = ∅ :=
  fun r hr => by dsimp only [Rd]; rw [if_neg fun h => by omega]
theorem duties_dma (c : Dev nD) (q : DmaSem sig) : (Rd (F := F) m).duties ((c : Thread nD τ), .dma q) 0 = kDuties c (semKind q) := by
  dsimp only [Rd]; exact if_pos ⟨rfl, rfl⟩
theorem duties_bar (c : Dev nD) : (Rd (F := F) m).duties (barG c) 0 = Finset.univ := by
  dsimp only [Rd]; exact if_pos ⟨rfl, rfl⟩
theorem amount_dma (c : Dev nD) (q : DmaSem sig) (r : ℕ) (d : Fin 5) : (Rd (F := F) m).amount ((c : Thread nD τ), .dma q) r d = kAmount (semKind q) := rfl
theorem payload_dma (c : Dev nD) (q : DmaSem sig) (r : ℕ) (d : Fin 5) : (Rd (F := F) m).payload ((c : Thread nD τ), .dma q) r d = kPay m c (semKind q) := rfl
theorem expect_dma (c : Dev nD) (q : DmaSem sig) (h : kDuties c (semKind q) = {0}) : (Rd (F := F) m).expect ((c : Thread nD τ), .dma q) 0 = kAmount (semKind q) := by
  unfold Schedule.expect Schedule.amountOf
  rw [duties_dma, h, Finset.sum_singleton, amount_dma]
theorem expect_bar (c : Dev nD) : (Rd (F := F) m).expect (barG c) 0 = 5 := by
  unfold Schedule.expect Schedule.amountOf
  rw [duties_bar, Finset.sum_congr rfl fun d _ => show (Rd (F := F) m).amount (barG c) 0 d = 1 from rfl]
  decide
theorem rest_dma (c : Dev nD) (q : DmaSem sig) (h : kDuties c (semKind q) = {0}) :
    bigSep ((Rd (F := F) m).duties ((c : Thread nD τ), .dma q) 0 \ ∅) (fun d => (Rd (F := F) m).payload ((c : Thread nD τ), .dma q) 0 d) = kPay m c (semKind q) := by
  rw [Finset.sdiff_empty, duties_dma, h, bigSep_singleton, payload_dma]
theorem rest_bar (c : Dev nD) :
    bigSep ((Rd (F := F) m).duties (barG c) 0 \ ∅) (fun d => (Rd (F := F) m).payload (barG c) 0 d)
      = iprop(barPay c 0 ∗ barPay c 1 ∗ barPay c 2 ∗ barPay c 3 ∗ barPay c 4) := by
  rw [Finset.sdiff_empty, duties_bar, bigSep_univ_eq_bigSepL [0, 1, 2, 3, 4] (by decide) (by decide)]
  rfl

/-! ## What each core owes -/

/-- The credit of ring copy `n` in direction `d`, at the device it goes to. -/
abbrev TR (d : Bool) (n : ℕ) (c : Dev nD) : CellTallies nD τ sig Unit := tallyAt (rcvG d n (tgt d c)) () N1
/-- The credit of the second exchange's copy of row block `u`, of the devices that send it. -/
def TZ (u : Fin 4) (c : Dev nD) : CellTallies nD τ sig Unit := if u = zOf c then 0 else tallyAt (zrG (kk u (zOf c)) (zt u c)) () N2
/-- The second exchange's copies still to send: the last `j` row blocks. -/
def OZ (c : Dev nD) : ℕ → CellTallies nD τ sig Unit
  | 0 => 0
  | j + 1 => OZ c j + TZ ⟨(3 - j) % 4, Nat.mod_lt _ (by decide)⟩ c
/-- The ring copies still to send, the last `k` of each direction, and all of the second exchange. -/
def OR (c : Dev nD) : ℕ → CellTallies nD τ sig Unit
  | 0 => OZ c 4
  | k + 1 => (OR c k + TR true (27 - k) c) + TR false (27 - k) c
/-- And the barrier's five units. -/
def OB (c : Dev nD) : ℕ → CellTallies nD τ sig Unit
  | 0 => OR c 28
  | j + 1 => OB c j + tallyAt (barG (barE ⟨(4 - j) % 5, Nat.mod_lt _ (by decide)⟩ c)) () 1

def L (g : GSem nD τ sig) : Finset Unit := if g.1.2 = .tc then {()} else ∅
def lv (g : GSem nD τ sig) (_ : Unit) : ℕ := match g.2 with
  | .reg _ => 1
  | .dma q => match semKind q with
    | .rcv _ n => 2 + n.val
    | .zr _ => 40
    | _ => 0
theorem L_of_ne (g : GSem nD τ sig) (h : g.1.2 ≠ .tc) : L g = ∅ := if_neg h
theorem L_tc (c : Dev nD) (sm : SemLoc sig) : L ((c : Thread nD τ), sm) = {()} := if_pos rfl

theorem kind_rcvN (d : Bool) {n : ℕ} (h : n < 28) : semKind (rcvN d n) = .rcv d ⟨n, h⟩ := kind_rcv d ⟨n, h⟩
theorem kind_sndN (d : Bool) {n : ℕ} (h : n < 28) : semKind (sndN d n) = .snd d ⟨n, h⟩ := kind_snd d ⟨n, h⟩

theorem tally_pos {g g' : GSem nD τ sig} {N : ℕ} (h : 0 < tallyAt g' () N g ()) : g = g' := by
  rw [tallyAt_apply] at h
  by_contra hn
  rw [if_neg (fun h' => hn h'.1)] at h
  exact Nat.lt_irrefl 0 h
theorem add_pos_or {A B : CellTallies nD τ sig Unit} {g : GSem nD τ sig} (h : 0 < (A + B) g ()) : 0 < A g () ∨ 0 < B g () := by
  rw [Pi.add_apply, Finsupp.add_apply] at h; omega

/-- Everything owed after the ring is owed to TensorCores' second-exchange cells. -/
theorem OZ_pos (c : Dev nD) {g : GSem nD τ sig} : ∀ j, 0 < OZ c j g () → g.1.2 = .tc ∧ 40 ≤ lv g ()
  | 0, h => absurd h (Nat.lt_irrefl 0)
  | j + 1, h => by
    rcases add_pos_or h with h | h
    · exact OZ_pos c j h
    · unfold TZ at h
      split at h
      · exact absurd h (Nat.lt_irrefl 0)
      · have := tally_pos h; subst this
        refine ⟨rfl, ?_⟩
        dsimp only [lv]; rw [kind_zr]
/-- The last `k` ring copies are owed at their receive cells, from level `30 - k` up. -/
theorem OR_pos (c : Dev nD) {g : GSem nD τ sig} : ∀ k, k ≤ 28 → 0 < OR c k g () → g.1.2 = .tc ∧ 30 - k ≤ lv g ()
  | 0, _, h => by have := OZ_pos c 4 h; exact ⟨this.1, by omega⟩
  | k + 1, hk, h => by
    have key : ∀ d, g = rcvG d (27 - k) (tgt d c) → g.1.2 = .tc ∧ 30 - (k + 1) ≤ lv g () := by
      intro d e; subst e
      refine ⟨rfl, ?_⟩
      dsimp only [lv]; rw [kind_rcvN d (by omega)]; show 30 - (k + 1) ≤ 2 + (27 - k); omega
    rcases add_pos_or h with h | h
    · rcases add_pos_or h with h | h
      · have := OR_pos c k (by omega) h; exact ⟨this.1, by omega⟩
      · exact key true (tally_pos h)
    · exact key false (tally_pos h)
theorem OB_pos (c : Dev nD) {g : GSem nD τ sig} : ∀ j, 0 < OB c j g () → g.1.2 = .tc ∧ 1 ≤ lv g ()
  | 0, h => by have := OR_pos c 28 le_rfl h; exact ⟨this.1, by omega⟩
  | j + 1, h => by
    rcases add_pos_or h with h | h
    · exact OB_pos c j h
    · have := tally_pos h; subst this; exact ⟨rfl, le_rfl⟩

/-- A core may wait at a cell below everything it owes. -/
theorem mayWait_below (c : Dev nD) (sm : SemLoc sig) (O : CellTallies nD τ sig Unit) (n : ℕ) (hn : lv ((c : Thread nD τ), sm) () ≤ n)
    (h : ∀ g, 0 < O g () → g.1.2 = .tc ∧ n + 1 ≤ lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by cases u; unfold L; rw [if_pos (h g hg).1]; exact Finset.mem_singleton_self _)
    (fun p hp => by rw [Finset.mem_singleton.mp hp]; exact hn)
    (fun g u hg => by cases u; exact (h g hg).2)

/-! ## The persistent context -/

/-- A cell's invariant, at some name, and that its round is open. -/
def rec1 (g : GSem nD τ sig) : sProp 𝕄 := iprop(∃ κ : ℕ, cellInv ER (Rd m) κ g ∗ reached ER g 0)
instance rec1_persistent (g : GSem nD τ sig) : BI.Persistent (rec1 m g) := by unfold rec1; infer_instance
/-- Every cell's, and the levels. -/
def Ctx : sProp 𝕄 := iprop((bigSep Finset.univ fun ck : Dev nD × Option J => rec1 m (kcell ck)) ∗ levAts L lv)
instance Ctx_persistent : BI.Persistent (Ctx (F := F) m) := by unfold Ctx; infer_instance
theorem Ctx_rec (ck : Dev nD × Option J) : (Ctx m : sProp 𝕄) ⊢ rec1 m (kcell ck) := by
  classical
  have h : (bigSep Finset.univ fun ck : Dev nD × Option J => rec1 m (kcell ck) : sProp 𝕄) ⊢ rec1 m (kcell ck) := bigSep_elim (Finset.mem_univ ck)
  unfold Ctx
  iintro ⟨H, -⟩
  iapply h
  iexact H
theorem Ctx_lev : (Ctx m : sProp 𝕄) ⊢ levAts L lv := by unfold Ctx; iintro ⟨-, H⟩; iexact H
theorem Ctx_bar (c : Dev nD) : (Ctx m : sProp 𝕄) ⊢ rec1 m (barG c) := Ctx_rec m (c, none)
theorem Ctx_snd (d : Bool) {n : ℕ} (h : n < 28) (c : Dev nD) : (Ctx m : sProp 𝕄) ⊢ rec1 m (sndG d n c) := Ctx_rec m (c, some (.inl (false, d, ⟨n, h⟩)))
theorem Ctx_rcv (d : Bool) {n : ℕ} (h : n < 28) (c : Dev nD) : (Ctx m : sProp 𝕄) ⊢ rec1 m (rcvG d n c) := Ctx_rec m (c, some (.inl (true, d, ⟨n, h⟩)))
theorem Ctx_zs (u : Fin 4) (c : Dev nD) : (Ctx m : sProp 𝕄) ⊢ rec1 m (zsG u c) := Ctx_rec m (c, some (.inr (.inl u)))
theorem Ctx_zr (k : Fin 3) (c : Dev nD) : (Ctx m : sProp 𝕄) ⊢ rec1 m (zrG k c) := Ctx_rec m (c, some (.inr (.inr k)))

/-- What core `c` owes, whatever it has waited for. -/
def ow (c : Dev nD) (O : CellTallies nD τ sig Unit) : sProp 𝕄 := iprop(∃ W, owes (c : Thread nD τ) O W)

end Cert.Moe

end
-- ==== Proof.Blocks.lean ====
/-
# The pieces of the body

One lemma for each piece of the program: a wait, a ring copy, a partial product, an accumulation. Each says what the
piece takes, what it gives back, and what value it yields.
-/
module

public import proofs.«01_k».proof.Proof.Protocol
public import Idealize.ShloMosaic.Lib.ViewIndex
public import Idealize.ShloMosaic.Lib.Writes

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The run of a piece on core `c`. -/
abbrev run {α : Type} (c : Dev nD) (p : PR F α) (Q : α → sProp 𝕄) : sProp 𝕄 :=
  wp frame (wpE (defs₀ (F := F)) 𝒱₀ (c : Thread nD τ) none) Set.univ p Q

theorem run_ret {α : Type} (c : Dev nD) (a : α) (Q : α → sProp 𝕄) : Q a ⊢ run c (.ret a) Q := by
  unfold run; rw [wp_ret]; iintro H; imodintro; iexact H
theorem run_bind {α β : Type} (c : Dev nD) (p : PR F α) (k : α → PR F β) (Q : β → sProp 𝕄) :
    run c (p >>= k) Q = run c p (fun a => run c (k a) Q) := wp_bind ..

theorem kPay_snd (c : Dev nD) (d : Bool) (n : Fin 28) : kPay m c (.snd d n) = slotAny c (accW d n.val) := rfl
theorem kPay_rcv (c : Dev nD) (d : Bool) (n : Fin 28) : kPay m c (.rcv d n) = slotIs c (rcvW d n.val) (RCV m d n.val c) := rfl
theorem kPay_zs (c : Dev nD) (u : Fin 4) : kPay m c (.zs u) = slotAny c (sW u) := rfl
theorem kPay_zr (c : Dev nD) (k : Fin 3) : kPay m c (.zr k) = slotIs c (zW k) (ZV m k c) := rfl

/-- A wait on a DMA cell with one duty: the payload arrives and the cell closes. -/
theorem wait_dma {α : Type} (c : Dev nD) (q : DmaSem sig) (hq : kDuties c (semKind q) = {0})
    {w : TpuEff nD τ sig (Elt F) Λ₀ .tc PUnit} {k' : ℕ} (hk : k' = kAmount (semKind q))
    (hw : ∀ K : PUnit → sProp 𝕄, wpE (defs₀ (F := F)) 𝒱₀ (c : Thread nD τ) none Set.univ w K = waitSpec (c : Thread nD τ) Set.univ (.dma q) k' K)
    (k : PUnit → PR F α) (Q : α → sProp 𝕄) (O : CellTallies nD τ sig Unit) (lvl : ℕ)
    (hl : lv ((c : Thread nD τ), .dma q) () ≤ lvl) (hO : ∀ g, 0 < O g () → g.1.2 = .tc ∧ lvl + 1 ≤ lv g ()) :
    iprop(rec1 m ((c : Thread nD τ), .dma q) ∗ levAts L lv ∗ atPos ER ((c : Thread nD τ), .dma q) 0 ∅ 0
        ∗ cred (tallyAt ((c : Thread nD τ), .dma q) () (kAmount (semKind q))) ∗ ow c O
        ∗ ((semVal ((c : Thread nD τ), .dma q) 0 ∗ kPay m c (semKind q) ∗ ow c O) -∗ run c (k ⟨⟩) Q))
      ⊢ run c (.op w k) Q := by
  subst hk
  unfold rec1 ow
  iintro ⟨⟨%κ, #HI, -⟩, #Hl, Hat, Hc, ⟨%W, HO⟩, Hk⟩
  iapply (Rounds.wp_wait_rest_token 𝒱₀ ER (Rd m) (c : Thread nD τ) none (κ := κ) hw (Set.mem_univ _) () (O := O) (W := W) (R := 0) (m := 0) (T := ∅)
      (by rw [Nat.zero_add, expect_dma m c q hq])) $$ [Hc HO Hat]
  · isplitr; · iexact HI
    isplitl [Hc]; · iexact Hc
    isplitl [HO]; · iexact HO
    isplitr; · iapply (mayWait_below c (.dma q) O lvl hl hO); iexact Hl
    iexact Hat
  iintro ⟨HO, Hat, -, Hp⟩
  imod (Rounds.cell_close ER (Rd m) (Set.mem_univ κ) (fun h => h) (R := 0 + 1) (duties_later m _)) $$ [Hat] with Hz
  · isplitr; · iexact HI
    iexact Hat
  ihave Hp := (Entails.of_eq (rest_dma m c q hq)) $$ Hp
  iapply Hk
  isplitl [Hz]; · iexact Hz
  isplitl [Hp]; · iexact Hp
  iexists _; iexact HO

/-! ## The slots' elements, as copies name them -/

theorem read_write_re {κ : Kind} {sp : Space} {s s' : Shape} {e : EltTy} (V : View sig κ sp s e) (h : s'.numel = s.numel) (fd : V.ty.Contents (Elt F)) (w : s'.Idx → Elt F e) :
    V.read (Elt F) ((V.reshape s' h).write (Elt F) fd w Finset.univ) = fun x => w ((Shape.reshapeEquiv h).symm x) := by
  funext x
  obtain ⟨y, rfl⟩ := (Shape.reshapeEquiv h).surjective x
  rw [Equiv.symm_apply_apply]
  exact View.read_write_reshape V h fd w y
theorem read_rcv_write (d : Bool) (s : Fin 7) (u : Fin 4) (b : Fin 7) (fd : ((rcvM d).view).ty.Contents (Elt F)) (fs : ((accM d).view).ty.Contents (Elt F)) :
    ((rcvM d).access (rcvR s u)).read (Elt F) ((rcvV d s u).view.write (Elt F) fd ((accV d b u).view.read (Elt F) fs) Finset.univ)
      = ((accM d).access (accR b u)).read (Elt F) fs := by
  refine (read_write_re ((rcvM d).access (rcvR s u)) _ fd _).trans (funext fun x => ?_)
  exact congrArg (((accM d).access (accR b u)).read (Elt F) fs) (Equiv.apply_symm_apply (Shape.reshapeEquiv _) x)

theorem acc_off (d : Bool) {o o' : Fin 4 → ℕ} (h : o = o') (p : ∀ a, o a + S1x1x64x512.size a ≤ S2x4x64x512.size a) (p' : ∀ a, o' a + S1x1x64x512.size a ≤ S2x4x64x512.size a) :
    ((accM d).access (Rect.unit (s := S2x4x64x512) o S1x1x64x512.size p) : View sig .tc .vmem S1x1x64x512 .bf16) = (accM d).access (Rect.unit (s := S2x4x64x512) o' S1x1x64x512.size p') := by
  subst h; rfl
theorem nOf_b (s : Fin 7) (u : Fin 4) : (bOf (4 * s.val + u.val)).val % 2 = s.val % 2 := by
  have := u.isLt; show (4 * s.val + u.val) / 4 % 2 % 2 = _; omega
theorem nOf_s (s : Fin 7) (u : Fin 4) : sOf (4 * s.val + u.val) = s := by
  have := u.isLt; have := s.isLt; refine Fin.ext ?_; show (4 * s.val + u.val) / 4 % 7 = _; omega
theorem nOf_u (s : Fin 7) (u : Fin 4) : uOf (4 * s.val + u.val) = u := by
  have := u.isLt; refine Fin.ext ?_; show (4 * s.val + u.val) % 4 = _; omega
theorem accW_eq (d : Bool) (s : Fin 7) (u : Fin 4) : accW d (4 * s.val + u.val) = (accM d).access (accR s u) := by
  exact acc_off d (by rw [nOf_b s u, nOf_u s u]) _ _
theorem rcvW_eq (d : Bool) (s : Fin 7) (u : Fin 4) : rcvW d (4 * s.val + u.val) = (rcvM d).access (rcvR s u) := by
  unfold rcvW; rw [nOf_s, nOf_u]

set_option maxHeartbeats 1000000 in
theorem snd_core (c : Dev nD) (d : Bool) (n : ℕ) (h28 : n < 28) (hn : n = 4 * (sOf n).val + (uOf n).val) (D : Dev nD) (hD : D = tgt d c)
    {hsc : (rcvV d (sOf n) (uOf n) : Memref sig (Dev.tc D : Thread nD τ).2.kind .vmem S64x512 .bf16).view.ref.isScScratch = false}
    {hsrc : (accV d (sOf n) (uOf n)).view.WordExact} {hdst : (rcvV d (sOf n) (uOf n)).view.WordExact}
    {hsem : DmaTarget.Typed .vmem (.dma (rcvN d n)) (.remote (Dev.tc D : Thread nD τ) (rcvV d (sOf n) (uOf n)) (.dma (sndN d n)) hsc)}
    (O : CellTallies nD τ sig Unit) (Q : PUnit → sProp 𝕄) :
    iprop(Ctx m ∗ slotIs c (accW d n) (ACC m d (uOf n) (n / 4) c) ∗ slotAny (tgt d c) (rcvW d n) ∗ ow c (O + TR d n c)
        ∗ dutyTok ER (sndG d n c) 0 0 ∗ dutyTok ER (rcvG d n (tgt d c)) 0 0
        ∗ ((cred (tallyAt (sndG d n c) () N1) ∗ ow c O) -∗ Q ⟨⟩))
      ⊢ run c (.op (.enqueueDma (accV d (sOf n) (uOf n)) (.remote (Dev.tc D : Thread nD τ) (rcvV d (sOf n) (uOf n)) (.dma (sndN d n)) hsc) (.dma (rcvN d n)) hsrc hdst hsem) .ret) Q := by
  have hks := kind_sndN d h28
  have hkr := kind_rcvN d h28
  subst hD
  have ea : accW d n = (accM d).access (accR (sOf n) (uOf n)) := (congrArg (accW d) hn).trans (accW_eq d _ _)
  rw [ea]
  unfold slotIs slotAny ow
  iintro ⟨#HC, ⟨%fs, %hfs, Hs⟩, ⟨%fd, Hd⟩, ⟨%W, HO⟩, Ht1, Ht2, Hk⟩
  ihave Hr1 := (Ctx_snd m d h28 c) $$ HC
  ihave Hr2 := (Ctx_rcv m d h28 (tgt d c)) $$ HC
  unfold rec1
  icases Hr1 with ⟨%κ₁, #HI1, #HR1⟩
  icases Hr2 with ⟨%κ₂, #HI2, #HR2⟩
  iapply (Rounds.wp_send_pointsTo 𝒱₀ ER (Rd m) (c : Thread nD τ) none (c' := (tgt d c : Thread nD τ)) (src := accV d (sOf n) (uOf n)) (dst := rcvV d (sOf n) (uOf n)) (κ₁ := κ₁) (κ₂ := κ₂) (r₁ := 0) (r₂ := 0) (d₁ := 0) (d₂ := 0) (fs := fs) (fd := fd)
      (by rw [duties_dma, hks]; exact Finset.mem_singleton_self _) (by rw [duties_dma, hkr]; exact Finset.mem_singleton_self _)
      () () N1 (by cases d <;> rfl) (by rw [amount_dma, hks]; rfl) (by rw [amount_dma, hkr]; rfl) O rfl (W := W)
      (by
        rw [payload_dma, hks, kPay_snd]
        rw [ea]
        rw [Memref.set_view_squeeze]
        unfold slotAny
        iintro H; iexists fs; iexact H)
      (by
        rw [payload_dma, hkr, kPay_rcv]
        rw [Memref.set_view_squeeze]
        unfold slotIs RCV
        iintro H; iexists _
        isplitr
        rotate_left
        · iexact H
        · ipureintro
          refine (read_rcv_write d (sOf n) (uOf n) (sOf n) fd fs).trans (hfs.trans ?_)
          have := tgt_tgt (!d) c
          rw [Bool.not_not] at this
          rw [this])) $$ [Hs Hd HO Ht1 Ht2]
  · isplitr; · iexact HI1
    isplitr; · iexact HI2
    isplitl [Hs]; · rw [Memref.set_view_squeeze]; iexact Hs
    isplitl [Hd]; · rw [Memref.set_view_squeeze]; iexact Hd
    isplitl [HO]; · iexact HO
    isplitl [Ht1]; · iexact Ht1
    isplitr; · iexact HR1
    isplitl [Ht2]; · iexact Ht2
    iexact HR2
  iintro ⟨Hc, HO⟩
  iapply run_ret
  iapply Hk
  isplitl [Hc]; · iexact Hc
  iexists _; iexact HO

/-- A ring copy's whole effect: both tokens, the slot to send and the slot to fill go in; the send's credit comes out. -/
theorem snd_spec (c : Dev nD) (d : Bool) (s : Fin 7) (u : Fin 4) (n : ℕ) (hn : n = 4 * s.val + u.val) (O : CellTallies nD τ sig Unit) (Q : PUnit → sProp 𝕄) :
    iprop(Ctx m ∗ slotIs c (accW d n) (ACC m d (uOf n) (n / 4) c) ∗ slotAny (tgt d c) (rcvW d n) ∗ ow c (O + TR d n c)
        ∗ dutyTok ER (sndG d n c) 0 0 ∗ dutyTok ER (rcvG d n (tgt d c)) 0 0
        ∗ ((cred (tallyAt (sndG d n c) () N1) ∗ ow c O) -∗ Q ⟨⟩))
      ⊢ run c (sndP c d s u) Q := by
  have h28 : n < 28 := by have := s.isLt; have := u.isLt; omega
  have hs : sOf n = s := by subst hn; exact nOf_s s u
  have hu : uOf n = u := by subst hn; exact nOf_u s u
  have hks := kind_sndN d h28
  have hkr := kind_rcvN d h28
  unfold sndP
  simp only [Prog.lift]
  subst hs hu
  refine snd_core m c d n h28 hn (devD d (sOf n) (uOf n) c) (devD_eq d _ _ c) O Q

/-- The two waits of a direction. -/
theorem waits_spec (c : Dev nD) (d : Bool) (s : Fin 7) (u : Fin 4) (n : ℕ) (hn : n = 4 * s.val + u.val) (O : CellTallies nD τ sig Unit)
    (hO : ∀ g, 0 < O g () → g.1.2 = .tc ∧ n + 3 ≤ lv g ()) (Q : PUnit → sProp 𝕄) :
    iprop(Ctx m ∗ atPos ER (sndG d n c) 0 ∅ 0 ∗ atPos ER (rcvG d n c) 0 ∅ 0 ∗ cred (tallyAt (sndG d n c) () N1) ∗ cred (tallyAt (rcvG d n c) () N1) ∗ ow c O
        ∗ ((semVal (sndG d n c) 0 ∗ semVal (rcvG d n c) 0 ∗ slotAny c (accW d n) ∗ slotIs c (rcvW d n) (RCV m d n c) ∗ ow c O) -∗ Q ⟨⟩))
      ⊢ run c (waitsP d s u) Q := by
  have h28 : n < 28 := by have := s.isLt; have := u.isLt; omega
  have hs : sOf n = s := by subst hn; exact nOf_s s u
  have hu : uOf n = u := by subst hn; exact nOf_u s u
  have hks := kind_sndN d h28
  have hkr := kind_rcvN d h28
  subst hs hu
  unfold waitsP
  simp only [Prog.lift, Prog.bind_op, Prog.bind_ret, Prog.pure_eq_ret]
  iintro ⟨#HC, Ha1, Ha2, Hc1, Hc2, HO, Hk⟩
  ihave #Hr1 := (Ctx_snd m d h28 c) $$ HC
  ihave #Hr2 := (Ctx_rcv m d h28 c) $$ HC
  ihave #Hl := (Ctx_lev m) $$ HC
  iapply (wait_dma m c (sndN d n) (by rw [hks]; rfl) (k' := N1) (by rw [hks]; rfl)
    (by cases d <;> exact wpE_waitDma2_eq 𝒱₀ (c : Thread nD τ) none Set.univ) _ Q O 0 (by dsimp only [lv]; rw [hks])
    (fun g hg => ⟨(hO g hg).1, by have := (hO g hg).2; omega⟩))
  rw [hks, kPay_snd]
  isplitr; · iexact Hr1
  isplitr; · iexact Hl
  isplitl [Ha1]; · iexact Ha1
  isplitl [Hc1]; · iexact Hc1
  isplitl [HO]; · iexact HO
  iintro ⟨Hz1, Hp1, HO⟩
  iapply (wait_dma m c (rcvN d n) (by rw [hkr]; rfl) (k' := N1) (by rw [hkr]; rfl)
    (by cases d <;> exact wpE_waitDma2_eq 𝒱₀ (c : Thread nD τ) none Set.univ) _ Q O (2 + n) (by dsimp only [lv]; rw [hkr])
    (fun g hg => ⟨(hO g hg).1, by have := (hO g hg).2; omega⟩))
  rw [hkr, kPay_rcv]
  isplitr; · iexact Hr2
  isplitr; · iexact Hl
  isplitl [Ha2]; · iexact Ha2
  isplitl [Hc2]; · iexact Hc2
  isplitl [HO]; · iexact HO
  iintro ⟨Hz2, Hp2, HO⟩
  iapply run_ret
  iapply Hk
  isplitl [Hz1]; · iexact Hz1
  isplitl [Hz2]; · iexact Hz2
  isplitl [Hp1]; · iexact Hp1
  isplitl [Hp2]; · iexact Hp2
  iexact HO

/-! ## Loads and stores -/

/-- A load of a slot that is known. -/
theorem load_slot {α : Type} {sp : CoreSpace} {s : Shape} {e : EltTy} (c : Dev nD) (M : Memref sig .tc sp s e) (R : Rect s) (w : R.shape.Idx → Elt F e) {hl : M.view.LoadsAt R.toLoadRect}
    (k : (R.shape.Idx → Elt F e) → PR F α) (Q : α → sProp 𝕄) :
    iprop(slotIs c (M.access R) w ∗ (slotIs c (M.access R) w -∗ run c (k w) Q)) ⊢ run c (.op (.load M R.toLoadRect hl) k) Q := by
  unfold slotIs
  iintro ⟨⟨%f, %hf, H⟩, Hk⟩
  iapply (wp_load_rect 𝒱₀ (c : Thread nD τ) none Set.univ (m := M) (r := R) (Finset.Subset.refl _)) $$ H; iintro H
  rw [hf]
  iapply Hk
  iexists f; isplitr; · (ipureintro; exact hf)
  iexact H
/-- A load of a slot of unknown contents, its value unused. -/
theorem load_any {α : Type} {sp : CoreSpace} {s : Shape} {e : EltTy} (c : Dev nD) (M : Memref sig .tc sp s e) (R : Rect s) {hl : M.view.LoadsAt R.toLoadRect}
    (k : PR F α) (Q : α → sProp 𝕄) :
    iprop(slotAny c (M.access R) ∗ (slotAny c (M.access R) -∗ run c k Q)) ⊢ run c (.op (.load M R.toLoadRect hl) fun _ => k) Q := by
  unfold slotAny
  iintro ⟨⟨%f, H⟩, Hk⟩
  iapply (wp_load_rect 𝒱₀ (c : Thread nD τ) none Set.univ (m := M) (r := R) (Finset.Subset.refl _)) $$ H; iintro H
  iapply Hk
  iexists f; iexact H
/-- A store over a whole slot. -/
theorem store_slot {α : Type} {sp : CoreSpace} {s : Shape} {e : EltTy} (c : Dev nD) (M : Memref sig .tc sp s e) (R : Rect s) (w : R.shape.Idx → Elt F e)
    {hx : (M.access R).Stores Finset.univ} {hm : (Finset.univ : Finset R.shape.Idx) = Finset.univ ∨ ∀ a, R.stride a = 1}
    (k : PUnit → PR F α) (Q : α → sProp 𝕄) :
    iprop(slotAny c (M.access R) ∗ (slotIs c (M.access R) w -∗ run c (k ⟨⟩) Q)) ⊢ run c (.op (.store M R w Finset.univ hx hm) k) Q := by
  unfold slotAny slotIs
  iintro ⟨⟨%f, H⟩, Hk⟩
  iapply (wp_store 𝒱₀ (c : Thread nD τ) none Set.univ (m := M) (r := R) (Mk := Finset.univ) (View.setOn_subset_set _ _)) $$ H; iintro H
  iapply Hk
  iexists _; isplitr
  rotate_left
  · iexact H
  · ipureintro; exact View.read_write_univ _ _

/-- One accumulation. -/
theorem acc_spec (c : Dev nD) (d : Bool) (s : Fin 6) (u : Fin 4) (n : ℕ) (hn : n = 4 * s.val + u.val) (Q : PUnit → sProp 𝕄) :
    iprop(slotIs c (rcvW d n) (RCV m d n c) ∗ slotAny c (accW d (n + 4))
        ∗ ((slotIs c (rcvW d n) (RCV m d n c) ∗ slotIs c (accW d (n + 4)) (ACC m d (uOf (n + 4)) ((n + 4) / 4) c)) -∗ Q ⟨⟩))
      ⊢ run c (accP d s u (partF m d (offS d c s.castSucc) c)) Q := by
  have e1 : rcvW d n = (rcvM d).access (rcvR s.castSucc u) := by rw [hn]; exact rcvW_eq d s.castSucc u
  have e2 : accW d (n + 4) = (accM d).access (accR s.succ u) := by
    rw [← accW_eq d s.succ u]; congr 1; rw [hn, Fin.val_succ]; omega
  have e3 : ACC m d (uOf (n + 4)) ((n + 4) / 4) c = stepV u (partF m d (offS d c s.castSucc) c) (RCV m d n c) := by
    have hu : uOf (n + 4) = u := by refine Fin.ext ?_; show (n + 4) % 4 = u.val; have := u.isLt; omega
    have hu' : uOf n = u := by refine Fin.ext ?_; show n % 4 = u.val; have := u.isLt; omega
    have hs : (n + 4) / 4 = s.val + 1 := by have := u.isLt; omega
    have hs' : n / 4 = s.val := by have := u.isLt; omega
    have hst : stp s.val = s.castSucc := by refine Fin.ext ?_; show s.val % 7 = s.val; have := s.isLt; omega
    unfold RCV
    rw [hu, hu', hs, hs', ACC, hst]
  rw [e1, e2, e3]
  unfold accP
  simp only [Prog.lift, Prog.bind_op, Prog.bind_ret, Prog.pure_eq_ret]
  iintro ⟨Hr, Ha, Hk⟩
  iapply (load_slot c (rcvM d) (rcvR s.castSucc u) (RCV m d n c))
  isplitl [Hr]; · iexact Hr
  iintro Hr
  iapply (load_any c (accM d) (accR s.succ u))
  isplitl [Ha]; · iexact Ha
  iintro Ha
  iapply (store_slot c (accM d) (accR s.succ u))
  isplitl [Ha]; · iexact Ha
  iintro Ha
  iapply run_ret
  iapply Hk
  isplitl [Hr]; · iexact Hr
  iexact Ha

/-- A whole buffer holding `f`. -/
abbrev whl (c : Dev nD) (b : Ref sig .tc) (f : Buf (Elt F) ((c : Thread nD τ).loc b)) : sProp 𝕄 := ((c : Thread nD τ).loc b) ↦{fullShare} f

/-- What a partial product reads: the rounded rows, the gates, the expert weights. -/
def rds (c : Dev nD) : sProp 𝕄 :=
  iprop(whl c cc0_scratch0 (xbC m c) ∗ whl c cc0_scratch1 (gtC m c) ∗ whl c cc0_stg3_0 (EW m c))

/-- A partial product. -/
theorem part_spec (c : Dev nD) (d : Bool) (o : POff) (Q : FVec F S256x512 .f32 → sProp 𝕄) :
    iprop(rds m c ∗ (rds m c -∗ Q (partF m d o c))) ⊢ run c (partP d o) Q := by
  unfold partP rds partF
  simp only [Prog.lift, Prog.bind_op, Prog.bind_ret, Prog.pure_eq_ret]
  iintro ⟨⟨Hx, Hg, Hw⟩, Hk⟩
  iapply (wp_load 𝒱₀ (c : Thread nD τ) none Set.univ (m := xbM) (Finset.subset_univ _)) $$ Hx; iintro Hx
  iapply (wp_load 𝒱₀ (c : Thread nD τ) none Set.univ (m := gtM) (Finset.subset_univ _)) $$ Hg; iintro Hg
  iapply (wp_load 𝒱₀ (c : Thread nD τ) none Set.univ (m := ewM) (Finset.subset_univ _)) $$ Hw; iintro Hw
  iapply (wp_load 𝒱₀ (c : Thread nD τ) none Set.univ (m := gtM) (Finset.subset_univ _)) $$ Hg; iintro Hg
  iapply (wp_load 𝒱₀ (c : Thread nD τ) none Set.univ (m := ewM) (Finset.subset_univ _)) $$ Hw; iintro Hw
  iapply (wp_load 𝒱₀ (c : Thread nD τ) none Set.univ (m := gtM) (Finset.subset_univ _)) $$ Hg; iintro Hg
  iapply (wp_load 𝒱₀ (c : Thread nD τ) none Set.univ (m := ewM) (Finset.subset_univ _)) $$ Hw; iintro Hw
  iapply (wp_load 𝒱₀ (c : Thread nD τ) none Set.univ (m := gtM) (Finset.subset_univ _)) $$ Hg; iintro Hg
  iapply (wp_load 𝒱₀ (c : Thread nD τ) none Set.univ (m := ewM) (Finset.subset_univ _)) $$ Hw; iintro Hw
  iapply run_ret
  iapply Hk
  isplitl [Hx]; · iexact Hx
  isplitl [Hg]; · iexact Hg
  iexact Hw

end Cert.Moe

end
-- ==== Proof.Ring.lean ====
/-
# The ring

What a direction of the ring holds between two row blocks (`Dir`), how a row block takes from it and gives back, and the run of
the first copies and of the six ring steps.
-/
module

public import proofs.«01_k».proof.Proof.Blocks

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Runs of consecutive transfers -/

theorem ico_front (a b : ℕ) (h : a < b) (P : ℕ → sProp 𝕄) : bigSep (Finset.Ico a b) P = iprop(P a ∗ bigSep (Finset.Ico (a + 1) b) P) := by
  rw [show Finset.Ico a b = insert a (Finset.Ico (a + 1) b) from Finset.ext fun x => by simp only [Finset.mem_insert, Finset.mem_Ico]; omega]
  exact bigSep_insert (by simp)
theorem ico_back (a b : ℕ) (h : a ≤ b) (P : ℕ → sProp 𝕄) : bigSep (Finset.Ico a (b + 1)) P = iprop(P b ∗ bigSep (Finset.Ico a b) P) := by
  rw [show Finset.Ico a (b + 1) = insert b (Finset.Ico a b) from Finset.ext fun x => by simp only [Finset.mem_insert, Finset.mem_Ico]; omega]
  exact bigSep_insert (by simp)

/-- A copy out, its credit not yet collected. -/
abbrev fly (c : Dev nD) (d : Bool) (n : ℕ) : sProp 𝕄 := cred (tallyAt (sndG d n c) () N1)
/-- An accumulator slot to write. -/
abbrev free (c : Dev nD) (d : Bool) (n : ℕ) : sProp 𝕄 := slotAny c (accW d n)
/-- What a copy still to be sent takes. -/
def fresh (c : Dev nD) (d : Bool) (n : ℕ) : sProp 𝕄 :=
  iprop(dutyTok ER (sndG d n c) 0 0 ∗ dutyTok ER (rcvG d n (tgt d c)) 0 0 ∗ slotAny (tgt d c) (rcvW d n))
/-- What the two waits of a transfer take. -/
def poss (c : Dev nD) (d : Bool) (n : ℕ) : sProp 𝕄 :=
  iprop(atPos ER (sndG d n c) 0 ∅ 0 ∗ atPos ER (rcvG d n c) 0 ∅ 0 ∗ cred (tallyAt (rcvG d n c) () N1))
/-- What a finished transfer leaves. -/
def done (c : Dev nD) (d : Bool) (n : ℕ) : sProp 𝕄 :=
  iprop(semVal (sndG d n c) 0 ∗ semVal (rcvG d n c) 0 ∗ slotAny c (rcvW d n))

/-- A direction before transfer `k` is waited for: up to four copies are out. -/
def Dir (c : Dev nD) (d : Bool) (k : ℕ) : sProp 𝕄 :=
  iprop(bigSep (Finset.Ico k (min (k + 4) 28)) (fly (F := F) c d) ∗ bigSep (Finset.Ico (min (k + 4) 28) (k + 8)) (free (F := F) c d)
    ∗ bigSep (Finset.Ico (k + 4) 28) (fresh (F := F) c d) ∗ bigSep (Finset.Ico k 28) (poss (F := F) c d) ∗ bigSep (Finset.Ico 0 k) (done (F := F) c d))
/-- A direction while its first four copies are sent: `j` are out. -/
def Dir0 (c : Dev nD) (d : Bool) (j : ℕ) : sProp 𝕄 :=
  iprop(bigSep (Finset.Ico 0 j) (fly (F := F) c d) ∗ bigSep (Finset.Ico j 4) (fun n => slotIs c (accW d n) (ACC m d (uOf n) (n / 4) c))
    ∗ bigSep (Finset.Ico 4 8) (free (F := F) c d) ∗ bigSep (Finset.Ico j 28) (fresh (F := F) c d) ∗ bigSep (Finset.Ico 0 28) (poss (F := F) c d))

theorem accW_8 (d : Bool) (k : ℕ) : accW d (k + 8) = accW d k := by
  have h1 : bOf (k + 8) = bOf k := Fin.ext (by show (k + 8) / 4 % 2 = k / 4 % 2; omega)
  have h2 : uOf (k + 8) = uOf k := Fin.ext (by show (k + 8) % 4 = k % 4; omega)
  unfold accW
  rw [h1, h2]

theorem Dir_open (c : Dev nD) (d : Bool) (k : ℕ) (h : k < 24) :
    (Dir c d k : sProp 𝕄) ⊢ iprop(fly c d k ∗ poss c d k ∗ free c d (k + 4) ∗ fresh c d (k + 4)
      ∗ ((fly c d (k + 4) ∗ done c d k ∗ free c d k) -∗ Dir c d (k + 1))) := by
  unfold Dir
  rw [show min (k + 4) 28 = k + 4 by omega, show min (k + 1 + 4) 28 = k + 4 + 1 by omega, show k + 1 + 8 = k + 8 + 1 by omega, show k + 1 + 4 = k + 4 + 1 by omega]
  rw [ico_front k (k + 4) (by omega), ico_front (k + 4) (k + 8) (by omega), ico_front (k + 4) 28 (by omega), ico_front k 28 (by omega),
    ico_back (k + 1) (k + 4) (by omega), ico_back (k + 4 + 1) (k + 8) (by omega), ico_back 0 k (by omega)]
  iintro ⟨⟨A, A'⟩, ⟨B, B'⟩, ⟨C, C'⟩, ⟨D, D'⟩, E⟩
  isplitl [A]; · iexact A
  isplitl [D]; · iexact D
  isplitl [B]; · iexact B
  isplitl [C]; · iexact C
  iintro ⟨A, E', B⟩
  isplitl [A A']; · isplitl [A] <;> iassumption
  isplitl [B B']
  · isplitl [B]
    · rw [show free c d (k + 8) = (free c d k : sProp 𝕄) from congrArg (slotAny c) (accW_8 d k)]; iexact B
    iexact B'
  isplitl [C']; · iexact C'
  isplitl [D']; · iexact D'
  isplitl [E'] <;> iassumption

theorem Dir_open_last (c : Dev nD) (d : Bool) (k : ℕ) (h : 24 ≤ k) (h' : k < 28) :
    (Dir c d k : sProp 𝕄) ⊢ iprop(fly c d k ∗ poss c d k ∗ ((done c d k ∗ free c d k) -∗ Dir c d (k + 1))) := by
  unfold Dir
  rw [show min (k + 4) 28 = 28 by omega, show min (k + 1 + 4) 28 = 28 by omega, show k + 1 + 8 = k + 8 + 1 by omega,
    Finset.Ico_eq_empty (show ¬ k + 4 < 28 by omega), Finset.Ico_eq_empty (show ¬ k + 1 + 4 < 28 by omega)]
  rw [ico_front k 28 (by omega), ico_front k 28 (by omega), ico_back 28 (k + 8) (by omega), ico_back 0 k (by omega)]
  iintro ⟨⟨A, A'⟩, B', C', ⟨D, D'⟩, E⟩
  isplitl [A]; · iexact A
  isplitl [D]; · iexact D
  iintro ⟨E', B⟩
  isplitl [A']; · iexact A'
  isplitl [B B']
  · isplitl [B]
    · rw [show free c d (k + 8) = (free c d k : sProp 𝕄) from congrArg (slotAny c) (accW_8 d k)]; iexact B
    iexact B'
  isplitl [C']; · iexact C'
  isplitl [D']; · iexact D'
  isplitl [E'] <;> iassumption

theorem Dir0_open (c : Dev nD) (d : Bool) (j : ℕ) (h : j < 4) :
    (Dir0 m c d j : sProp 𝕄) ⊢ iprop(slotIs c (accW d j) (ACC m d (uOf j) (j / 4) c) ∗ fresh c d j ∗ (fly c d j -∗ Dir0 m c d (j + 1))) := by
  unfold Dir0
  rw [ico_front j 4 h, ico_front j 28 (by omega), ico_back 0 j (by omega)]
  iintro ⟨A, ⟨B, B'⟩, C, ⟨D, D'⟩, E⟩
  isplitl [B]; · iexact B
  isplitl [D]; · iexact D
  iintro A'
  isplitl [A A']; · isplitl [A'] <;> iassumption
  isplitl [B']; · iexact B'
  isplitl [C]; · iexact C
  isplitl [D'] <;> iassumption
theorem Dir0_done (c : Dev nD) (d : Bool) : (Dir0 m c d 4 : sProp 𝕄) ⊢ Dir c d 0 := by
  unfold Dir0 Dir
  rw [Finset.Ico_self, Finset.Ico_self, bigSep_empty, bigSep_empty]
  iintro ⟨A, -, C, D, E⟩
  isplitl [A]; · iexact A
  isplitl [C]; · iexact C
  isplitl [D]; · iexact D
  isplitl [E]; · iexact E
  iempintro

/-! ## The first copies -/

/-- The two first copies of row block `u`. -/
def firstP (c : Dev nD) (u : Fin 4) : PR F PUnit := do sndP c false 0 u; sndP c true 0 u
/-- Both directions while the first copies are sent. -/
def St0 (c : Dev nD) (j : ℕ) : sProp 𝕄 := iprop(Dir0 m c false j ∗ Dir0 m c true j ∗ ow c (OR c (28 - j)))

theorem owed_peel (c : Dev nD) (n : ℕ) (h : n < 28) : OR c (28 - n) = (OR c (28 - (n + 1)) + TR true n c) + TR false n c := by
  obtain ⟨k, hk⟩ : ∃ k, 28 - n = k + 1 := ⟨27 - n, by omega⟩
  rw [hk, show 28 - (n + 1) = k by omega, OR, show 27 - k = n by omega]

/-- The two copies of transfer `n`. -/
theorem pair_spec (c : Dev nD) (s : Fin 7) (u : Fin 4) (n : ℕ) (hn : n = 4 * s.val + u.val) (Q : PUnit → sProp 𝕄) :
    iprop(Ctx m ∗ slotIs c (accW false n) (ACC m false (uOf n) (n / 4) c) ∗ slotIs c (accW true n) (ACC m true (uOf n) (n / 4) c)
        ∗ fresh c false n ∗ fresh c true n ∗ ow c (OR c (28 - n)) ∗ ((fly c false n ∗ fly c true n ∗ ow c (OR c (28 - (n + 1)))) -∗ Q ⟨⟩))
      ⊢ run c (do sndP c false s u; sndP c true s u) Q := by
  have h28 : n < 28 := by have := s.isLt; have := u.isLt; omega
  rw [owed_peel c n h28, run_bind c (sndP c false s u)]
  unfold fresh
  iintro ⟨#HC, A, B, ⟨T1, T2, T3⟩, ⟨U1, U2, U3⟩, HO, Hk⟩
  iapply (snd_spec m c false s u n hn)
  isplitr; · iexact HC
  isplitl [A]; · iexact A
  isplitl [T3]; · iexact T3
  isplitl [HO]; · iexact HO
  isplitl [T1]; · iexact T1
  isplitl [T2]; · iexact T2
  iintro ⟨A, HO⟩
  iapply (snd_spec m c true s u n hn)
  isplitr; · iexact HC
  isplitl [B]; · iexact B
  isplitl [U3]; · iexact U3
  isplitl [HO]; · iexact HO
  isplitl [U1]; · iexact U1
  isplitl [U2]; · iexact U2
  iintro ⟨B, HO⟩
  iapply Hk
  isplitl [A]; · iexact A
  isplitl [B]; · iexact B
  iexact HO

theorem first_spec (c : Dev nD) (u : Fin 4) (k : ℕ) (hk : k = u.val) (Q : PUnit → sProp 𝕄) :
    iprop(Ctx m ∗ St0 m c k ∗ (St0 m c (k + 1) -∗ Q ⟨⟩)) ⊢ run c (firstP c u) Q := by
  have hk4 : k < 4 := hk ▸ u.isLt
  unfold St0
  iintro ⟨#HC, ⟨A, B, HO⟩, Hk⟩
  ihave A := (Dir0_open m c false k hk4) $$ A
  ihave B := (Dir0_open m c true k hk4) $$ B
  icases A with ⟨A1, A2, A3⟩
  icases B with ⟨B1, B2, B3⟩
  iapply (pair_spec m c 0 u k (by show k = 4 * 0 + u.val; omega))
  isplitr; · iexact HC
  isplitl [A1]; · iexact A1
  isplitl [B1]; · iexact B1
  isplitl [A2]; · iexact A2
  isplitl [B2]; · iexact B2
  isplitl [HO]; · iexact HO
  iintro ⟨A, B, HO⟩
  iapply Hk
  isplitl [A A3]; · iapply A3; iexact A
  isplitl [B B3]; · iapply B3; iexact B
  iexact HO

/-- Both directions before transfer `k` is waited for. -/
def St (c : Dev nD) (k : ℕ) : sProp 𝕄 := iprop(Dir c false k ∗ Dir c true k ∗ ow c (OR c (28 - (k + 4))))

theorem send0_eq (c : Dev nD) : (send0P c : PR F PUnit) = (do firstP c 0; firstP c 1; firstP c 2; firstP c 3) := by
  unfold firstP; simp only [Prog.bind_assoc]

theorem send0_spec (c : Dev nD) (Q : PUnit → sProp 𝕄) :
    iprop(Ctx m ∗ St0 m c 0 ∗ (St c 0 -∗ Q ⟨⟩)) ⊢ run c (send0P c) Q := by
  rw [send0_eq, run_bind c (firstP c 0), run_bind c (firstP c 1), run_bind c (firstP c 2)]
  iintro ⟨#HC, HS, Hk⟩
  iapply (first_spec m c 0 0 rfl)
  isplitr; · iexact HC
  isplitl [HS]; · iexact HS
  iintro HS
  iapply (first_spec m c 1 1 rfl)
  isplitr; · iexact HC
  isplitl [HS]; · iexact HS
  iintro HS
  iapply (first_spec m c 2 2 rfl)
  isplitr; · iexact HC
  isplitl [HS]; · iexact HS
  iintro HS
  iapply (first_spec m c 3 3 rfl)
  isplitr; · iexact HC
  isplitl [HS]; · iexact HS
  iintro HS
  iapply Hk
  unfold St0 St
  icases HS with ⟨A, B, HO⟩
  isplitl [A]; · iapply (Dir0_done m c false); iexact A
  isplitl [B]; · iapply (Dir0_done m c true); iexact B
  iexact HO

/-! ## A ring step -/

/-- One row block of a ring step. -/
theorem sub_spec (c : Dev nD) (s : Fin 6) (u : Fin 4) (k : ℕ) (hk : k = 4 * s.val + u.val) (Q : PUnit → sProp 𝕄) :
    iprop(Ctx m ∗ St c k ∗ (St c (k + 1) -∗ Q ⟨⟩))
      ⊢ run c (subP c s (partF m false (offS false c s.castSucc) c) (partF m true (offS true c s.castSucc) c) u) Q := by
  have h24 : k < 24 := by have := s.isLt; have := u.isLt; omega
  have hO : ∀ g, 0 < OR c (28 - (k + 4)) g () → g.1.2 = .tc ∧ k + 3 ≤ lv g () := fun g hg => by
    have := OR_pos c _ (by omega) hg; exact ⟨this.1, by omega⟩
  have hv : k = 4 * s.castSucc.val + u.val := hk
  unfold subP
  rw [run_bind c (waitsP false s.castSucc u), run_bind c (waitsP true s.castSucc u), run_bind c (accP false s u _), run_bind c (accP true s u _)]
  unfold St
  iintro ⟨#HC, ⟨A, B, HO⟩, Hk⟩
  ihave A := (Dir_open c false _ h24) $$ A
  ihave B := (Dir_open c true _ h24) $$ B
  unfold poss
  icases A with ⟨A1, ⟨A2, A3, A4⟩, A5, A6, A7⟩
  icases B with ⟨B1, ⟨B2, B3, B4⟩, B5, B6, B7⟩
  iapply (waits_spec m c false s.castSucc u k hv _ hO)
  isplitr; · iexact HC
  isplitl [A2]; · iexact A2
  isplitl [A3]; · iexact A3
  isplitl [A1]; · iexact A1
  isplitl [A4]; · iexact A4
  isplitl [HO]; · iexact HO
  iintro ⟨A1, A2, A3, A4, HO⟩
  iapply (waits_spec m c true s.castSucc u k hv _ hO)
  isplitr; · iexact HC
  isplitl [B2]; · iexact B2
  isplitl [B3]; · iexact B3
  isplitl [B1]; · iexact B1
  isplitl [B4]; · iexact B4
  isplitl [HO]; · iexact HO
  iintro ⟨B1, B2, B3, B4, HO⟩
  iapply (acc_spec m c false s u k hk)
  isplitl [A4]; · iexact A4
  isplitl [A5]; · iexact A5
  iintro ⟨A4, A5⟩
  iapply (acc_spec m c true s u k hk)
  isplitl [B4]; · iexact B4
  isplitl [B5]; · iexact B5
  iintro ⟨B4, B5⟩
  iapply (pair_spec m c s.succ u (k + 4) (by rw [Fin.val_succ]; omega))
  isplitr; · iexact HC
  isplitl [A5]; · iexact A5
  isplitl [B5]; · iexact B5
  isplitl [A6]; · iexact A6
  isplitl [B6]; · iexact B6
  isplitl [HO]; · iexact HO
  iintro ⟨A5, B5, HO⟩
  iapply Hk
  unfold done
  isplitl [A1 A2 A3 A4 A5 A7]
  · iapply A7
    isplitl [A5]; · iexact A5
    isplitr [A3]
    · isplitl [A1]; · iexact A1
      isplitl [A2]; · iexact A2
      iapply (slotIs_any (F := F)); iexact A4
    iexact A3
  isplitl [B1 B2 B3 B4 B5 B7]
  · iapply B7
    isplitl [B5]; · iexact B5
    isplitr [B3]
    · isplitl [B1]; · iexact B1
      isplitl [B2]; · iexact B2
      iapply (slotIs_any (F := F)); iexact B4
    iexact B3
  rw [show 28 - (k + 1 + 4) = 28 - (k + 4 + 1) by omega]
  iexact HO

/-- A ring step. -/
theorem step_spec (c : Dev nD) (s : Fin 6) (k : ℕ) (hk : k = 4 * s.val) (Q : PUnit → sProp 𝕄) :
    iprop(Ctx m ∗ rds m c ∗ St c k ∗ ((rds m c ∗ St c (k + 4)) -∗ Q ⟨⟩)) ⊢ run c (stepP c s) Q := by
  unfold stepP
  rw [run_bind c (partP false _)]
  iintro ⟨#HC, Hr, HS, Hk⟩
  iapply (part_spec m c false (offS false c s.castSucc))
  isplitl [Hr]; · iexact Hr
  iintro Hr
  rw [run_bind c (partP true _)]
  iapply (part_spec m c true (offS true c s.castSucc))
  isplitl [Hr]; · iexact Hr
  iintro Hr
  rw [run_bind c (subP c s _ _ 0), run_bind c (subP c s _ _ 1), run_bind c (subP c s _ _ 2)]
  iapply (sub_spec m c s 0 (k + 0) (by rw [hk]; rfl))
  isplitr; · iexact HC
  isplitl [HS]; · iexact HS
  iintro HS
  iapply (sub_spec m c s 1 (k + 1) (by rw [hk]; rfl))
  isplitr; · iexact HC
  isplitl [HS]; · iexact HS
  iintro HS
  iapply (sub_spec m c s 2 (k + 2) (by rw [hk]; rfl))
  isplitr; · iexact HC
  isplitl [HS]; · iexact HS
  iintro HS
  iapply (sub_spec m c s 3 (k + 3) (by rw [hk]; rfl))
  isplitr; · iexact HC
  isplitl [HS]; · iexact HS
  iintro HS
  iapply Hk
  isplitl [Hr]; · iexact Hr
  iexact HS

/-- The six ring steps. -/
theorem ring_spec (c : Dev nD) (Q : PUnit → sProp 𝕄) :
    iprop(Ctx m ∗ rds m c ∗ St c 0 ∗ ((rds m c ∗ St c 24) -∗ Q ⟨⟩)) ⊢ run c (ringP c) Q := by
  unfold ringP
  rw [run_bind c (stepP c 0), run_bind c (stepP c 1), run_bind c (stepP c 2), run_bind c (stepP c 3), run_bind c (stepP c 4)]
  iintro ⟨#HC, Hr, HS, Hk⟩
  iapply (step_spec m c 0 0 rfl)
  isplitr; · iexact HC
  isplitl [Hr]; · iexact Hr
  isplitl [HS]; · iexact HS
  iintro ⟨Hr, HS⟩
  iapply (step_spec m c 1 4 rfl)
  isplitr; · iexact HC
  isplitl [Hr]; · iexact Hr
  isplitl [HS]; · iexact HS
  iintro ⟨Hr, HS⟩
  iapply (step_spec m c 2 8 rfl)
  isplitr; · iexact HC
  isplitl [Hr]; · iexact Hr
  isplitl [HS]; · iexact HS
  iintro ⟨Hr, HS⟩
  iapply (step_spec m c 3 12 rfl)
  isplitr; · iexact HC
  isplitl [Hr]; · iexact Hr
  isplitl [HS]; · iexact HS
  iintro ⟨Hr, HS⟩
  iapply (step_spec m c 4 16 rfl)
  isplitr; · iexact HC
  isplitl [Hr]; · iexact Hr
  isplitl [HS]; · iexact HS
  iintro ⟨Hr, HS⟩
  iapply (step_spec m c 5 20 rfl)
  isplitr; · iexact HC
  isplitl [Hr]; · iexact Hr
  isplitl [HS]; · iexact HS
  iintro ⟨Hr, HS⟩
  iapply Hk
  isplitl [Hr]; · iexact Hr
  iexact HS

end Cert.Moe

end
-- ==== Proof.Last.lean ====
/-
# The ring's last step

The last step puts each direction's sum into its half of a row block of the reduced rows.
-/
module

public import proofs.«01_k».proof.Proof.Ring

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A half of a row block -/

theorem sh_sub (u : Fin 4) (d : Bool) : (sM.access (shR u d) : View sig .tc .vmem S64x512 .bf16).set ⊆ (sW u).set := by
  rw [View.set_slice_whole, View.set_slice_whole]
  intro x hx
  rw [Rect.mem_set_unit] at hx ⊢
  have h0 : 64 * u.val ≤ (x 0).val ∧ (x 0).val < 64 * u.val + 64 := hx 0
  intro a
  fin_cases a
  · exact h0
  · exact ⟨Nat.zero_le _, by have : (x 1).val < 1024 := (x 1).isLt; show (x 1).val < 0 + 1024; omega⟩
theorem sh_col (u : Fin 4) (d : Bool) (x : S256x1024.Idx) (hx : x ∈ (sM.access (shR u d) : View sig .tc .vmem S64x512 .bf16).set) :
    (bif d then 512 else 0) ≤ (x 1).val ∧ (x 1).val < (bif d then 512 else 0) + 512 := by
  rw [View.set_slice_whole] at hx
  exact (Rect.mem_set_unit.mp hx) 1

/-- A column of a row block that lies in the right half, and in the left one. -/
def inL (i : S64x1024.Idx) (h : (i 1).val < 512) : S64x512.Idx :=
  Fin.cons (α := fun a => Fin (S64x512.size a)) (i 0) (Fin.cons (α := fun a => Fin (S64x512.size a.succ)) ⟨(i 1).val, h⟩ (fun a => a.elim0))
def inH (i : S64x1024.Idx) : S64x512.Idx :=
  Fin.cons (α := fun a => Fin (S64x512.size a)) (i 0) (Fin.cons (α := fun a => Fin (S64x512.size a.succ)) ⟨(i 1).val - 512, by have h2 : (i 1).val < 1024 := (i 1).isLt; show (i 1).val - 512 < 512; omega⟩ (fun a => a.elim0))
theorem emb_L (u : Fin 4) (i : S64x1024.Idx) (h : (i 1).val < 512) : (sR u).emb i = (shR u false).emb (inL i h) := by
  funext a
  refine Fin.ext ?_
  fin_cases a
  · rfl
  · rfl
theorem emb_H (u : Fin 4) (i : S64x1024.Idx) (h : ¬ (i 1).val < 512) : (sR u).emb i = (shR u true).emb (inH i) := by
  funext a
  refine Fin.ext ?_
  fin_cases a
  · rfl
  · show 0 + 1 * (i 1).val = 512 + 1 * ((i 1).val - 512); omega

/-- Both halves written, a row block reads as the two halves side by side. -/
theorem halves_read (u : Fin 4) (c : Dev nD) (f : (sM : Memref sig .tc .vmem S256x1024 .bf16).view.ty.Contents (Elt F)) :
    (sW u).read (Elt F) ((sM.access (shR u true)).write (Elt F) ((sM.access (shR u false)).write (Elt F) f (FIN m false u c) Finset.univ) (FIN m true u c) Finset.univ)
      = SRow m u c := by
  funext i
  unfold SRow
  by_cases h : (i 1).val < 512
  · rw [dif_pos h]
    have h1 := congrFun (View.read_write_univ (Val := Elt F) (v := (sM.access (shR u false) : View sig .tc .vmem S64x512 .bf16)) f (FIN m false u c)) (inL i h)
    have h2 : (sM.access (shR u true)).write (Elt F) ((sM.access (shR u false)).write (Elt F) f (FIN m false u c) Finset.univ) (FIN m true u c) Finset.univ ((sR u).emb i)
        = (sM.access (shR u false)).write (Elt F) f (FIN m false u c) Finset.univ ((sR u).emb i) := by
      refine View.write_of_not_mem _ _ _ fun hm => ?_
      have hm' := sh_col u true ((sR u).emb i) (View.setOn_subset_set _ _ hm)
      have : 512 ≤ 0 + 1 * (i 1).val := hm'.1
      omega
    refine Eq.trans ?_ h1
    show _root_.cast _ _ = _root_.cast _ _
    exact (congrArg (_root_.cast _) h2).trans (congrArg (fun y => _root_.cast (congrArg (Elt F) sM.view.elt_eq) ((sM.access (shR u false)).write (Elt F) f (FIN m false u c) Finset.univ y)) (emb_L u i h))
  · rw [dif_neg h]
    have h1 := congrFun (View.read_write_univ (Val := Elt F) (v := (sM.access (shR u true) : View sig .tc .vmem S64x512 .bf16)) ((sM.access (shR u false)).write (Elt F) f (FIN m false u c) Finset.univ) (FIN m true u c)) (inH i)
    refine Eq.trans ?_ h1
    exact congrArg (fun y => _root_.cast (congrArg (Elt F) sM.view.elt_eq) ((sM.access (shR u true)).write (Elt F) ((sM.access (shR u false)).write (Elt F) f (FIN m false u c) Finset.univ) (FIN m true u c) Finset.univ y)) (emb_H u i h)

/-! ## The last step of a row block -/

theorem fin_val (d : Bool) (u : Fin 4) (n : ℕ) (hn : n = 4 * (6 : Fin 7).val + u.val) (c : Dev nD) : finV u (partF m d (offS d c 6) c) (RCV m d n c) = FIN m d u c := by
  have hn' : n = 24 + u.val := hn
  have hu : uOf n = u := Fin.ext (by show n % 4 = u.val; have := u.isLt; omega)
  have h6 : n / 4 = 6 := by have := u.isLt; omega
  unfold FIN RCV
  rw [hu, h6]

/-- Both directions' sums go into the row block. -/
theorem fin_spec (c : Dev nD) (u : Fin 4) (n : ℕ) (hn : n = 4 * (6 : Fin 7).val + u.val) (Q : PUnit → sProp 𝕄) :
    iprop(slotIs c (rcvW false n) (RCV m false n c) ∗ slotIs c (rcvW true n) (RCV m true n c) ∗ slotAny c (sW u)
        ∗ ((slotIs c (rcvW false n) (RCV m false n c) ∗ slotIs c (rcvW true n) (RCV m true n c) ∗ slotIs c (sW u) (SRow m u c)) -∗ Q ⟨⟩))
      ⊢ run c (do finP false u (partF m false (offS false c 6) c); finP true u (partF m true (offS true c 6) c)) Q := by
  have e1 : rcvW false n = (rcvM false).access (rcvR 6 u) := by rw [hn]; exact rcvW_eq false 6 u
  have e2 : rcvW true n = (rcvM true).access (rcvR 6 u) := by rw [hn]; exact rcvW_eq true 6 u
  have v1 := fin_val m false u n hn c
  have v2 := fin_val m true u n hn c
  rw [e1, e2]
  unfold finP
  simp only [Prog.lift, Prog.bind_op, Prog.bind_ret, Prog.pure_eq_ret]
  iintro ⟨Hr, Hl, Hs, Hk⟩
  iapply (load_slot c (rcvM false) (rcvR 6 u) (RCV m false n c))
  isplitl [Hr]; · iexact Hr
  iintro Hr
  rw [v1]
  unfold slotAny
  icases Hs with ⟨%f, Hs⟩
  iapply (wp_load_rect 𝒱₀ (c : Thread nD τ) none Set.univ (m := sM) (r := shR u false) (sh_sub u false)) $$ Hs; iintro Hs
  iapply (wp_store 𝒱₀ (c : Thread nD τ) none Set.univ (m := sM) (r := shR u false) (Mk := Finset.univ) ((View.setOn_subset_set _ _).trans (sh_sub u false))) $$ Hs; iintro Hs
  iapply (load_slot c (rcvM true) (rcvR 6 u) (RCV m true n c))
  isplitl [Hl]; · iexact Hl
  iintro Hl
  rw [v2]
  iapply (wp_load_rect 𝒱₀ (c : Thread nD τ) none Set.univ (m := sM) (r := shR u true) (sh_sub u true)) $$ Hs; iintro Hs
  iapply (wp_store 𝒱₀ (c : Thread nD τ) none Set.univ (m := sM) (r := shR u true) (Mk := Finset.univ) ((View.setOn_subset_set _ _).trans (sh_sub u true))) $$ Hs; iintro Hs
  iapply run_ret
  iapply Hk
  isplitl [Hr]; · iexact Hr
  isplitl [Hl]; · iexact Hl
  unfold slotIs
  iexists _
  isplitr
  rotate_left
  · iexact Hs
  · ipureintro; exact halves_read m u c f

/-- The last step's row block: both transfers end, the row block holds the ring's sums. -/
theorem last_spec (c : Dev nD) (u : Fin 4) (n : ℕ) (hn : n = 4 * (6 : Fin 7).val + u.val) (O : CellTallies nD τ sig Unit)
    (hO : ∀ g, 0 < O g () → g.1.2 = .tc ∧ 40 ≤ lv g ()) (Q : PUnit → sProp 𝕄) :
    iprop(Ctx m ∗ Dir c false n ∗ Dir c true n ∗ ow c O ∗ slotAny c (sW u)
        ∗ ((Dir c false (n + 1) ∗ Dir c true (n + 1) ∗ ow c O ∗ slotIs c (sW u) (SRow m u c)) -∗ Q ⟨⟩))
      ⊢ run c (lastP c (partF m false (offS false c 6) c) (partF m true (offS true c 6) c) u) Q := by
  have hn' : n = 24 + u.val := hn
  have h24 : 24 ≤ n := by omega
  have h28 : n < 28 := by have := u.isLt; omega
  have hO' : ∀ g, 0 < O g () → g.1.2 = .tc ∧ n + 3 ≤ lv g () := fun g hg => ⟨(hO g hg).1, by have := (hO g hg).2; omega⟩
  unfold lastP
  rw [run_bind c (waitsP false 6 u), run_bind c (waitsP true 6 u)]
  iintro ⟨#HC, A, B, HO, Hs, Hk⟩
  ihave A := (Dir_open_last c false n h24 h28) $$ A
  ihave B := (Dir_open_last c true n h24 h28) $$ B
  unfold poss done
  icases A with ⟨A1, ⟨A2, A3, A4⟩, A5⟩
  icases B with ⟨B1, ⟨B2, B3, B4⟩, B5⟩
  iapply (waits_spec m c false 6 u n hn O hO')
  isplitr; · iexact HC
  isplitl [A2]; · iexact A2
  isplitl [A3]; · iexact A3
  isplitl [A1]; · iexact A1
  isplitl [A4]; · iexact A4
  isplitl [HO]; · iexact HO
  iintro ⟨A1, A2, A3, A4, HO⟩
  iapply (waits_spec m c true 6 u n hn O hO')
  isplitr; · iexact HC
  isplitl [B2]; · iexact B2
  isplitl [B3]; · iexact B3
  isplitl [B1]; · iexact B1
  isplitl [B4]; · iexact B4
  isplitl [HO]; · iexact HO
  iintro ⟨B1, B2, B3, B4, HO⟩
  iapply (fin_spec m c u n hn)
  isplitl [A4]; · iexact A4
  isplitl [B4]; · iexact B4
  isplitl [Hs]; · iexact Hs
  iintro ⟨A4, B4, Hs⟩
  iapply Hk
  isplitl [A1 A2 A3 A4 A5]
  · iapply A5
    isplitr [A3]
    · isplitl [A1]; · iexact A1
      isplitl [A2]; · iexact A2
      iapply (slotIs_any (F := F)); iexact A4
    iexact A3
  isplitl [B1 B2 B3 B4 B5]
  · iapply B5
    isplitr [B3]
    · isplitl [B1]; · iexact B1
      isplitl [B2]; · iexact B2
      iapply (slotIs_any (F := F)); iexact B4
    iexact B3
  isplitl [HO]; · iexact HO
  iexact Hs

end Cert.Moe

end
-- ==== Proof.Exchange.lean ====
/-
# The second exchange

Row block `u` of the reduced rows goes to the device of layer `u` at the same place of its ring; the device of that layer keeps its own.
-/
module

public import proofs.«01_k».proof.Proof.Last

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the second exchange takes and leaves -/

/-- What the copy of row block `u` takes besides the row block. -/
def ZF (c : Dev nD) (u : Fin 4) : sProp 𝕄 :=
  if u = zOf c then iprop(emp) else iprop(dutyTok ER (zsG u c) 0 0 ∗ dutyTok ER (zrG (kk u (zOf c)) (zt u c)) 0 0 ∗ slotAny (zt u c) (zW (kk u (zOf c))))
/-- What it leaves: the copy is out, or the row block stays. -/
def ZC (c : Dev nD) (u : Fin 4) : sProp 𝕄 :=
  if u = zOf c then slotIs c (sW u) (SRow m u c) else cred (tallyAt (zsG u c) () N2)
/-- The row block once its copy has been waited for. -/
def ZD (c : Dev nD) (u : Fin 4) : sProp 𝕄 :=
  if u = zOf c then slotIs c (sW u) (SRow m u c) else slotAny c (sW u)

theorem z_off {o o' : Fin 3 → ℕ} (h : o = o') (p : ∀ a, o a + S1x64x1024.size a ≤ S3x64x1024.size a) (p' : ∀ a, o' a + S1x64x1024.size a ≤ S3x64x1024.size a) :
    ((zM.slice (Rect.unit (s := S3x64x1024) o S1x64x1024.size p) (fun _ => rfl)).squeeze S64x1024 squeezes_S1x64x1024_S64x1024 : Memref sig .tc .vmem S64x1024 .bf16)
      = (zM.slice (Rect.unit (s := S3x64x1024) o' S1x64x1024.size p') (fun _ => rfl)).squeeze S64x1024 squeezes_S1x64x1024_S64x1024 := by
  subst h; rfl

/-- A row block copied into a slot reads there as the row block. -/
theorem z_read (u : Fin 4) (c : Dev nD) (hu : u ≠ zOf c) (fd : (zM : Memref sig .tc .vmem S3x64x1024 .bf16).view.ty.Contents (Elt F)) (w : S64x1024.Idx → Elt F .bf16) (hw : w = SRow m u c) :
    (zW (kk u (zOf c))).read (Elt F) ((zV (kk u (zOf c))).view.write (Elt F) fd w Finset.univ) = ZV m (kk u (zOf c)) (zt u c) := by
  subst hw
  refine (read_write_re (zW (kk u (zOf c))) _ fd _).trans (funext fun x => ?_)
  unfold ZV
  rw [zOf_zt, zt_back u c hu, Shape.reshapeEquiv_symm]
  rfl

set_option maxHeartbeats 1000000 in
theorem zsend_core (c : Dev nD) (u : Fin 4) (hu : u ≠ zOf c) (D : Dev nD) (hD : D = zt u c) (o : Fin 3 → ℕ) (ho : o = ![(kk u (zOf c)).val, 0, 0]) (so : Fin 1 → ℕ) (hso : so = ![(kk u (zOf c)).val])
    (oinb : ∀ a, o a + S1x64x1024.size a ≤ S3x64x1024.size a) (sinb : ∀ a, so a + S1.size a ≤ S3.size a)
    {hsc : ((zM.slice (Rect.unit (s := S3x64x1024) o S1x64x1024.size oinb) (fun _ => rfl)).squeeze S64x1024 squeezes_S1x64x1024_S64x1024 : Memref sig (Dev.tc D : Thread nD τ).2.kind .vmem S64x1024 .bf16).view.ref.isScScratch = false}
    {hsrc : (sV u).view.WordExact} {hdst : ((zM.slice (Rect.unit (s := S3x64x1024) o S1x64x1024.size oinb) (fun _ => rfl)).squeeze S64x1024 squeezes_S1x64x1024_S64x1024 : Memref sig .tc .vmem S64x1024 .bf16).view.WordExact}
    {hsem : DmaTarget.Typed .vmem (.dma ((cc0_scratch14.slice (Rect.unit (s := S3) so S1.size sinb)).squeeze S_ squeezes_S1_S_).sem)
      (.remote (Dev.tc D : Thread nD τ) ((zM.slice (Rect.unit (s := S3x64x1024) o S1x64x1024.size oinb) (fun _ => rfl)).squeeze S64x1024 squeezes_S1x64x1024_S64x1024) (.dma (zsC u)) hsc)}
    (O : CellTallies nD τ sig Unit) (Q : PUnit → sProp 𝕄) :
    iprop(Ctx m ∗ slotIs c (sW u) (SRow m u c) ∗ slotAny (zt u c) (zW (kk u (zOf c))) ∗ ow c (O + tallyAt (zrG (kk u (zOf c)) (zt u c)) () N2)
        ∗ dutyTok ER (zsG u c) 0 0 ∗ dutyTok ER (zrG (kk u (zOf c)) (zt u c)) 0 0
        ∗ ((cred (tallyAt (zsG u c) () N2) ∗ ow c O) -∗ Q ⟨⟩))
      ⊢ run c (.op (.enqueueDma (sV u) (.remote (Dev.tc D : Thread nD τ) ((zM.slice (Rect.unit (s := S3x64x1024) o S1x64x1024.size oinb) (fun _ => rfl)).squeeze S64x1024 squeezes_S1x64x1024_S64x1024) (.dma (zsC u)) hsc)
          (.dma ((cc0_scratch14.slice (Rect.unit (s := S3) so S1.size sinb)).squeeze S_ squeezes_S1_S_).sem) hsrc hdst hsem) .ret) Q := by
  have hks := kind_zs u
  have hkr := kind_zr (kk u (zOf c))
  have hd : kDuties c (.zs u) = {0} := if_neg hu
  subst hD ho hso
  unfold slotIs slotAny ow
  iintro ⟨#HC, ⟨%fs, %hfs, Hs⟩, ⟨%fd, Hd⟩, ⟨%W, HO⟩, Ht1, Ht2, Hk⟩
  ihave Hr1 := (Ctx_zs m u c) $$ HC
  ihave Hr2 := (Ctx_zr m (kk u (zOf c)) (zt u c)) $$ HC
  unfold rec1
  icases Hr1 with ⟨%κ₁, #HI1, #HR1⟩
  icases Hr2 with ⟨%κ₂, #HI2, #HR2⟩
  iapply (Rounds.wp_send_pointsTo 𝒱₀ ER (Rd m) (c : Thread nD τ) none (c' := (zt u c : Thread nD τ)) (src := sV u) (dst := zV (kk u (zOf c))) (κ₁ := κ₁) (κ₂ := κ₂) (r₁ := 0) (r₂ := 0) (d₁ := 0) (d₂ := 0) (fs := fs) (fd := fd)
      (by rw [duties_dma, hks, hd]; exact Finset.mem_singleton_self _) (by rw [duties_dma, hkr]; exact Finset.mem_singleton_self _)
      () () N2 rfl (by rw [amount_dma, hks]; rfl) (by rw [amount_dma, hkr]; rfl) O rfl (W := W)
      (by
        rw [payload_dma, hks, kPay_zs]
        unfold slotAny
        iintro H; iexists fs; iexact H)
      (by
        rw [payload_dma, hkr, kPay_zr]
        rw [Memref.set_view_squeeze]
        unfold slotIs
        iintro H; iexists _
        isplitr
        rotate_left
        · iexact H
        · ipureintro
          exact z_read m u c hu fd _ hfs)) $$ [Hs Hd HO Ht1 Ht2]
  · isplitr; · iexact HI1
    isplitr; · iexact HI2
    isplitl [Hs]; · iexact Hs
    isplitl [Hd]; · rw [Memref.set_view_squeeze]; iexact Hd
    isplitl [HO]; · iexact HO
    isplitl [Ht1]; · iexact Ht1
    isplitr; · iexact HR1
    isplitl [Ht2]; · iexact Ht2
    iexact HR2
  iintro ⟨Hc, HO⟩
  iapply run_ret
  iapply Hk
  isplitl [Hc]; · iexact Hc
  iexists _; iexact HO

theorem zV_credit (k : Fin 3) : (zV k).view.dmaCredit = N2 := rfl
theorem sV_credit (u : Fin 4) : (sV u).view.dmaCredit = N2 := rfl

/-- The copy of row block `u`, by whichever device. -/
theorem sendZ_spec (c : Dev nD) (u : Fin 4) (O : CellTallies nD τ sig Unit) (Q : PUnit → sProp 𝕄) :
    iprop(Ctx m ∗ slotIs c (sW u) (SRow m u c) ∗ ZF c u ∗ ow c (O + TZ u c) ∗ ((ZC m c u ∗ ow c O) -∗ Q ⟨⟩)) ⊢ run c (sendZ c u) Q := by
  unfold sendZ ZF ZC TZ
  by_cases hu : u = zOf c
  · rw [dif_neg (fun h => (zcond_iff u c).mp h hu), if_pos hu, if_pos hu, if_pos hu, add_zero]
    iintro ⟨-, Hs, -, HO, Hk⟩
    iapply (run_ret c PUnit.unit Q)
    iapply Hk
    isplitl [Hs] <;> iassumption
  · have h := (zcond_iff u c).mpr hu
    rw [dif_pos h, if_neg hu, if_neg hu, if_neg hu]
    simp only [Prog.lift]
    iintro ⟨#HC, Hs, ⟨T1, T2, Hd⟩, HO, Hk⟩
    iapply (zsend_core m c u hu ⟨zdev u c, zdev_lt u c h⟩ (zdev_eq u c h) (zdst u c) (zdst_eq u c h) (zsem u c) (zsem_eq u c h) (zdst_inb u c h) (zsem_inb u c h) O Q)
    isplitr; · iexact HC
    isplitl [Hs]; · iexact Hs
    isplitl [Hd]; · iexact Hd
    isplitl [HO]; · iexact HO
    isplitl [T1]; · iexact T1
    isplitl [T2]; · iexact T2
    iexact Hk

/-- The wait for the copy of row block `u`; the device that keeps the row block only closes the cell. -/
theorem waitZ_spec (c : Dev nD) (u : Fin 4) (Q : PUnit → sProp 𝕄) :
    iprop(Ctx m ∗ ZC m c u ∗ atPos ER (zsG u c) 0 ∅ 0 ∗ ow c 0 ∗ ((semVal (zsG u c) 0 ∗ ZD m c u ∗ ow c 0) -∗ Q ⟨⟩)) ⊢ run c (waitZ c u) Q := by
  have hks := kind_zs u
  unfold waitZ ZC ZD
  by_cases hu : u = zOf c
  · rw [dif_neg (fun h => (wcond_iff u c).mp h hu), if_pos hu, if_pos hu]
    iintro ⟨#HC, Hs, Hat, HO, Hk⟩
    ihave Hr := (Ctx_zs m u c) $$ HC
    unfold rec1
    icases Hr with ⟨%κ, #HI, -⟩
    imod (Rounds.cell_close ER (Rd m) (Set.mem_univ κ) (fun h => h) (R := 0) (g := zsG u c) (fun r _ => by
      rcases Nat.eq_zero_or_pos r with rfl | hr
      · rw [duties_dma, hks]; exact if_pos hu
      · exact duties_later m _ r hr)) $$ [Hat] with Hz
    · isplitr; · iexact HI
      iexact Hat
    iapply (run_ret c PUnit.unit Q)
    iapply Hk
    isplitl [Hz]; · iexact Hz
    isplitl [Hs] <;> iassumption
  · have h := (wcond_iff u c).mpr hu
    have hd : kDuties c (.zs u) = {0} := if_neg hu
    rw [dif_pos h, if_neg hu, if_neg hu]
    simp only [Prog.lift]
    iintro ⟨#HC, Hc, Hat, HO, Hk⟩
    ihave #Hr := (Ctx_zs m u c) $$ HC
    ihave #Hl := (Ctx_lev m) $$ HC
    iapply (wait_dma m c (zsC u) (by rw [hks]; exact hd) (k' := (sV u).view.dmaCredit) (by rw [hks]; exact sV_credit u)
      (w := .waitDma2 (zsC u) ((zM.slice (Rect.unit (s := S3x64x1024) (wdst u c) S1x64x1024.size (wdst_inb u c h)) (fun _ => rfl)).squeeze S64x1024 squeezes_S1x64x1024_S64x1024) (sV u)
        (((Memref.isWhole_whole _).wordExact_slice rfl _ (wdst_words u c h)).reshape _ _) (sV_words u))
      (wpE_waitDma2_eq 𝒱₀ (c : Thread nD τ) none Set.univ) _ Q 0 0 (by dsimp only [lv]; rw [hks]) (fun g hg => absurd hg (Nat.lt_irrefl 0)))
    rw [hks, kPay_zs]
    isplitr; · iexact Hr
    isplitr; · iexact Hl
    isplitl [Hat]; · iexact Hat
    isplitl [Hc]; · iexact Hc
    isplitl [HO]; · iexact HO
    iintro ⟨Hz, Hp, HO⟩
    iapply run_ret
    iapply Hk
    isplitl [Hz]; · iexact Hz
    isplitl [Hp] <;> iassumption

/-- The wait for a slot of the second exchange. -/
theorem recvZ_spec (c : Dev nD) (k : Fin 3) (Q : PUnit → sProp 𝕄) :
    iprop(Ctx m ∗ atPos ER (zrG k c) 0 ∅ 0 ∗ cred (tallyAt (zrG k c) () N2) ∗ ow c 0 ∗ ((semVal (zrG k c) 0 ∗ slotIs c (zW k) (ZV m k c) ∗ ow c 0) -∗ Q ⟨⟩)) ⊢ run c (recvZ k) Q := by
  have hkr := kind_zr k
  unfold recvZ
  simp only [Prog.lift]
  iintro ⟨#HC, Hat, Hc, HO, Hk⟩
  ihave #Hr := (Ctx_zr m k c) $$ HC
  ihave #Hl := (Ctx_lev m) $$ HC
  iapply (wait_dma m c (zrC k) (by rw [hkr]; rfl) (k' := (zV k).view.dmaCredit) (by rw [hkr]; exact zV_credit k)
    (w := .waitDma2 (zrC k) (sV 0) (zV k) (sV_words 0) (zV_words k))
    (wpE_waitDma2_eq 𝒱₀ (c : Thread nD τ) none Set.univ) _ Q 0 40 (by dsimp only [lv]; rw [hkr]) (fun g hg => absurd hg (Nat.lt_irrefl 0)))
  rw [hkr, kPay_zr]
  isplitr; · iexact Hr
  isplitr; · iexact Hl
  isplitl [Hat]; · iexact Hat
  isplitl [Hc]; · iexact Hc
  isplitl [HO]; · iexact HO
  iintro ⟨Hz, Hp, HO⟩
  iapply run_ret
  iapply Hk
  isplitl [Hz]; · iexact Hz
  isplitl [Hp] <;> iassumption

end Cert.Moe

end
-- ==== Proof.Slots.lean ====
/-
# Buffers as slots

The accumulators, the receive buffers, the reduced rows and the second exchange's buffer, taken apart into the slots that copies
and stores name, and put together again.
-/
module

public import proofs.«01_k».proof.Proof.Blocks

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A whole buffer, holding anything. -/
def wany (c : Dev nD) (b : Ref sig .tc) : sProp 𝕄 := iprop(∃ f : Buf (Elt F) ((c : Thread nD τ).loc b), whl c b f)

section Loc
variable {ι : Type} [DecidableEq ι] {ℓ : Loc nD τ sig} (S : Finset ι) (K : ι → Finset (Idx ℓ))
theorem loc_split (hc : ∀ x, ∃ i ∈ S, x ∈ K i) (hd : ∀ i ∈ S, ∀ j ∈ S, ∀ x, x ∈ K i → x ∈ K j → i = j) (f : Buf (Elt F) ℓ) :
    (ℓ ↦{fullShare} f : sProp 𝕄) = bigSep S fun i => ℓ ↦[K i]{fullShare} f := by
  have e := pointsTo_biUnion (Ix := Unit) (Name := ℕ) (U := UU) (Lvl := ℕ) (f := f) (q := fullShare) S K
    (fun i hi j hj hij => Finset.disjoint_left.mpr fun x h1 h2 => hij (hd i hi j hj x h1 h2))
  have hU : S.biUnion K = Finset.univ := Finset.eq_univ_iff_forall.mpr fun x => by
    obtain ⟨i, hi, hx⟩ := hc x; exact Finset.mem_biUnion.mpr ⟨i, hi, hx⟩
  rw [hU] at e; exact e
theorem loc_join [Nonempty (Buf (Elt F) ℓ)] (hc : ∀ x, ∃ i ∈ S, x ∈ K i) (hd : ∀ i ∈ S, ∀ j ∈ S, ∀ x, x ∈ K i → x ∈ K j → i = j) :
    (bigSep S fun i => iprop(∃ f : Buf (Elt F) ℓ, ℓ ↦[K i]{fullShare} f) : sProp 𝕄) ⊢ iprop(∃ f : Buf (Elt F) ℓ, ℓ ↦{fullShare} f) := by
  have h1 : (bigSep S fun i => iprop(∃ f : Buf (Elt F) ℓ, ℓ ↦[K i]{fullShare} f) : sProp 𝕄)
      ⊢ iprop(∃ fs : ι → Buf (Elt F) ℓ, bigSep S fun i => ℓ ↦[K i]{fullShare} (fs i)) :=
    bigSep_exists_pi S fun i (f : Buf (Elt F) ℓ) => (ℓ ↦[K i]{fullShare} f : sProp 𝕄)
  iintro H
  ihave H := h1 $$ H
  icases H with ⟨%fs, H⟩
  ihave H := (pointsTo_biUnion_join (Ix := Unit) (Name := ℕ) (U := UU) (Lvl := ℕ) (q := fullShare) S K fs (Classical.arbitrary _)
    (fun i hi j hj hij => Finset.disjoint_left.mpr fun x h1 h2 => hij (hd i hi j hj x h1 h2))) $$ H
  icases H with ⟨%g, -, H⟩
  have hU : S.biUnion K = Finset.univ := Finset.eq_univ_iff_forall.mpr fun x => by
    obtain ⟨i, hi, hx⟩ := hc x; exact Finset.mem_biUnion.mpr ⟨i, hi, hx⟩
  rw [hU]
  iexists g
  iexact H
end Loc

section Gen
variable {ι : Type} [DecidableEq ι] (c : Dev nD) (b : Ref sig .tc) (S : Finset ι) (R : ι → Rect b.ty.shape)

theorem acc_set (r : Rect b.ty.shape) : ((Memref.whole b).access r).set = r.set := View.set_slice_whole b r
/-- The elements of a rectangle of a buffer. -/
abbrev rpt (c : Dev nD) (b : Ref sig .tc) (r : Rect b.ty.shape) (f : Buf (Elt F) ((c : Thread nD τ).loc b)) : sProp 𝕄 :=
  ((c : Thread nD τ).loc b) ↦[r.set]{fullShare} f
theorem rpt_any (r : Rect b.ty.shape) (f : Buf (Elt F) ((c : Thread nD τ).loc b)) : (rpt c b r f : sProp 𝕄) ⊢ slotAny c ((Memref.whole b).access r) := by
  unfold slotAny; rw [acc_set]; iintro H; iexists f; iexact H
theorem rpt_is (r : Rect b.ty.shape) (f : Buf (Elt F) ((c : Thread nD τ).loc b)) (w : r.shape.Idx → Elt F b.ty.elt)
    (h : ((Memref.whole b).access r).read (Elt F) f = w) : (rpt c b r f : sProp 𝕄) ⊢ slotIs c ((Memref.whole b).access r) w := by
  unfold slotIs; rw [acc_set]; iintro H; iexists f; isplitr
  · ipureintro; exact h
  · iexact H
theorem any_rpt (r : Rect b.ty.shape) : (slotAny c ((Memref.whole b).access r) : sProp 𝕄) ⊢ iprop(∃ f, rpt c b r f) := by
  unfold slotAny; rw [acc_set]

theorem whole_eq (hc : ∀ x : b.ty.shape.Idx, ∃ i ∈ S, x ∈ (R i).set)
    (hd : ∀ i ∈ S, ∀ j ∈ S, ∀ x, x ∈ (R i).set → x ∈ (R j).set → i = j) (f : Buf (Elt F) ((c : Thread nD τ).loc b)) :
    (whl c b f : sProp 𝕄) = bigSep S fun i => rpt c b (R i) f :=
  loc_split (ℓ := (c : Thread nD τ).loc b) S (fun i => (R i).set) hc hd f

/-- A whole buffer is its slots. -/
theorem whole_split (hc : ∀ x : b.ty.shape.Idx, ∃ i ∈ S, x ∈ (R i).set)
    (hd : ∀ i ∈ S, ∀ j ∈ S, ∀ x, x ∈ (R i).set → x ∈ (R j).set → i = j) :
    (wany c b : sProp 𝕄) ⊢ bigSep S fun i => slotAny c ((Memref.whole b).access (R i)) := by
  unfold wany
  iintro ⟨%f, H⟩
  ihave H := (Entails.of_eq (whole_eq c b S R hc hd f)) $$ H
  have h : (bigSep S fun i => rpt c b (R i) f : sProp 𝕄) ⊢ bigSep S fun i => slotAny c ((Memref.whole b).access (R i)) :=
    bigSep_mono fun i _ => rpt_any c b (R i) f
  iapply h; iexact H

/-- And its slots are a whole buffer. -/
theorem whole_join [Nonempty (Buf (Elt F) ((c : Thread nD τ).loc b))] (hc : ∀ x : b.ty.shape.Idx, ∃ i ∈ S, x ∈ (R i).set)
    (hd : ∀ i ∈ S, ∀ j ∈ S, ∀ x, x ∈ (R i).set → x ∈ (R j).set → i = j) :
    (bigSep S fun i => slotAny c ((Memref.whole b).access (R i)) : sProp 𝕄) ⊢ wany c b := by
  have h0 : (bigSep S fun i => slotAny c ((Memref.whole b).access (R i)) : sProp 𝕄)
      ⊢ bigSep S fun i => iprop(∃ f, rpt c b (R i) f) := bigSep_mono fun i _ => any_rpt c b (R i)
  exact h0.trans (loc_join (ℓ := (c : Thread nD τ).loc b) S (fun i => (R i).set) hc hd)
end Gen

instance : ∀ e, Nonempty (Elt F e) := fun e => inferInstance

/-- The accumulator of a direction, as a buffer; its receive buffer. -/
abbrev accB (d : Bool) : Ref sig .tc := bif d then cc0_scratch4 else cc0_scratch3
abbrev rcvB (d : Bool) : Ref sig .tc := bif d then cc0_scratch6 else cc0_scratch5

theorem acc_cov (a : ℕ) (x : S2x4x64x512.Idx) : ∃ i ∈ Finset.Ico a (a + 8), x ∈ (accR (bOf i) (uOf i)).set := by
  have h0 : (x 0).val < 2 := (x 0).isLt
  have h1 : (x 1).val < 4 := (x 1).isLt
  refine ⟨a + (4 * (x 0).val + (x 1).val + 8 - a % 8) % 8, Finset.mem_Ico.mpr ⟨by omega, by omega⟩, Rect.mem_set_unit.mpr fun k => ?_⟩
  fin_cases k
  · show (_ / 4 % 2) % 2 ≤ (x 0).val ∧ (x 0).val < (_ / 4 % 2) % 2 + 1; omega
  · show (_ % 4) ≤ (x 1).val ∧ (x 1).val < (_ % 4) + 1; omega
  · exact ⟨Nat.zero_le _, by have : (x 2).val < 64 := (x 2).isLt; show (x 2).val < 0 + 64; omega⟩
  · exact ⟨Nat.zero_le _, by have : (x 3).val < 512 := (x 3).isLt; show (x 3).val < 0 + 512; omega⟩
theorem acc_dis (a : ℕ) : ∀ i ∈ Finset.Ico a (a + 8), ∀ j ∈ Finset.Ico a (a + 8), ∀ x, x ∈ (accR (bOf i) (uOf i)).set → x ∈ (accR (bOf j) (uOf j)).set → i = j := by
  intro i hi j hj x h1 h2
  rw [Finset.mem_Ico] at hi hj
  rw [Rect.mem_set_unit] at h1 h2
  have a0 : (i / 4 % 2) % 2 ≤ (x 0).val ∧ (x 0).val < (i / 4 % 2) % 2 + 1 := h1 0
  have a1 : i % 4 ≤ (x 1).val ∧ (x 1).val < i % 4 + 1 := h1 1
  have b0 : (j / 4 % 2) % 2 ≤ (x 0).val ∧ (x 0).val < (j / 4 % 2) % 2 + 1 := h2 0
  have b1 : j % 4 ≤ (x 1).val ∧ (x 1).val < j % 4 + 1 := h2 1
  omega
theorem rcv_cov (x : S7x4x64x512.Idx) : ∃ i ∈ Finset.Ico 0 28, x ∈ (rcvR (sOf i) (uOf i)).set := by
  have h0 : (x 0).val < 7 := (x 0).isLt
  have h1 : (x 1).val < 4 := (x 1).isLt
  refine ⟨4 * (x 0).val + (x 1).val, Finset.mem_Ico.mpr ⟨by omega, by omega⟩, Rect.mem_set_unit.mpr fun k => ?_⟩
  fin_cases k
  · show (_ / 4 % 7) ≤ (x 0).val ∧ (x 0).val < (_ / 4 % 7) + 1; omega
  · show (_ % 4) ≤ (x 1).val ∧ (x 1).val < (_ % 4) + 1; omega
  · exact ⟨Nat.zero_le _, by have : (x 2).val < 64 := (x 2).isLt; show (x 2).val < 0 + 64; omega⟩
  · exact ⟨Nat.zero_le _, by have : (x 3).val < 512 := (x 3).isLt; show (x 3).val < 0 + 512; omega⟩
theorem rcv_dis : ∀ i ∈ Finset.Ico 0 28, ∀ j ∈ Finset.Ico 0 28, ∀ x, x ∈ (rcvR (sOf i) (uOf i)).set → x ∈ (rcvR (sOf j) (uOf j)).set → i = j := by
  intro i hi j hj x h1 h2
  rw [Finset.mem_Ico] at hi hj
  rw [Rect.mem_set_unit] at h1 h2
  have a0 : i / 4 % 7 ≤ (x 0).val ∧ (x 0).val < i / 4 % 7 + 1 := h1 0
  have a1 : i % 4 ≤ (x 1).val ∧ (x 1).val < i % 4 + 1 := h1 1
  have b0 : j / 4 % 7 ≤ (x 0).val ∧ (x 0).val < j / 4 % 7 + 1 := h2 0
  have b1 : j % 4 ≤ (x 1).val ∧ (x 1).val < j % 4 + 1 := h2 1
  omega
theorem s_cov (x : S256x1024.Idx) : ∃ u ∈ (Finset.univ : Finset (Fin 4)), x ∈ (sR u).set := by
  have h0 : (x 0).val < 256 := (x 0).isLt
  refine ⟨⟨(x 0).val / 64, by omega⟩, Finset.mem_univ _, Rect.mem_set_unit.mpr fun k => ?_⟩
  fin_cases k
  · show 64 * ((x 0).val / 64) ≤ (x 0).val ∧ (x 0).val < 64 * ((x 0).val / 64) + 64; omega
  · exact ⟨Nat.zero_le _, by have : (x 1).val < 1024 := (x 1).isLt; show (x 1).val < 0 + 1024; omega⟩
theorem s_dis : ∀ i ∈ (Finset.univ : Finset (Fin 4)), ∀ j ∈ (Finset.univ : Finset (Fin 4)), ∀ x, x ∈ (sR i).set → x ∈ (sR j).set → i = j := by
  intro i _ j _ x h1 h2
  rw [Rect.mem_set_unit] at h1 h2
  have a0 : 64 * i.val ≤ (x 0).val ∧ (x 0).val < 64 * i.val + 64 := h1 0
  have b0 : 64 * j.val ≤ (x 0).val ∧ (x 0).val < 64 * j.val + 64 := h2 0
  exact Fin.ext (by omega)
theorem z_cov (x : S3x64x1024.Idx) : ∃ u ∈ (Finset.univ : Finset (Fin 3)), x ∈ (zR u).set := by
  have h0 : (x 0).val < 3 := (x 0).isLt
  refine ⟨⟨(x 0).val, h0⟩, Finset.mem_univ _, Rect.mem_set_unit.mpr fun k => ?_⟩
  fin_cases k
  · show (x 0).val ≤ (x 0).val ∧ (x 0).val < (x 0).val + 1; omega
  · exact ⟨Nat.zero_le _, by have : (x 1).val < 64 := (x 1).isLt; show (x 1).val < 0 + 64; omega⟩
  · exact ⟨Nat.zero_le _, by have : (x 2).val < 1024 := (x 2).isLt; show (x 2).val < 0 + 1024; omega⟩
theorem z_dis : ∀ i ∈ (Finset.univ : Finset (Fin 3)), ∀ j ∈ (Finset.univ : Finset (Fin 3)), ∀ x, x ∈ (zR i).set → x ∈ (zR j).set → i = j := by
  intro i _ j _ x h1 h2
  rw [Rect.mem_set_unit] at h1 h2
  have a0 : i.val ≤ (x 0).val ∧ (x 0).val < i.val + 1 := h1 0
  have b0 : j.val ≤ (x 0).val ∧ (x 0).val < j.val + 1 := h2 0
  exact Fin.ext (by omega)

theorem acc_split (c : Dev nD) (d : Bool) (a : ℕ) : (wany c (accB d) : sProp 𝕄) ⊢ bigSep (Finset.Ico a (a + 8)) fun n => slotAny c (accW d n) := by
  cases d
  · exact whole_split c cc0_scratch3 (Finset.Ico a (a + 8)) (fun i => accR (bOf i) (uOf i)) (acc_cov a) (acc_dis a)
  · exact whole_split c cc0_scratch4 (Finset.Ico a (a + 8)) (fun i => accR (bOf i) (uOf i)) (acc_cov a) (acc_dis a)
theorem acc_join (c : Dev nD) (d : Bool) (a : ℕ) : (bigSep (Finset.Ico a (a + 8)) fun n => slotAny c (accW d n) : sProp 𝕄) ⊢ wany c (accB d) := by
  cases d
  · exact whole_join c cc0_scratch3 (Finset.Ico a (a + 8)) (fun i => accR (bOf i) (uOf i)) (acc_cov a) (acc_dis a)
  · exact whole_join c cc0_scratch4 (Finset.Ico a (a + 8)) (fun i => accR (bOf i) (uOf i)) (acc_cov a) (acc_dis a)
theorem rcv_split (c : Dev nD) (d : Bool) : (wany c (rcvB d) : sProp 𝕄) ⊢ bigSep (Finset.Ico 0 28) fun n => slotAny c (rcvW d n) := by
  cases d
  · exact whole_split c cc0_scratch5 (Finset.Ico 0 28) (fun i => rcvR (sOf i) (uOf i)) rcv_cov rcv_dis
  · exact whole_split c cc0_scratch6 (Finset.Ico 0 28) (fun i => rcvR (sOf i) (uOf i)) rcv_cov rcv_dis
theorem rcv_join (c : Dev nD) (d : Bool) : (bigSep (Finset.Ico 0 28) fun n => slotAny c (rcvW d n) : sProp 𝕄) ⊢ wany c (rcvB d) := by
  cases d
  · exact whole_join c cc0_scratch5 (Finset.Ico 0 28) (fun i => rcvR (sOf i) (uOf i)) rcv_cov rcv_dis
  · exact whole_join c cc0_scratch6 (Finset.Ico 0 28) (fun i => rcvR (sOf i) (uOf i)) rcv_cov rcv_dis
theorem s_split (c : Dev nD) : (wany c cc0_scratch7 : sProp 𝕄) ⊢ bigSep Finset.univ fun u => slotAny c (sW u) :=
  whole_split c cc0_scratch7 Finset.univ sR s_cov s_dis
theorem s_join (c : Dev nD) : (bigSep Finset.univ fun u => slotAny c (sW u) : sProp 𝕄) ⊢ wany c cc0_scratch7 :=
  whole_join c cc0_scratch7 Finset.univ sR s_cov s_dis
theorem z_split (c : Dev nD) : (wany c cc0_scratch8 : sProp 𝕄) ⊢ bigSep Finset.univ fun k => slotAny c (zW k) :=
  whole_split c cc0_scratch8 Finset.univ zR z_cov z_dis
theorem z_join (c : Dev nD) : (bigSep Finset.univ fun k => slotAny c (zW k) : sProp 𝕄) ⊢ wany c cc0_scratch8 :=
  whole_join c cc0_scratch8 Finset.univ zR z_cov z_dis

/-! ## The accumulator after the first partial product -/

abbrev ini4 : Rect S2x4x64x512 := Rect.unit (s := S2x4x64x512) ![0, 0, 0, 0] S1x4x64x512.size inb_S2x4x64x512_S1x4x64x512_0_0_0_0
abbrev iniR (u : Fin 4) : Rect S1x4x64x512 := Rect.unit (s := S1x4x64x512) ![0, u.val, 0, 0] S1x1x64x512.size (init_inb u)
theorem ini_emb (n : ℕ) (h : n < 4) (i : S1x1x64x512.Idx) : (accR (bOf n) (uOf n)).emb i = ini4.emb ((iniR (uOf n)).emb i) := by
  funext a
  refine Fin.ext ?_
  fin_cases a
  · show n / 4 % 2 % 2 + (1 * (i 0).val) = 0 + (1 * (0 + 1 * (i 0).val)); omega
  · show n % 4 + (1 * (i 1).val) = 0 + (1 * (n % 4 + 1 * (i 1).val)); omega
  · show 0 + (1 * (i 2).val) = 0 + (1 * (0 + 1 * (i 2).val)); omega
  · show 0 + (1 * (i 3).val) = 0 + (1 * (0 + 1 * (i 3).val)); omega
theorem ini_read (d : Bool) (n : ℕ) (h : n < 4) (f : (accM d).view.ty.Contents (Elt F)) (p : FVec F S256x512 .f32) :
    (accW d n).read (Elt F) (((accM d).access ini4).write (Elt F) f (initV p) Finset.univ) = initSlot (uOf n) p := by
  funext i
  have h1 := congrFun (View.read_write_univ (Val := Elt F) (v := (accM d).access ini4) f (initV p)) ((iniR (uOf n)).emb i)
  refine Eq.trans ?_ h1
  exact congrArg (fun y => _root_.cast (congrArg (Elt F) (accM d).view.elt_eq) (((accM d).access ini4).write (Elt F) f (initV p) Finset.univ ((accM d).view.emb y))) (ini_emb n h i)

end Cert.Moe

end
-- ==== Proof.Pre.lean ====
/-
# Before the ring

The gates and the rounded rows, the first partial products, the entry barrier.
-/
module

public import proofs.«01_k».proof.Proof.Ring
public import proofs.«01_k».proof.Proof.Slots

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A device's staged arguments. -/
def args (c : Dev nD) : sProp 𝕄 :=
  iprop(whl c cc0_stg0_0 (X m c) ∗ whl c cc0_stg1_0 (RW m c) ∗ whl c cc0_stg2_0 (RT m c) ∗ whl c cc0_stg4_0 (SW m c))

theorem gate_spec (c : Dev nD) (Q : PUnit → sProp 𝕄) :
    iprop(args m c ∗ whl c cc0_stg3_0 (EW m c) ∗ wany c cc0_scratch0 ∗ wany c cc0_scratch1 ∗ ((args m c ∗ rds m c) -∗ Q ⟨⟩)) ⊢ run c (gateP c) Q := by
  unfold gateP args rds wany
  simp only [Prog.lift, Prog.bind_op, Prog.bind_ret, Prog.pure_eq_ret]
  iintro ⟨⟨Hx, Hrw, Hrt, Hsw⟩, Hew, ⟨%f0, Hxb⟩, ⟨%f1, Hg⟩, Hk⟩
  iapply (wp_load 𝒱₀ (c : Thread nD τ) none Set.univ (m := xM) (Finset.subset_univ _)) $$ Hx; iintro Hx
  rw [show (xM : Memref sig .tc .vmem S2048x512 .f32).view.readAt (Elt F) (Rect.unit (s := S2048x512) ![0, 0] S2048x512.size inb_S2048x512_S2048x512_0_0).toLoadRect (X m c) = X m c from
    Memref.readAt_unit_zero (Elt F) cc0_stg0_0 hz2 _ _]
  iapply (wp_load 𝒱₀ (c : Thread nD τ) none Set.univ (m := rwM) (Finset.subset_univ _)) $$ Hrw; iintro Hrw
  rw [show (rwM : Memref sig .tc .vmem S512x128 .f32).view.readAt (Elt F) (Rect.unit (s := S512x128) ![0, 0] S512x128.size inb_S512x128_S512x128_0_0).toLoadRect (RW m c) = RW m c from
    Memref.readAt_unit_zero (Elt F) cc0_stg1_0 hz2 _ _]
  iapply (wp_load 𝒱₀ (c : Thread nD τ) none Set.univ (m := rtM) (Finset.subset_univ _)) $$ Hrt; iintro Hrt
  rw [show (rtM : Memref sig .tc .vmem S2048x1 .i32).view.readAt (Elt F) (Rect.unit (s := S2048x1) ![0, 0] S2048x1.size inb_S2048x1_S2048x1_0_0).toLoadRect (RT m c) = RT m c from
    Memref.readAt_unit_zero (Elt F) cc0_stg2_0 hz2 _ _]
  iapply (wp_load 𝒱₀ (c : Thread nD τ) none Set.univ (m := gtM) (Finset.subset_univ _)) $$ Hg; iintro Hg
  iapply (wp_store 𝒱₀ (c : Thread nD τ) none Set.univ (m := gtM) (r := Rect.unit (s := S4x512x4) ![0, 0, 0] S4x512x4.size inb_S4x512x4_S4x512x4_0_0_0) (Mk := Finset.univ) (Finset.subset_univ _)) $$ Hg; iintro Hg
  iapply (wp_load 𝒱₀ (c : Thread nD τ) none Set.univ (m := xbM) (Finset.subset_univ _)) $$ Hxb; iintro Hxb
  iapply (wp_store 𝒱₀ (c : Thread nD τ) none Set.univ (m := xbM) (r := Rect.unit (s := S4x512x512) ![0, 0, 0] S4x512x512.size inb_S4x512x512_S4x512x512_0_0_0) (Mk := Finset.univ) (Finset.subset_univ _)) $$ Hxb; iintro Hxb
  rw [show ((gtM : Memref sig .tc .vmem S4x512x4 .bf16).access (Rect.unit (s := S4x512x4) ![0, 0, 0] S4x512x4.size inb_S4x512x4_S4x512x4_0_0_0)).write (Elt F) f1 (gateV c (X m c) (RW m c) (RT m c)) Finset.univ = gtC m c from
    Memref.write_access_unit_zero_univ (Elt F) cc0_scratch1 hz3 _ _ _]
  rw [show ((xbM : Memref sig .tc .vmem S4x512x512 .bf16).access (Rect.unit (s := S4x512x512) ![0, 0, 0] S4x512x512.size inb_S4x512x512_S4x512x512_0_0_0)).write (Elt F) f0 (xbV (X m c)) Finset.univ = xbC m c from
    Memref.write_access_unit_zero_univ (Elt F) cc0_scratch0 hz3 _ _ _]
  iapply run_ret
  iapply Hk
  isplitl [Hx Hrw Hrt Hsw]
  · isplitl [Hx]; · iexact Hx
    isplitl [Hrw]; · iexact Hrw
    isplitl [Hrt]; · iexact Hrt
    iexact Hsw
  isplitl [Hxb]; · iexact Hxb
  isplitl [Hg]; · iexact Hg
  iexact Hew

/-- A store over a slot of a whole accumulator: what its eight slots then hold. -/
theorem ini_slots (c : Dev nD) (d : Bool) (f : Buf (Elt F) ((c : Thread nD τ).loc (accB d))) (p : FVec F S256x512 .f32) (f' : Buf (Elt F) ((c : Thread nD τ).loc (accB d)))
    (hf : ∀ n, n < 4 → ∀ g : (accM d).view.ty.Contents (Elt F), HEq g f' → (accW d n).read (Elt F) g = initSlot (uOf n) p) :
    (whl c (accB d) f' : sProp 𝕄) ⊢ iprop((bigSep (Finset.Ico 0 4) fun n => slotIs c (accW d n) (initSlot (uOf n) p)) ∗ bigSep (Finset.Ico 4 8) fun n => slotAny c (accW d n)) := by
  have key : ∀ (P : ℕ → sProp 𝕄), (whl c (accB d) f' : sProp 𝕄) = bigSep (Finset.Ico 0 8) P →
      (∀ n, n < 4 → P n ⊢ slotIs c (accW d n) (initSlot (uOf n) p)) → (∀ n, P n ⊢ slotAny c (accW d n)) →
      (whl c (accB d) f' : sProp 𝕄) ⊢ iprop((bigSep (Finset.Ico 0 4) fun n => slotIs c (accW d n) (initSlot (uOf n) p)) ∗ bigSep (Finset.Ico 4 8) fun n => slotAny c (accW d n)) := by
    intro P hP h1 h2
    rw [hP, show Finset.Ico 0 8 = Finset.Ico 0 4 ∪ Finset.Ico 4 8 by decide, bigSep_union (by decide)]
    exact BIClass.sep_mono (bigSep_mono fun n hn => h1 n (Finset.mem_Ico.mp hn).2) (bigSep_mono fun n _ => h2 n)
  cases d
  · refine key _ (whole_eq c cc0_scratch3 (Finset.Ico 0 8) (fun i => accR (bOf i) (uOf i)) (acc_cov 0) (acc_dis 0) f') (fun n hn => ?_) (fun n => ?_)
    · exact rpt_is c _ _ f' _ (hf n hn f' HEq.rfl)
    · exact rpt_any c _ _ f'
  · refine key _ (whole_eq c cc0_scratch4 (Finset.Ico 0 8) (fun i => accR (bOf i) (uOf i)) (acc_cov 0) (acc_dis 0) f') (fun n hn => ?_) (fun n => ?_)
    · exact rpt_is c _ _ f' _ (hf n hn f' HEq.rfl)
    · exact rpt_any c _ _ f'

/-- A direction's first partial product, in the accumulator. -/
theorem init_spec (c : Dev nD) (d : Bool) (Q : PUnit → sProp 𝕄) :
    iprop(rds m c ∗ wany c (accB d)
        ∗ ((rds m c ∗ (bigSep (Finset.Ico 0 4) fun n => slotIs c (accW d n) (ACC m d (uOf n) (n / 4) c)) ∗ bigSep (Finset.Ico 4 8) fun n => slotAny c (accW d n)) -∗ Q ⟨⟩))
      ⊢ run c (initP d c) Q := by
  unfold initP
  rw [run_bind c (partP d _)]
  iintro ⟨Hr, Ha, Hk⟩
  iapply (part_spec m c d (offI d c))
  isplitl [Hr]; · iexact Hr
  iintro Hr
  simp only [Prog.lift, Prog.bind_op, Prog.bind_ret, Prog.pure_eq_ret]
  unfold wany
  icases Ha with ⟨%f, Ha⟩
  have hA : (bigSep (Finset.Ico 0 4) fun n => slotIs c (accW d n) (ACC m d (uOf n) (n / 4) c) : sProp 𝕄)
      = bigSep (Finset.Ico 0 4) fun n => slotIs c (accW d n) (initSlot (uOf n) (partF m d (offI d c) c)) :=
    bigSep_congr fun n hn => by rw [show n / 4 = 0 by have := (Finset.mem_Ico.mp hn).2; omega, ACC]
  rw [hA]
  cases d
  · ihave Ha := (Entails.of_eq (show (whl c (accB false) f : sProp 𝕄) = ((accM false).view.loc (c : Thread nD τ) ↦{fullShare} f) from rfl)) $$ Ha
    iapply (wp_load 𝒱₀ (c : Thread nD τ) none Set.univ (m := accM false) (Finset.subset_univ _)) $$ Ha; iintro Ha
    iapply (wp_store 𝒱₀ (c : Thread nD τ) none Set.univ (m := accM false) (r := ini4) (Mk := Finset.univ) (Finset.subset_univ _)) $$ Ha; iintro Ha
    iapply run_ret
    iapply Hk
    isplitl [Hr]; · iexact Hr
    iapply (ini_slots c false f (partF m false (offI false c) c) _ (fun n hn g hg => by
      rw [eq_of_heq hg]; exact ini_read false n hn f _))
    iexact Ha
  · ihave Ha := (Entails.of_eq (show (whl c (accB true) f : sProp 𝕄) = ((accM true).view.loc (c : Thread nD τ) ↦{fullShare} f) from rfl)) $$ Ha
    iapply (wp_load 𝒱₀ (c : Thread nD τ) none Set.univ (m := accM true) (Finset.subset_univ _)) $$ Ha; iintro Ha
    iapply (wp_store 𝒱₀ (c : Thread nD τ) none Set.univ (m := accM true) (r := ini4) (Mk := Finset.univ) (Finset.subset_univ _)) $$ Ha; iintro Ha
    iapply run_ret
    iapply Hk
    isplitl [Hr]; · iexact Hr
    iapply (ini_slots c true f (partF m true (offI true c) c) _ (fun n hn g hg => by
      rw [eq_of_heq hg]; exact ini_read true n hn f _))
    iexact Ha

/-! ## The barrier -/

theorem bar_pay0 (c : Dev nD) : (barPay (barE 0 c) 0 : sProp 𝕄) = rcvAll false c := by
  show rcvAll false (tgt false (tgt true c)) = _; rw [show tgt false (tgt true c) = c from tgt_tgt false c]
theorem bar_pay1 (c : Dev nD) : (barPay (barE 1 c) 1 : sProp 𝕄) = rcvAll true c := by
  show rcvAll true (tgt true (tgt false c)) = _; rw [show tgt true (tgt false c) = c from tgt_tgt true c]
theorem bar_pay2 (c : Dev nD) : (barPay (barE 2 c) 2 : sProp 𝕄) = slotAny c (zW 2) := by
  show slotAny (zsh 3 (zsh 1 c)) (zW 2) = _; rw [show zsh 3 (zsh 1 c) = c from (zsh_back 0 c).2]
theorem bar_pay3 (c : Dev nD) : (barPay (barE 3 c) 3 : sProp 𝕄) = slotAny c (zW 1) := by
  show slotAny (zsh 2 (zsh 2 c)) (zW 1) = _; rw [show zsh 2 (zsh 2 c) = c from (zsh_back 1 c).2]
theorem bar_pay4 (c : Dev nD) : (barPay (barE 4 c) 4 : sProp 𝕄) = slotAny c (zW 0) := by
  show slotAny (zsh 1 (zsh 3 c)) (zW 0) = _; rw [show zsh 1 (zsh 3 c) = c from (zsh_back 2 c).2]

/-- One barrier signal, with what it lends. -/
theorem sig_spec (c : Dev nD) (j : Fin 5) (O : CellTallies nD τ sig Unit) (Q : PUnit → sProp 𝕄) :
    iprop(Ctx m ∗ dutyTok ER (barG (barE j c)) 0 j ∗ barPay (barE j c) j ∗ ow c (O + tallyAt (barG (barE j c)) () 1) ∗ (ow c O -∗ Q ⟨⟩))
      ⊢ run c (semSignalWord (barD j c) barC 1#32) Q := by
  rw [← barE_eq j c]
  simp only [semSignalWord]
  unfold ow
  iintro ⟨#HC, Ht, Hp, ⟨%W, HO⟩, Hk⟩
  ihave Hr := (Ctx_bar m (barE j c)) $$ HC
  unfold rec1
  icases Hr with ⟨%κ, #HI, #HR⟩
  iapply (Rounds.wp_signal 𝒱₀ ER (Rd m) (c : Thread nD τ) none (dst := (barE j c : Thread nD τ)) (κ := κ) (d := j)
      (by rw [duties_bar]; exact Finset.mem_univ _) (show (Rd (F := F) m).amount (barG (barE j c)) 0 j = _ by rfl) () O rfl) $$ [Ht Hp HO]
  · isplitr; · iexact HI
    isplitl [HO]; · iexact HO
    isplitl [Ht]; · iexact Ht
    isplitl [Hp]
    · rw [show (Rd (F := F) m).payload (barG (barE j c)) 0 j = barPay (barE j c) j from rfl]; iexact Hp
    iexact HR
  iintro HO
  iapply run_ret
  iapply Hk
  iexists W; iexact HO

/-- The five tokens a device signals with, and its own slots that it lends. -/
def lend (c : Dev nD) : sProp 𝕄 :=
  iprop(dutyTok ER (barG (barE 0 c)) 0 0 ∗ dutyTok ER (barG (barE 1 c)) 0 1 ∗ dutyTok ER (barG (barE 2 c)) 0 2 ∗ dutyTok ER (barG (barE 3 c)) 0 3 ∗ dutyTok ER (barG (barE 4 c)) 0 4
    ∗ rcvAll false c ∗ rcvAll true c ∗ slotAny c (zW 2) ∗ slotAny c (zW 1) ∗ slotAny c (zW 0))
/-- What the barrier brings. -/
def lent (c : Dev nD) : sProp 𝕄 := iprop(barPay c 0 ∗ barPay c 1 ∗ barPay c 2 ∗ barPay c 3 ∗ barPay c 4)

theorem bar_spec (c : Dev nD) (Q : PUnit → sProp 𝕄) :
    iprop(Ctx m ∗ lend c ∗ atPos ER (barG c) 0 ∅ 0 ∗ cred (tallyAt (barG c) () 5) ∗ ow c (OB c 5) ∗ ((semVal (barG c) 0 ∗ lent c ∗ ow c (OR c 28)) -∗ Q ⟨⟩))
      ⊢ run c (barP c) Q := by
  unfold barP lend
  rw [run_bind c (semSignalWord (barD 0 c) barC 1#32), run_bind c (semSignalWord (barD 1 c) barC 1#32), run_bind c (semSignalWord (barD 2 c) barC 1#32),
    run_bind c (semSignalWord (barD 3 c) barC 1#32), run_bind c (semSignalWord (barD 4 c) barC 1#32)]
  iintro ⟨#HC, ⟨T0, T1, T2, T3, T4, P0, P1, P2, P3, P4⟩, Hat, Hc, HO, Hk⟩
  iapply (sig_spec m c 0 (OB c 4))
  isplitr; · iexact HC
  isplitl [T0]; · iexact T0
  isplitl [P0]; · rw [bar_pay0]; iexact P0
  isplitl [HO]; · iexact HO
  iintro HO
  iapply (sig_spec m c 1 (OB c 3))
  isplitr; · iexact HC
  isplitl [T1]; · iexact T1
  isplitl [P1]; · rw [bar_pay1]; iexact P1
  isplitl [HO]; · iexact HO
  iintro HO
  iapply (sig_spec m c 2 (OB c 2))
  isplitr; · iexact HC
  isplitl [T2]; · iexact T2
  isplitl [P2]; · rw [bar_pay2]; iexact P2
  isplitl [HO]; · iexact HO
  iintro HO
  iapply (sig_spec m c 3 (OB c 1))
  isplitr; · iexact HC
  isplitl [T3]; · iexact T3
  isplitl [P3]; · rw [bar_pay3]; iexact P3
  isplitl [HO]; · iexact HO
  iintro HO
  iapply (sig_spec m c 4 (OB c 0))
  isplitr; · iexact HC
  isplitl [T4]; · iexact T4
  isplitl [P4]; · rw [bar_pay4]; iexact P4
  isplitl [HO]; · iexact HO
  iintro HO
  simp only [semWaitWord]
  ihave #Hl := (Ctx_lev m) $$ HC
  ihave Hr := (Ctx_bar m c) $$ HC
  unfold rec1 ow
  icases Hr with ⟨%κ, #HI, -⟩
  icases HO with ⟨%W, HO⟩
  iapply (Rounds.wp_wait_rest_token 𝒱₀ ER (Rd m) (c : Thread nD τ) none (κ := κ)
      (wpE_semWait_eq 𝒱₀ (c : Thread nD τ) none Set.univ) (Set.mem_univ _) () (O := OB c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_below c (.reg barC) (OB c 0) 1 le_rfl (fun g hg => by have := OR_pos c 28 le_rfl hg; exact ⟨this.1, by omega⟩)); iexact Hl
    iexact Hat
  iintro ⟨HO, Hat, -, Hp⟩
  imod (Rounds.cell_close ER (Rd m) (Set.mem_univ κ) (fun h => h) (R := 0 + 1) (duties_later m _)) $$ [Hat] with Hz
  · isplitr; · iexact HI
    iexact Hat
  ihave Hp := (Entails.of_eq (rest_bar m c)) $$ Hp
  iapply run_ret
  iapply Hk
  isplitl [Hz]; · iexact Hz
  isplitl [Hp]; · unfold lent; iexact Hp
  iexists _; iexact HO

end Cert.Moe

end
-- ==== Proof.Tail.lean ====
/-
# After the ring

The last step, the second exchange, the shared expert and the result.
-/
module

public import proofs.«01_k».proof.Proof.Exchange
public import proofs.«01_k».proof.Proof.Pre

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- One of each of the four row blocks, and one of each of the three slots. -/
abbrev four (P : Fin 4 → sProp 𝕄) : sProp 𝕄 := iprop(P 0 ∗ P 1 ∗ P 2 ∗ P 3)
abbrev three (P : Fin 3 → sProp 𝕄) : sProp 𝕄 := iprop(P 0 ∗ P 1 ∗ P 2)
theorem four_eq (P : Fin 4 → sProp 𝕄) : bigSep Finset.univ P = four P := by
  rw [bigSep_univ_eq_bigSepL [0, 1, 2, 3] (by decide) (by decide)]; rfl
theorem three_eq (P : Fin 3 → sProp 𝕄) : bigSep Finset.univ P = three P := by
  rw [bigSep_univ_eq_bigSepL [0, 1, 2] (by decide) (by decide)]; rfl
theorem four_open (P : Fin 4 → sProp 𝕄) (z : Fin 4) : four P ⊢ iprop(P z ∗ (P z -∗ four P)) := by
  have h : bigSep Finset.univ P = iprop(P z ∗ bigSep (Finset.univ.erase z) P) := bigSep_univ_split z
  rw [← four_eq, h]
  iintro ⟨A, B⟩
  isplitl [A]; · iexact A
  iintro A
  isplitl [A] <;> iassumption

/-- The shared expert. -/
theorem shared_spec (c : Dev nD) (Q : PUnit → sProp 𝕄) :
    iprop(args m c ∗ wany c cc0_scratch2 ∗ ((args m c ∗ whl c cc0_scratch2 (SHV m c)) -∗ Q ⟨⟩)) ⊢ run c (sharedP c) Q := by
  unfold sharedP args wany
  simp only [Prog.lift, Prog.bind_op, Prog.bind_ret, Prog.pure_eq_ret]
  iintro ⟨⟨Hx, Hrw, Hrt, Hsw⟩, ⟨%f, Hs⟩, Hk⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  rw [show (swM : Memref sig .tc .vmem S512x1024 .f32).view.readAt (Elt F) (Rect.unit (s := S512x1024) ![0, 0] S512x1024.size inb_S512x1024_S512x1024_0_0).toLoadRect (SW m c) = SW m c from
    Memref.readAt_unit_zero (Elt F) cc0_stg4_0 hz2 _ _]
  iapply (wp_load 𝒱₀ (c : Thread nD τ) none Set.univ (m := shM) (Finset.subset_univ _)) $$ Hs; iintro Hs
  iapply (wp_store 𝒱₀ (c : Thread nD τ) none Set.univ (m := shM) (r := Rect.unit (s := S64x1024) ![0, 0] S64x1024.size inb_S64x1024_S64x1024_0_0) (Mk := Finset.univ) (Finset.subset_univ _)) $$ Hs; iintro Hs
  rw [show ((shM : Memref sig .tc .vmem S64x1024 .f32).access (Rect.unit (s := S64x1024) ![0, 0] S64x1024.size inb_S64x1024_S64x1024_0_0)).write (Elt F) f
      (k0_pay129 (xM.view.readAt (Elt F) (Rect.unit (s := S2048x512) (k0_off29 c) S64x512.size (k0_off29_inb c)).toLoadRect (X m c)) (SW m c)) Finset.univ = SHV m c from
    Memref.write_access_unit_zero_univ (Elt F) cc0_scratch2 hz2 _ _ _]
  iapply run_ret
  iapply Hk
  isplitr [Hs]
  · isplitl [Hx]; · iexact Hx
    isplitl [Hrw]; · iexact Hrw
    isplitl [Hrt]; · iexact Hrt
    iexact Hsw
  iexact Hs

theorem load_row {α : Type} (c : Dev nD) (z : Fin 4) (w : S64x1024.Idx → Elt F .bf16) (o : Fin 2 → ℕ) (ho : o = ![64 * z.val, 0]) (inb : ∀ a, o a + S64x1024.size a ≤ S256x1024.size a)
    {hl : (sM : Memref sig .tc .vmem S256x1024 .bf16).view.LoadsAt (Rect.unit (s := S256x1024) o S64x1024.size inb).toLoadRect}
    (k : (S64x1024.Idx → Elt F .bf16) → PR F α) (Q : α → sProp 𝕄) :
    iprop(slotIs c (sW z) w ∗ (slotIs c (sW z) w -∗ run c (k w) Q)) ⊢ run c (.op (.load sM (Rect.unit (s := S256x1024) o S64x1024.size inb).toLoadRect hl) k) Q := by
  subst ho
  exact load_slot c sM (sR z) w k Q

/-- The result. -/
theorem out_spec (c : Dev nD) (Q : PUnit → sProp 𝕄) :
    iprop(four (ZD m c) ∗ whl c cc0_scratch2 (SHV m c) ∗ three (fun k => slotIs c (zW k) (ZV m k c)) ∗ wany c cc0_stg5_0
        ∗ ((four (ZD m c) ∗ whl c cc0_scratch2 (SHV m c) ∗ three (fun k => slotIs c (zW k) (ZV m k c)) ∗ whl c cc0_stg5_0 (OUT m c)) -∗ Q ⟨⟩)) ⊢ run c (outP c) Q := by
  have hz : ZD m c (zOf c) = (slotIs c (sW (zOf c)) (SRow m (zOf c) c) : sProp 𝕄) := if_pos rfl
  unfold outP wany
  simp only [Prog.lift, Prog.bind_op, Prog.bind_ret, Prog.pure_eq_ret]
  iintro ⟨Hd, Hs, ⟨Z0, Z1, Z2⟩, ⟨%f, Ho⟩, Hk⟩
  ihave Hd := (four_open (ZD m c) (zOf c)) $$ Hd
  rw [hz]
  icases Hd with ⟨Hd, Hd'⟩
  iapply (load_row c (zOf c) (SRow m (zOf c) c) (k0_off34 c) (off34_eq c) (k0_off34_inb c))
  isplitl [Hd]; · iexact Hd
  iintro Hd
  iapply (wp_load 𝒱₀ (c : Thread nD τ) none Set.univ (m := shM) (Finset.subset_univ _)) $$ Hs; iintro Hs
  rw [show (shM : Memref sig .tc .vmem S64x1024 .f32).view.readAt (Elt F) (Rect.unit (s := S64x1024) ![0, 0] S64x1024.size inb_S64x1024_S64x1024_0_0).toLoadRect (SHV m c) = SHV m c from
    Memref.readAt_unit_zero (Elt F) cc0_scratch2 hz2 _ _]
  iapply (load_slot c zM (zR 0) (ZV m 0 c))
  isplitl [Z0]; · iexact Z0
  iintro Z0
  iapply (load_slot c zM (zR 1) (ZV m 1 c))
  isplitl [Z1]; · iexact Z1
  iintro Z1
  iapply (load_slot c zM (zR 2) (ZV m 2 c))
  isplitl [Z2]; · iexact Z2
  iintro Z2
  iapply (wp_load 𝒱₀ (c : Thread nD τ) none Set.univ (m := outM) (Finset.subset_univ _)) $$ Ho; iintro Ho
  iapply (wp_store 𝒱₀ (c : Thread nD τ) none Set.univ (m := outM) (r := Rect.unit (s := S64x1024) ![0, 0] S64x1024.size inb_S64x1024_S64x1024_0_0) (Mk := Finset.univ) (Finset.subset_univ _)) $$ Ho; iintro Ho
  rw [show ((outM : Memref sig .tc .vmem S64x1024 .f32).access (Rect.unit (s := S64x1024) ![0, 0] S64x1024.size inb_S64x1024_S64x1024_0_0)).write (Elt F) f
      (k0_pay1 (SRow m (zOf c) c) (SHV m c) (ZV m 0 c) (ZV m 1 c) (ZV m 2 c)) Finset.univ = OUT m c from
    Memref.write_access_unit_zero_univ (Elt F) cc0_stg5_0 hz2 _ _ _]
  iapply run_ret
  iapply Hk
  isplitl [Hd Hd']; · iapply Hd'; iexact Hd
  isplitl [Hs]; · iexact Hs
  isplitl [Z0 Z1 Z2]
  · isplitl [Z0]; · iexact Z0
    isplitl [Z1]; · iexact Z1
    iexact Z2
  iexact Ho

/-- One row block of the last step, and its copy of the second exchange. -/
def lastU (c : Dev nD) (pr pl : FVec F S256x512 .f32) (u : Fin 4) : PR F PUnit := do lastP c pr pl u; sendZ c u

theorem lastU_spec (c : Dev nD) (u : Fin 4) (n j : ℕ) (hn : n = 4 * (6 : Fin 7).val + u.val) (hj : j = 3 - u.val) (Q : PUnit → sProp 𝕄) :
    iprop(Ctx m ∗ Dir c false n ∗ Dir c true n ∗ ow c (OZ c (j + 1)) ∗ slotAny c (sW u) ∗ ZF c u
        ∗ ((Dir c false (n + 1) ∗ Dir c true (n + 1) ∗ ow c (OZ c j) ∗ ZC m c u) -∗ Q ⟨⟩))
      ⊢ run c (lastU c (partF m false (offS false c 6) c) (partF m true (offS true c 6) c) u) Q := by
  have e : OZ c (j + 1) = OZ c j + TZ u c := by
    rw [OZ, show (⟨(3 - j) % 4, Nat.mod_lt _ (by decide)⟩ : Fin 4) = u from Fin.ext (by have := u.isLt; show (3 - j) % 4 = u.val; omega)]
  unfold lastU
  rw [run_bind c (lastP c _ _ u)]
  iintro ⟨#HC, A, B, HO, Hs, Hz, Hk⟩
  iapply (last_spec m c u n hn (OZ c (j + 1)) (fun g hg => OZ_pos c _ hg))
  isplitr; · iexact HC
  isplitl [A]; · iexact A
  isplitl [B]; · iexact B
  isplitl [HO]; · iexact HO
  isplitl [Hs]; · iexact Hs
  iintro ⟨A, B, HO, Hs⟩
  rw [e]
  iapply (sendZ_spec m c u (OZ c j))
  isplitr; · iexact HC
  isplitl [Hs]; · iexact Hs
  isplitl [Hz]; · iexact Hz
  isplitl [HO]; · iexact HO
  iintro ⟨Hz, HO⟩
  iapply Hk
  isplitl [A]; · iexact A
  isplitl [B]; · iexact B
  isplitl [HO]; · iexact HO
  iexact Hz

/-- The program after the ring, its last step by row block. -/
theorem tail_eq (c : Dev nD) : (tailP c : PR F PUnit) = (do
    let pr ← partP false (offS false c 6)
    let pl ← partP true (offS true c 6)
    lastU c pr pl 0
    lastU c pr pl 1
    lastU c pr pl 2
    lastU c pr pl 3
    sharedP c
    waitZ c 0
    waitZ c 1
    waitZ c 2
    waitZ c 3
    recvZ 0
    recvZ 1
    recvZ 2
    outP c) := by
  unfold lastU tailP; simp only [Prog.bind_assoc]

theorem tail_spec (c : Dev nD) (Q : PUnit → sProp 𝕄) :
    iprop(Ctx m ∗ rds m c ∗ args m c ∗ St c 24 ∗ four (fun u => slotAny c (sW u)) ∗ four (ZF c) ∗ four (fun u => atPos ER (zsG u c) 0 ∅ 0)
        ∗ three (fun k => iprop(atPos ER (zrG k c) 0 ∅ 0 ∗ cred (tallyAt (zrG k c) () N2))) ∗ wany c cc0_scratch2 ∗ wany c cc0_stg5_0
        ∗ ((rds m c ∗ args m c ∗ (Dir c false 28 ∗ Dir c true 28 ∗ ow c 0) ∗ four (ZD m c) ∗ four (fun u => semVal (zsG u c) 0)
            ∗ three (fun k => semVal (zrG k c) 0) ∗ three (fun k => slotIs c (zW k) (ZV m k c)) ∗ whl c cc0_scratch2 (SHV m c) ∗ whl c cc0_stg5_0 (OUT m c)) -∗ Q ⟨⟩))
      ⊢ run c (tailP c) Q := by
  rw [tail_eq, run_bind c (partP false _)]
  unfold St
  rw [show OR c (28 - (24 + 4)) = OZ c (3 + 1) from rfl]
  iintro ⟨#HC, Hr, Ha, ⟨A, B, HO⟩, ⟨S0, S1, S2, S3⟩, ⟨F0, F1, F2, F3⟩, ⟨P0, P1, P2, P3⟩, ⟨⟨R0, C0⟩, ⟨R1, C1⟩, ⟨R2, C2⟩⟩, Hsh, Ho, Hk⟩
  iapply (part_spec m c false (offS false c 6))
  isplitl [Hr]; · iexact Hr
  iintro Hr
  rw [run_bind c (partP true _)]
  iapply (part_spec m c true (offS true c 6))
  isplitl [Hr]; · iexact Hr
  iintro Hr
  rw [run_bind c (lastU c _ _ 0), run_bind c (lastU c _ _ 1), run_bind c (lastU c _ _ 2), run_bind c (lastU c _ _ 3), run_bind c (sharedP c), run_bind c (waitZ c 0), run_bind c (waitZ c 1),
    run_bind c (waitZ c 2), run_bind c (waitZ c 3), run_bind c (recvZ 0), run_bind c (recvZ 1), run_bind c (recvZ 2)]
  iapply (lastU_spec m c 0 24 3 rfl rfl)
  isplitr; · iexact HC
  isplitl [A]; · iexact A
  isplitl [B]; · iexact B
  isplitl [HO]; · iexact HO
  isplitl [S0]; · iexact S0
  isplitl [F0]; · iexact F0
  iintro ⟨A, B, HO, F0⟩
  iapply (lastU_spec m c 1 25 2 rfl rfl)
  isplitr; · iexact HC
  isplitl [A]; · iexact A
  isplitl [B]; · iexact B
  isplitl [HO]; · iexact HO
  isplitl [S1]; · iexact S1
  isplitl [F1]; · iexact F1
  iintro ⟨A, B, HO, F1⟩
  iapply (lastU_spec m c 2 26 1 rfl rfl)
  isplitr; · iexact HC
  isplitl [A]; · iexact A
  isplitl [B]; · iexact B
  isplitl [HO]; · iexact HO
  isplitl [S2]; · iexact S2
  isplitl [F2]; · iexact F2
  iintro ⟨A, B, HO, F2⟩
  iapply (lastU_spec m c 3 27 0 rfl rfl)
  isplitr; · iexact HC
  isplitl [A]; · iexact A
  isplitl [B]; · iexact B
  isplitl [HO]; · iexact HO
  isplitl [S3]; · iexact S3
  isplitl [F3]; · iexact F3
  iintro ⟨A, B, HO, F3⟩
  rw [show OZ c 0 = 0 from rfl]
  iapply (shared_spec m c)
  isplitl [Ha]; · iexact Ha
  isplitl [Hsh]; · iexact Hsh
  iintro ⟨Ha, Hsh⟩
  iapply (waitZ_spec m c 0)
  isplitr; · iexact HC
  isplitl [F0]; · iexact F0
  isplitl [P0]; · iexact P0
  isplitl [HO]; · iexact HO
  iintro ⟨P0, F0, HO⟩
  iapply (waitZ_spec m c 1)
  isplitr; · iexact HC
  isplitl [F1]; · iexact F1
  isplitl [P1]; · iexact P1
  isplitl [HO]; · iexact HO
  iintro ⟨P1, F1, HO⟩
  iapply (waitZ_spec m c 2)
  isplitr; · iexact HC
  isplitl [F2]; · iexact F2
  isplitl [P2]; · iexact P2
  isplitl [HO]; · iexact HO
  iintro ⟨P2, F2, HO⟩
  iapply (waitZ_spec m c 3)
  isplitr; · iexact HC
  isplitl [F3]; · iexact F3
  isplitl [P3]; · iexact P3
  isplitl [HO]; · iexact HO
  iintro ⟨P3, F3, HO⟩
  iapply (recvZ_spec m c 0)
  isplitr; · iexact HC
  isplitl [R0]; · iexact R0
  isplitl [C0]; · iexact C0
  isplitl [HO]; · iexact HO
  iintro ⟨R0, C0, HO⟩
  iapply (recvZ_spec m c 1)
  isplitr; · iexact HC
  isplitl [R1]; · iexact R1
  isplitl [C1]; · iexact C1
  isplitl [HO]; · iexact HO
  iintro ⟨R1, C1, HO⟩
  iapply (recvZ_spec m c 2)
  isplitr; · iexact HC
  isplitl [R2]; · iexact R2
  isplitl [C2]; · iexact C2
  isplitl [HO]; · iexact HO
  iintro ⟨R2, C2, HO⟩
  iapply (out_spec m c)
  isplitl [F0 F1 F2 F3]
  · isplitl [F0]; · iexact F0
    isplitl [F1]; · iexact F1
    isplitl [F2]; · iexact F2
    iexact F3
  isplitl [Hsh]; · iexact Hsh
  isplitl [C0 C1 C2]
  · isplitl [C0]; · iexact C0
    isplitl [C1]; · iexact C1
    iexact C2
  isplitl [Ho]; · iexact Ho
  iintro ⟨HF, Hsh, HZ, Ho⟩
  iapply Hk
  isplitl [Hr]; · iexact Hr
  isplitl [Ha]; · iexact Ha
  isplitl [A B HO]
  · isplitl [A]; · iexact A
    isplitl [B]; · iexact B
    iexact HO
  isplitl [HF]; · iexact HF
  isplitl [P0 P1 P2 P3]
  · isplitl [P0]; · iexact P0
    isplitl [P1]; · iexact P1
    isplitl [P2]; · iexact P2
    iexact P3
  isplitl [R0 R1 R2]
  · isplitl [R0]; · iexact R0
    isplitl [R1]; · iexact R1
    iexact R2
  isplitl [HZ]; · iexact HZ
  isplitl [Hsh]; · iexact Hsh
  iexact Ho

end Cert.Moe

end
-- ==== Proof.Body.lean ====
/-
# The whole body

What a device's body takes at its start and what it leaves at its end.
-/
module

public import proofs.«01_k».proof.Proof.Tail

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's cells, kind by kind -/

theorem fin28 (P : ℕ → sProp 𝕄) : (bigSep Finset.univ fun n : Fin 28 => P n.val) = bigSep (Finset.Ico 0 28) P := by
  rw [show Finset.Ico 0 28 = (Finset.univ : Finset (Fin 28)).map Fin.valEmbedding by decide, bigSep_map]; rfl
theorem two_eq (P : Bool → sProp 𝕄) : bigSep Finset.univ P = iprop(P false ∗ P true) := by
  rw [bigSep_univ_eq_bigSepL [false, true] (by decide) (by decide)]; rfl

/-- One of each of the kernel's DMA cells: both directions' send cells, their receive cells, the second exchange's. -/
abbrev each (S R : Bool → ℕ → sProp 𝕄) (Z : Fin 4 → sProp 𝕄) (Y : Fin 3 → sProp 𝕄) : sProp 𝕄 :=
  iprop(((bigSep (Finset.Ico 0 28) (S false) ∗ bigSep (Finset.Ico 0 28) (S true)) ∗ (bigSep (Finset.Ico 0 28) (R false) ∗ bigSep (Finset.Ico 0 28) (R true))) ∗ four Z ∗ three Y)
theorem each_eq (P : J → sProp 𝕄) (S R : Bool → ℕ → sProp 𝕄) (hS : ∀ d n, P (.inl (false, d, n)) = S d n.val) (hR : ∀ d n, P (.inl (true, d, n)) = R d n.val) :
    bigSep Finset.univ P = each S R (fun u => P (.inr (.inl u))) (fun k => P (.inr (.inr k))) := by
  have e : ∀ d, (bigSep Finset.univ fun n : Fin 28 => P (.inl (false, d, n))) = bigSep (Finset.Ico 0 28) (S d) := fun d => by
    rw [← fin28]; exact bigSep_congr fun n _ => hS d n
  have e' : ∀ d, (bigSep Finset.univ fun n : Fin 28 => P (.inl (true, d, n))) = bigSep (Finset.Ico 0 28) (R d) := fun d => by
    rw [← fin28]; exact bigSep_congr fun n _ => hR d n
  rw [bigSep_univ_sum, bigSep_univ_sum, bigSep_univ_prod, two_eq, bigSep_univ_prod, bigSep_univ_prod, two_eq, two_eq, e, e, e', e', four_eq, three_eq]
  rfl

/-! ## Dealing the second exchange's slots to the row blocks -/

theorem spread (c : Dev nD) (A C : Fin 4 → sProp 𝕄) (B : Fin 3 → sProp 𝕄) (h1 : A (zOf c) ⊢ C (zOf c)) (h2 : ∀ u, u ≠ zOf c → iprop(A u ∗ B (kk u (zOf c))) ⊢ C u) :
    iprop(four A ∗ three B) ⊢ four C := by
  generalize hz : zOf c = z at h1 h2
  fin_cases z
  · have e0 : A 0 ⊢ C 0 := h1
    have e1 : iprop(A 1 ∗ B 0) ⊢ C 1 := h2 1 (by decide)
    have e2 : iprop(A 2 ∗ B 1) ⊢ C 2 := h2 2 (by decide)
    have e3 : iprop(A 3 ∗ B 2) ⊢ C 3 := h2 3 (by decide)
    iintro ⟨⟨A0, A1, A2, A3⟩, B0, B1, B2⟩
    isplitl [A0]; · iapply e0; iexact A0
    isplitl [A1 B0]; · iapply e1; isplitl [A1] <;> iassumption
    isplitl [A2 B1]; · iapply e2; isplitl [A2] <;> iassumption
    iapply e3; isplitl [A3] <;> iassumption
  · have e1 : A 1 ⊢ C 1 := h1
    have e0 : iprop(A 0 ∗ B 2) ⊢ C 0 := h2 0 (by decide)
    have e2 : iprop(A 2 ∗ B 0) ⊢ C 2 := h2 2 (by decide)
    have e3 : iprop(A 3 ∗ B 1) ⊢ C 3 := h2 3 (by decide)
    iintro ⟨⟨A0, A1, A2, A3⟩, B0, B1, B2⟩
    isplitl [A0 B2]; · iapply e0; isplitl [A0] <;> iassumption
    isplitl [A1]; · iapply e1; iexact A1
    isplitl [A2 B0]; · iapply e2; isplitl [A2] <;> iassumption
    iapply e3; isplitl [A3] <;> iassumption
  · have e2 : A 2 ⊢ C 2 := h1
    have e0 : iprop(A 0 ∗ B 1) ⊢ C 0 := h2 0 (by decide)
    have e1 : iprop(A 1 ∗ B 2) ⊢ C 1 := h2 1 (by decide)
    have e3 : iprop(A 3 ∗ B 0) ⊢ C 3 := h2 3 (by decide)
    iintro ⟨⟨A0, A1, A2, A3⟩, B0, B1, B2⟩
    isplitl [A0 B1]; · iapply e0; isplitl [A0] <;> iassumption
    isplitl [A1 B2]; · iapply e1; isplitl [A1] <;> iassumption
    isplitl [A2]; · iapply e2; iexact A2
    iapply e3; isplitl [A3] <;> iassumption
  · have e3 : A 3 ⊢ C 3 := h1
    have e0 : iprop(A 0 ∗ B 0) ⊢ C 0 := h2 0 (by decide)
    have e1 : iprop(A 1 ∗ B 1) ⊢ C 1 := h2 1 (by decide)
    have e2 : iprop(A 2 ∗ B 2) ⊢ C 2 := h2 2 (by decide)
    iintro ⟨⟨A0, A1, A2, A3⟩, B0, B1, B2⟩
    isplitl [A0 B0]; · iapply e0; isplitl [A0] <;> iassumption
    isplitl [A1 B1]; · iapply e1; isplitl [A1] <;> iassumption
    isplitl [A2 B2]; · iapply e2; isplitl [A2] <;> iassumption
    iapply e3; iexact A3

/-! ## What a device starts from -/

/-- The tokens it pays with, its positions and its credits. -/
def Mine (c : Dev nD) : sProp 𝕄 :=
  iprop((dutyTok ER (barG (barE 0 c)) 0 0 ∗ dutyTok ER (barG (barE 1 c)) 0 1 ∗ dutyTok ER (barG (barE 2 c)) 0 2 ∗ dutyTok ER (barG (barE 3 c)) 0 3 ∗ dutyTok ER (barG (barE 4 c)) 0 4)
    ∗ each (fun d n => dutyTok ER (sndG d n c) 0 0) (fun d n => dutyTok ER (rcvG d n (tgt d c)) 0 0) (fun u => dutyTok ER (zsG u c) 0 0) (fun k => dutyTok ER (zrG k (zsh (k.val + 1) c)) 0 0)
    ∗ atPos ER (barG c) 0 ∅ 0
    ∗ each (fun d n => atPos ER (sndG d n c) 0 ∅ 0) (fun d n => atPos ER (rcvG d n c) 0 ∅ 0) (fun u => atPos ER (zsG u c) 0 ∅ 0) (fun k => atPos ER (zrG k c) 0 ∅ 0)
    ∗ cred (tallyAt (barG c) () 5)
    ∗ (bigSep (Finset.Ico 0 28) fun n => cred (tallyAt (rcvG false n c) () N1)) ∗ (bigSep (Finset.Ico 0 28) fun n => cred (tallyAt (rcvG true n c) () N1))
    ∗ three fun k => cred (tallyAt (zrG k c) () N2))
/-- The scratch buffers. -/
def scr (c : Dev nD) : sProp 𝕄 :=
  iprop(wany c cc0_scratch0 ∗ wany c cc0_scratch1 ∗ wany c cc0_scratch2 ∗ wany c cc0_scratch3 ∗ wany c cc0_scratch4 ∗ wany c cc0_scratch5 ∗ wany c cc0_scratch6 ∗ wany c cc0_scratch7 ∗ wany c cc0_scratch8)
/-- Every counter at zero. -/
def zeros (c : Dev nD) : sProp 𝕄 :=
  iprop(semVal (barG c) 0 ∗ each (fun d n => semVal (sndG d n c) 0) (fun d n => semVal (rcvG d n c) 0) (fun u => semVal (zsG u c) 0) (fun k => semVal (zrG k c) 0))

theorem fresh_intro (c : Dev nD) (d : Bool) :
    iprop((bigSep (Finset.Ico 0 28) fun n => dutyTok ER (sndG d n c) 0 0) ∗ (bigSep (Finset.Ico 0 28) fun n => dutyTok ER (rcvG d n (tgt d c)) 0 0) ∗ rcvAll d (tgt d c))
      ⊢ (bigSep (Finset.Ico 0 28) (fresh c d) : sProp 𝕄) := by
  unfold fresh rcvAll
  rw [bigSep_sep', bigSep_sep', Finset.range_eq_Ico]
theorem poss_intro (c : Dev nD) (d : Bool) :
    iprop((bigSep (Finset.Ico 0 28) fun n => atPos ER (sndG d n c) 0 ∅ 0) ∗ (bigSep (Finset.Ico 0 28) fun n => atPos ER (rcvG d n c) 0 ∅ 0) ∗ (bigSep (Finset.Ico 0 28) fun n => cred (tallyAt (rcvG d n c) () N1)))
      ⊢ (bigSep (Finset.Ico 0 28) (poss c d) : sProp 𝕄) := by
  unfold poss
  rw [bigSep_sep', bigSep_sep']
theorem dir_start (c : Dev nD) (d : Bool) :
    iprop((bigSep (Finset.Ico 0 4) fun n => slotIs c (accW d n) (ACC m d (uOf n) (n / 4) c)) ∗ (bigSep (Finset.Ico 4 8) fun n => slotAny c (accW d n))
        ∗ bigSep (Finset.Ico 0 28) (fresh c d) ∗ bigSep (Finset.Ico 0 28) (poss c d)) ⊢ (Dir0 m c d 0 : sProp 𝕄) := by
  unfold Dir0
  rw [Finset.Ico_self, bigSep_empty]
  iintro ⟨A, B, C, D⟩
  isplitr; · iempintro
  isplitl [A]; · iexact A
  isplitl [B]; · iexact B
  isplitl [C] <;> iassumption
theorem dir_end (c : Dev nD) (d : Bool) :
    (Dir c d 28 : sProp 𝕄) ⊢ iprop(wany c (accB d) ∗ wany c (rcvB d) ∗ (bigSep (Finset.Ico 0 28) fun n => semVal (sndG d n c) 0) ∗ (bigSep (Finset.Ico 0 28) fun n => semVal (rcvG d n c) 0)) := by
  unfold Dir done
  rw [show min (28 + 4) 28 = 28 from rfl, bigSep_sep', bigSep_sep']
  iintro ⟨-, A, -, -, B, C, D⟩
  isplitl [A]; · iapply (acc_join c d 28); iexact A
  isplitl [D]; · iapply (rcv_join c d); iexact D
  isplitl [B] <;> iassumption
theorem zf_intro (c : Dev nD) :
    iprop(four (fun u => dutyTok ER (zsG u c) 0 0) ∗ three (fun k => dutyTok ER (zrG k (zsh (k.val + 1) c)) 0 0) ∗ slotAny (zsh 3 c) (zW 2) ∗ slotAny (zsh 2 c) (zW 1) ∗ slotAny (zsh 1 c) (zW 0))
      ⊢ (four (ZF c) : sProp 𝕄) := by
  have h := spread c (fun u => (dutyTok ER (zsG u c) 0 0 : sProp 𝕄)) (ZF c) (fun k => iprop(dutyTok ER (zrG k (zsh (k.val + 1) c)) 0 0 ∗ slotAny (zsh (k.val + 1) c) (zW k)))
    (by unfold ZF; rw [if_pos rfl]; iintro -; iempintro)
    (fun u hu => by unfold ZF; rw [if_neg hu, zt_eq u c hu])
  iintro ⟨A, ⟨B0, B1, B2⟩, C2, C1, C0⟩
  iapply h
  isplitl [A]; · iexact A
  isplitl [B0 C0]; · isplitl [B0]; · iexact B0
                     iexact C0
  isplitl [B1 C1]; · isplitl [B1]; · iexact B1
                     iexact C1
  isplitl [B2]; · iexact B2
  iexact C2

/-- The whole body. -/
theorem body_spec (c : Dev nD) (Q : PUnit → sProp 𝕄) :
    iprop(Ctx m ∗ Mine c ∗ scr c ∗ args m c ∗ whl c cc0_stg3_0 (EW m c) ∗ wany c cc0_stg5_0 ∗ ow c (OB c 5)
        ∗ ((scr c ∗ args m c ∗ whl c cc0_stg3_0 (EW m c) ∗ whl c cc0_stg5_0 (OUT m c) ∗ zeros c ∗ ow c 0) -∗ Q ⟨⟩))
      ⊢ run c bodyP Q := by
  have hb : (run c bodyP Q : sProp 𝕄) = run c (preP c >>= fun _ => send0P c >>= fun _ => ringP c >>= fun _ => tailP c) Q := by
    unfold run bodyP
    simp only [Prog.lift, Prog.bind_op, Prog.bind_ret, wp_deviceId]
  rw [hb, run_bind c (preP c), run_bind c (send0P c), run_bind c (ringP c)]
  unfold preP
  rw [run_bind c (gateP c), run_bind c (initP false c), run_bind c (initP true c)]
  unfold Mine scr
  iintro ⟨#HC, ⟨⟨T0, T1, T2, T3, T4⟩, ⟨⟨⟨TS0, TS1⟩, ⟨TR0, TR1⟩⟩, TZ, TY⟩, Pb, ⟨⟨⟨PS0, PS1⟩, ⟨PR0, PR1⟩⟩, PZ, ⟨PY0, PY1, PY2⟩⟩, Cb, C0, C1, ⟨CY0, CY1, CY2⟩⟩, ⟨W0, W1, W2, W3, W4, W5, W6, W7, W8⟩, Ha, He, Ho, HO, Hk⟩
  iapply (gate_spec m c)
  isplitl [Ha]; · iexact Ha
  isplitl [He]; · iexact He
  isplitl [W0]; · iexact W0
  isplitl [W1]; · iexact W1
  iintro ⟨Ha, Hr⟩
  iapply (init_spec m c false)
  isplitl [Hr]; · iexact Hr
  isplitl [W3]; · iexact W3
  iintro ⟨Hr, A0, B0⟩
  iapply (init_spec m c true)
  isplitl [Hr]; · iexact Hr
  isplitl [W4]; · iexact W4
  iintro ⟨Hr, A1, B1⟩
  ihave W5 := ((Entails.of_eq (show (wany c cc0_scratch5 : sProp 𝕄) = wany c (rcvB false) from rfl)).trans (rcv_split c false)) $$ W5
  ihave W6 := ((Entails.of_eq (show (wany c cc0_scratch6 : sProp 𝕄) = wany c (rcvB true) from rfl)).trans (rcv_split c true)) $$ W6
  ihave W8 := ((z_split c).trans (Entails.of_eq (three_eq _))) $$ W8
  ihave W7 := ((s_split c).trans (Entails.of_eq (four_eq _))) $$ W7
  icases W8 with ⟨Z0, Z1, Z2⟩
  iapply (bar_spec m c)
  isplitr; · iexact HC
  isplitl [T0 T1 T2 T3 T4 W5 W6 Z0 Z1 Z2]
  · unfold lend rcvAll
    rw [Finset.range_eq_Ico]
    isplitl [T0]; · iexact T0
    isplitl [T1]; · iexact T1
    isplitl [T2]; · iexact T2
    isplitl [T3]; · iexact T3
    isplitl [T4]; · iexact T4
    isplitl [W5]; · iexact W5
    isplitl [W6]; · iexact W6
    isplitl [Z2]; · iexact Z2
    isplitl [Z1]; · iexact Z1
    iexact Z0
  isplitl [Pb]; · iexact Pb
  isplitl [Cb]; · iexact Cb
  isplitl [HO]; · iexact HO
  iintro ⟨Vb, Hl, HO⟩
  unfold lent
  icases Hl with ⟨L0, L1, L2, L3, L4⟩
  ihave L0 := (Entails.of_eq (show (barPay c 0 : sProp 𝕄) = rcvAll false (tgt false c) from rfl)) $$ L0
  ihave L1 := (Entails.of_eq (show (barPay c 1 : sProp 𝕄) = rcvAll true (tgt true c) from rfl)) $$ L1
  ihave L2 := (Entails.of_eq (show (barPay c 2 : sProp 𝕄) = slotAny (zsh 3 c) (zW 2) from rfl)) $$ L2
  ihave L3 := (Entails.of_eq (show (barPay c 3 : sProp 𝕄) = slotAny (zsh 2 c) (zW 1) from rfl)) $$ L3
  ihave L4 := (Entails.of_eq (show (barPay c 4 : sProp 𝕄) = slotAny (zsh 1 c) (zW 0) from rfl)) $$ L4
  ihave L0 := (fresh_intro c false) $$ [TS0 TR0 L0]
  · isplitl [TS0]; · iexact TS0
    isplitl [TR0] <;> iassumption
  ihave L1 := (fresh_intro c true) $$ [TS1 TR1 L1]
  · isplitl [TS1]; · iexact TS1
    isplitl [TR1] <;> iassumption
  ihave PS0 := (poss_intro c false) $$ [PS0 PR0 C0]
  · isplitl [PS0]; · iexact PS0
    isplitl [PR0] <;> iassumption
  ihave PS1 := (poss_intro c true) $$ [PS1 PR1 C1]
  · isplitl [PS1]; · iexact PS1
    isplitl [PR1] <;> iassumption
  ihave TZ := (zf_intro c) $$ [TZ TY L2 L3 L4]
  · isplitl [TZ]; · iexact TZ
    isplitl [TY]; · iexact TY
    isplitl [L2]; · iexact L2
    isplitl [L3] <;> iassumption
  ihave A0 := (dir_start m c false) $$ [A0 B0 L0 PS0]
  · isplitl [A0]; · iexact A0
    isplitl [B0]; · iexact B0
    isplitl [L0] <;> iassumption
  ihave A1 := (dir_start m c true) $$ [A1 B1 L1 PS1]
  · isplitl [A1]; · iexact A1
    isplitl [B1]; · iexact B1
    isplitl [L1] <;> iassumption
  iapply (send0_spec m c)
  isplitr; · iexact HC
  isplitl [A0 A1 HO]
  · unfold St0
    isplitl [A0]; · iexact A0
    isplitl [A1]; · iexact A1
    iexact HO
  iintro HS
  iapply (ring_spec m c)
  isplitr; · iexact HC
  isplitl [Hr]; · iexact Hr
  isplitl [HS]; · iexact HS
  iintro ⟨Hr, HS⟩
  iapply (tail_spec m c)
  isplitr; · iexact HC
  isplitl [Hr]; · iexact Hr
  isplitl [Ha]; · iexact Ha
  isplitl [HS]; · iexact HS
  isplitl [W7]; · iexact W7
  isplitl [TZ]; · iexact TZ
  isplitl [PZ]; · iexact PZ
  isplitl [PY0 PY1 PY2 CY0 CY1 CY2]
  · isplitl [PY0 CY0]; · isplitl [PY0] <;> iassumption
    isplitl [PY1 CY1]; · isplitl [PY1] <;> iassumption
    isplitl [PY2] <;> iassumption
  isplitl [W2]; · iexact W2
  isplitl [Ho]; · iexact Ho
  iintro ⟨Hr, Ha, ⟨D0, D1, HO⟩, HZ, V1, V2, ⟨Z0, Z1, Z2⟩, W2, Ho⟩
  ihave D0 := (dir_end c false) $$ D0
  ihave D1 := (dir_end c true) $$ D1
  icases D0 with ⟨W3, W5, V3, V4⟩
  icases D1 with ⟨W4, W6, V5, V6⟩
  have hzd : ∀ u, (ZD m c u : sProp 𝕄) ⊢ slotAny c (sW u) := fun u => by
    unfold ZD; split
    · exact slotIs_any c _ _
    · exact Entails.refl _
  icases HZ with ⟨S0, S1, S2, S3⟩
  ihave S0 := (hzd 0) $$ S0
  ihave S1 := (hzd 1) $$ S1
  ihave S2 := (hzd 2) $$ S2
  ihave S3 := (hzd 3) $$ S3
  ihave Z0 := (slotIs_any c (zW 0) (ZV m 0 c)) $$ Z0
  ihave Z1 := (slotIs_any c (zW 1) (ZV m 1 c)) $$ Z1
  ihave Z2 := (slotIs_any c (zW 2) (ZV m 2 c)) $$ Z2
  iapply Hk
  unfold rds
  icases Hr with ⟨W0, W1, He⟩
  isplitl [W0 W1 W2 W3 W4 W5 W6 S0 S1 S2 S3 Z0 Z1 Z2]
  · isplitl [W0]; · unfold wany; iexists _; iexact W0
    isplitl [W1]; · unfold wany; iexists _; iexact W1
    isplitl [W2]; · unfold wany; iexists _; iexact W2
    isplitl [W3]; · iexact W3
    isplitl [W4]; · iexact W4
    isplitl [W5]; · iexact W5
    isplitl [W6]; · iexact W6
    isplitl [S0 S1 S2 S3]
    · iapply ((Entails.of_eq (four_eq (fun u => (slotAny c (sW u) : sProp 𝕄))).symm).trans (s_join c))
      isplitl [S0]; · iexact S0
      isplitl [S1]; · iexact S1
      isplitl [S2]; · iexact S2
      iexact S3
    · iapply ((Entails.of_eq (three_eq (fun k => (slotAny c (zW k) : sProp 𝕄))).symm).trans (z_join c))
      isplitl [Z0]; · iexact Z0
      isplitl [Z1]; · iexact Z1
      iexact Z2
  isplitl [Ha]; · iexact Ha
  isplitl [He]; · iexact He
  isplitl [Ho]; · iexact Ho
  isplitl [Vb V1 V2 V3 V4 V5 V6]
  · unfold zeros
    isplitl [Vb]; · iexact Vb
    isplitl [V3 V4 V5 V6]
    · isplitl [V3 V5]
      · isplitl [V3]; · iexact V3
        iexact V5
      isplitl [V4]; · iexact V4
      iexact V6
    isplitl [V1]; · iexact V1
    iexact V2
  iexact HO

end Cert.Moe

end
-- ==== Proof.Deal.lean ====
/-
# Dealing out the cells

The launch opens every cell's round, and every token goes to the device that pays with it.
-/
module

public import proofs.«01_k».proof.Proof.Body

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem kcell_inj : Function.Injective (kcell : Dev nD × Option J → GSem nD τ sig) := by
  rintro ⟨c, k⟩ ⟨c', k'⟩ h
  have h1 : c = c' := congrArg (fun g : GSem nD τ sig => g.1.1) h
  have h2 : csem k = csem k' := congrArg Prod.snd h
  subst h1
  rcases k with _ | j <;> rcases k' with _ | j'
  · rfl
  · cases h2
  · cases h2
  · rw [jsem_inj (SemLoc.dma.inj h2)]
/-- The kernel's cells. -/
def ownCells : Finset (GSem nD τ sig) := Finset.univ.map ⟨kcell, kcell_inj⟩

/-- The duties: one a DMA cell, five a barrier cell. -/
abbrev tokOf (x : Dev nD × (J ⊕ Fin 5)) : GSem nD τ sig × ℕ × Fin 5 := match x.2 with
  | .inl j => (kcell (x.1, some j), 0, 0)
  | .inr j => (barG x.1, 0, j)
theorem tokOf_inj : Function.Injective (tokOf : Dev nD × (J ⊕ Fin 5) → GSem nD τ sig × ℕ × Fin 5) := by
  rintro ⟨c, j⟩ ⟨c', j'⟩ h
  rcases j with j | j <;> rcases j' with j' | j'
  · have h1 : (c, some j) = (c', some j') := kcell_inj (congrArg Prod.fst h)
    cases h1; rfl
  · have h2 : (SemLoc.dma (jsem j) : SemLoc sig) = .reg barC := congrArg (fun x : GSem nD τ sig × ℕ × Fin 5 => x.1.2) h
    cases h2
  · have h2 : (SemLoc.reg barC : SemLoc sig) = .dma (jsem j') := congrArg (fun x : GSem nD τ sig × ℕ × Fin 5 => x.1.2) h
    cases h2
  · have h1 : c = c' := congrArg (fun x : GSem nD τ sig × ℕ × Fin 5 => x.1.1.1) h
    have h2 : j = j' := congrArg (fun x : GSem nD τ sig × ℕ × Fin 5 => x.2.2) h
    subst h1 h2; rfl
def ownToks : Finset (GSem nD τ sig × ℕ × Fin 5) := Finset.univ.map ⟨tokOf, tokOf_inj⟩

/-- The launch element: the staging cells', and these. -/
def u₀ : UU := (initOf (Pipeline.cells cfgs cellOf_inj) (Pipeline.launchToks cfgs cellOf_inj), initOf ownCells ownToks)

/-- A family over a device's cells: the barrier's, and the DMA cells'. -/
theorem opt_eq (P : Option J → sProp 𝕄) : bigSep Finset.univ P = iprop(P none ∗ bigSep Finset.univ fun j => P (some j)) := by
  have h : (Finset.univ : Finset (Option J)) = insert none (Finset.univ.map Function.Embedding.some) := rfl
  rw [h, bigSep_insert (by simp), bigSep_map]
  rfl

/-- The duty tokens of device `c`'s own cells. -/
def toks (c : Dev nD) : sProp 𝕄 :=
  iprop((bigSep Finset.univ fun j : J => dutyTok ER (kcell (c, some j)) 0 0) ∗ bigSep Finset.univ fun j : Fin 5 => dutyTok ER (barG c) 0 j)
/-- What the launch deals device `c`. -/
def G (c : Dev nD) : sProp 𝕄 :=
  iprop((bigSep Finset.univ fun k : Option J => roundState ER (Rd m) (kcell (c, k)) 0)
    ∗ (bigSep Finset.univ fun k : Option J => atPos ER (kcell (c, k)) 0 ∅ 0) ∗ (bigSep Finset.univ fun k : Option J => reached ER (kcell (c, k)) 0) ∗ toks c)

theorem fund_own : BI.own (ER (initOf ownCells ownToks)) ⊢ (|==> bigSep Finset.univ (G m) : sProp 𝕄) := by
  have hX (Φ : GSem nD τ sig → sProp 𝕄) : bigSep ownCells Φ = bigSep Finset.univ fun c : Dev nD => bigSep Finset.univ fun k : Option J => Φ (kcell (c, k)) := by
    unfold ownCells; rw [bigSep_map, bigSep_univ_prod]; rfl
  have hT : bigSep ownToks (fun x => (dutyTok ER x.1 x.2.1 x.2.2 : sProp 𝕄)) = bigSep Finset.univ fun c : Dev nD => toks c := by
    unfold ownToks; rw [bigSep_map, bigSep_univ_prod]
    exact bigSep_congr fun c _ => by unfold toks; rw [bigSep_univ_sum]; rfl
  iintro HX
  imod (Rounds.fund ER (Rd m) ownCells ownToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The launch's semaphores of its own are the DMA cells, at zero, -/
theorem ownSems0_eq (c : Dev nD) : (Pipeline.ownSems0 (Ix := Unit) (Name := ℕ) (U := UU) (Lvl := ℕ) (Val := Elt F) (τ := τ) osem c : sProp 𝕄)
    = bigSep Finset.univ fun j : J => semVal (kcell (c, some j)) 0 := rfl
/-- the barrier's its one other. -/
theorem unscopedSems0_eq (c : Dev nD) : (unscopedSems0 c : sProp 𝕄) = semVal (barG c) 0 := by
  unfold unscopedSems0; rw [bigSep_eq_bigSepL_of_eq [SemLoc.reg barC] (by decide) (by decide)]; rfl

theorem rec1_intro (g : GSem nD τ sig) : iprop((∃ κ : ℕ, cellInv ER (Rd m) κ g) ∗ reached ER g 0) ⊢ (rec1 m g : sProp 𝕄) := by
  unfold rec1
  iintro ⟨⟨%κ, H1⟩, H2⟩
  iexists κ
  isplitl [H1] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => rec1 m (kcell (c, k))) ∗ (bigSep Finset.univ fun k : Option J => atPos ER (kcell (c, k)) 0 ∅ 0) ∗ toks c) := by
  unfold G
  rw [ownSems0_eq, unscopedSems0_eq]
  iintro ⟨Hos, Hus, Hst, Hat, Hr, Htok⟩
  have hv : iprop(semVal (barG c) 0 ∗ bigSep Finset.univ fun j : J => semVal (kcell (c, some j)) 0) ⊢ (bigSep Finset.univ fun k : Option J => semVal (kcell (c, k)) 0 : sProp 𝕄) :=
    Entails.of_eq (opt_eq (fun k : Option J => semVal (kcell (c, k)) 0)).symm
  have hi : iprop((bigSep Finset.univ fun k : Option J => semVal (kcell (c, k)) 0) ∗ bigSep Finset.univ fun k : Option J => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have hr : iprop((bigSep Finset.univ fun k => iprop(∃ κ : ℕ, cellInv ER (Rd m) κ (kcell (c, k)))) ∗ bigSep Finset.univ fun k : Option J => reached ER (kcell (c, k)) 0)
      ⊢ (bigSep Finset.univ fun k => rec1 m (kcell (c, k)) : sProp 𝕄) := by
    rw [← bigSep_sep']
    exact bigSep_mono fun k _ => rec1_intro m (kcell (c, k))
  ihave Hv := hv $$ [Hos Hus]
  · isplitl [Hus] <;> iassumption
  imod hi $$ [Hv Hst] with Hinv
  · isplitl [Hv] <;> iassumption
  imodintro
  isplitl [Hinv Hr]
  · iapply hr
    isplitl [Hinv] <;> iassumption
  isplitl [Hat] <;> iassumption

/-- The tokens device `c` pays with. -/
def pays (c : Dev nD) : sProp 𝕄 :=
  iprop((dutyTok ER (barG (barE 0 c)) 0 0 ∗ dutyTok ER (barG (barE 1 c)) 0 1 ∗ dutyTok ER (barG (barE 2 c)) 0 2 ∗ dutyTok ER (barG (barE 3 c)) 0 3 ∗ dutyTok ER (barG (barE 4 c)) 0 4)
    ∗ each (fun d n => dutyTok ER (sndG d n c) 0 0) (fun d n => dutyTok ER (rcvG d n (tgt d c)) 0 0) (fun u => dutyTok ER (zsG u c) 0 0) (fun k => dutyTok ER (zrG k (zsh (k.val + 1) c)) 0 0))

theorem move (e : Dev nD ≃ Dev nD) (A B : Dev nD → sProp 𝕄) (h : ∀ c, A (e c) = B c) : bigSep Finset.univ A ⊢ bigSep Finset.univ B := by
  rw [bigSep_univ_equiv e A]
  exact Entails.of_eq (bigSep_congr fun c _ => h c)

theorem toks_eq (c : Dev nD) : (toks c : sProp 𝕄) =
    iprop(each (fun d n => dutyTok ER (sndG d n c) 0 0) (fun d n => dutyTok ER (rcvG d n c) 0 0) (fun u => dutyTok ER (zsG u c) 0 0) (fun k => dutyTok ER (zrG k c) 0 0)
      ∗ dutyTok ER (barG c) 0 0 ∗ dutyTok ER (barG c) 0 1 ∗ dutyTok ER (barG c) 0 2 ∗ dutyTok ER (barG c) 0 3 ∗ dutyTok ER (barG c) 0 4) := by
  unfold toks
  rw [each_eq (fun j : J => (dutyTok ER (kcell (c, some j)) 0 0 : sProp 𝕄)) (fun d n => dutyTok ER (sndG d n c) 0 0) (fun d n => dutyTok ER (rcvG d n c) 0 0) (fun _ _ => rfl) (fun _ _ => rfl),
    bigSep_univ_eq_bigSepL [0, 1, 2, 3, 4] (by decide) (by decide)]
  rfl

/-- Every token with the device that pays with it: a barrier's at its partner, a receive cell's at the sender. -/
theorem toks_around : (bigSep Finset.univ fun c : Dev nD => (toks c : sProp 𝕄)) ⊢ bigSep Finset.univ fun c : Dev nD => pays c := by
  have hr : ∀ d : Bool, (bigSep Finset.univ fun c : Dev nD => bigSep (Finset.Ico 0 28) fun n => (dutyTok ER (rcvG d n c) 0 0 : sProp 𝕄))
      ⊢ bigSep Finset.univ fun c : Dev nD => bigSep (Finset.Ico 0 28) fun n => dutyTok ER (rcvG d n (tgt d c)) 0 0 := fun d => move (tgtE d) _ _ fun _ => rfl
  have hz : ∀ k : Fin 3, (bigSep Finset.univ fun c : Dev nD => (dutyTok ER (zrG k c) 0 0 : sProp 𝕄))
      ⊢ bigSep Finset.univ fun c : Dev nD => dutyTok ER (zrG k (zsh (k.val + 1) c)) 0 0 := fun k => move (zshE k) _ _ fun _ => rfl
  have hb : ∀ j : Fin 5, (bigSep Finset.univ fun c : Dev nD => (dutyTok ER (barG c) 0 j : sProp 𝕄))
      ⊢ bigSep Finset.univ fun c : Dev nD => dutyTok ER (barG (barE j c)) 0 j := fun j => move (barE j) _ _ fun _ => rfl
  rw [bigSep_congr fun c _ => toks_eq c]
  unfold pays
  simp only [bigSep_sep']
  iintro ⟨⟨⟨S, ⟨R0, R1⟩⟩, Z, ⟨Y0, Y1, Y2⟩⟩, B0, B1, B2, B3, B4⟩
  isplitl [B0 B1 B2 B3 B4]
  · isplitl [B0]; · iapply (hb 0); iexact B0
    isplitl [B1]; · iapply (hb 1); iexact B1
    isplitl [B2]; · iapply (hb 2); iexact B2
    isplitl [B3]; · iapply (hb 3); iexact B3
    iapply (hb 4); iexact B4
  isplitl [S R0 R1]
  · isplitl [S]; · iexact S
    isplitl [R0]; · iapply (hr false); iexact R0
    iapply (hr true); iexact R1
  isplitl [Z]; · iexact Z
  isplitl [Y0]; · iapply (hz 0); iexact Y0
  isplitl [Y1]; · iapply (hz 1); iexact Y1
  iapply (hz 2); iexact Y2

/-- What a device has once the cells are open: every cell's record, its positions, its tokens. -/
def G' (c : Dev nD) : sProp 𝕄 :=
  iprop((bigSep Finset.univ fun ck : Dev nD × Option J => rec1 m (kcell ck)) ∗ (bigSep Finset.univ fun k : Option J => atPos ER (kcell (c, k)) 0 ∅ 0) ∗ pays c)

theorem regroup :
    (bigSep Finset.univ fun c : Dev nD => iprop((bigSep Finset.univ fun k => rec1 m (kcell (c, k))) ∗ (bigSep Finset.univ fun k : Option J => atPos ER (kcell (c, k)) 0 ∅ 0) ∗ toks c) : sProp 𝕄)
      ⊢ bigSep Finset.univ (G' m) := by
  unfold G'
  rw [bigSep_sep', bigSep_sep', bigSep_sep', bigSep_sep', ← bigSep_univ_prod (fun ck : Dev nD × Option J => rec1 m (kcell ck))]
  iintro ⟨#HR, Hat, Htok⟩
  isplitr
  · iapply (BI.bigSep_of_persistent (Finset.univ : Finset (Dev nD)) (bigSep Finset.univ fun ck : Dev nD × Option J => (rec1 m (kcell ck) : sProp 𝕄)))
    iexact HR
  isplitl [Hat]; · iexact Hat
  iapply toks_around; iexact Htok

/-- Every device's semaphores and launch element at once, into records, positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Moe

end
-- ==== Proof.Credits.lean ====
/-
# The launch credits

What the devices together owe at each cell is what its owner waits for: five units at a barrier, one copy's credit at a receive cell.
-/
module

public import proofs.«01_k».proof.Proof.Deal

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Which cells are one -/

theorem rcv_inj {d d' : Bool} {n n' : ℕ} {c c' : Dev nD} (h : n < 28) (h' : n' < 28) (e : rcvG d n c = rcvG d' n' c') : d = d' ∧ n = n' ∧ c = c' := by
  have h1 : c = c' := congrArg (fun g : GSem nD τ sig => g.1.1) e
  have h2 := congrArg semKind (SemLoc.dma.inj (congrArg Prod.snd e))
  rw [kind_rcvN d h, kind_rcvN d' h'] at h2
  have h3 := SemKind.rcv.inj h2
  exact ⟨h3.1, congrArg Fin.val h3.2, h1⟩
theorem zr_inj {k k' : Fin 3} {c c' : Dev nD} (e : zrG k c = zrG k' c') : k = k' ∧ c = c' := by
  have h1 : c = c' := congrArg (fun g : GSem nD τ sig => g.1.1) e
  have h2 := congrArg semKind (SemLoc.dma.inj (congrArg Prod.snd e))
  rw [kind_zr, kind_zr] at h2
  exact ⟨SemKind.zr.inj h2, h1⟩
theorem rcv_ne_zr {d : Bool} {n : ℕ} {c c' : Dev nD} {k : Fin 3} (h : n < 28) : rcvG d n c ≠ zrG k c' := by
  intro e
  have h2 := congrArg semKind (SemLoc.dma.inj (congrArg Prod.snd e))
  rw [kind_rcvN d h, kind_zr] at h2
  cases h2
theorem dma_ne_bar {q : DmaSem sig} {c c' : Dev nD} : (((c : Thread nD τ), .dma q) : GSem nD τ sig) ≠ barG c' := by
  intro e
  have h2 : (SemLoc.dma q : SemLoc sig) = .reg barC := congrArg Prod.snd e
  cases h2

/-! ## What is owed at a cell, summed over the devices -/

theorem at_add (A B : CellTallies nD τ sig Unit) (g : GSem nD τ sig) : (A + B) g () = A g () + B g () := by rw [Pi.add_apply, Finsupp.add_apply]
theorem at_ne {g g' : GSem nD τ sig} (h : g ≠ g') (N : ℕ) : (tallyAt g' () N : CellTallies nD τ sig Unit) g () = 0 := by
  rw [tallyAt_apply]; exact if_neg fun h' => h h'.1
theorem at_eq (g : GSem nD τ sig) (N : ℕ) : (tallyAt g () N : CellTallies nD τ sig Unit) g () = N := by
  rw [tallyAt_apply]; exact if_pos ⟨rfl, rfl⟩

/-- A tally that every device owes at its own image under a permutation is owed once at each cell. -/
theorem sum_perm (e : Dev nD ≃ Dev nD) (C : Dev nD → GSem nD τ sig) (hC : Function.Injective C) (N : ℕ) (c : Dev nD) :
    ∑ x : Dev nD, (tallyAt (C (e x)) () N : CellTallies nD τ sig Unit) (C c) () = N := by
  have h : ∀ x : Dev nD, (tallyAt (C (e x)) () N : CellTallies nD τ sig Unit) (C c) () = if x = e.symm c then N else 0 := fun x => by
    by_cases hx : x = e.symm c
    · subst hx; rw [if_pos rfl, e.apply_symm_apply, at_eq]
    · rw [if_neg hx, at_ne fun h => hx (by rw [hC h, e.symm_apply_apply])]
  rw [Finset.sum_congr rfl fun x _ => h x, Finset.sum_ite_eq' Finset.univ (e.symm c) fun _ => N, if_pos (Finset.mem_univ _)]

theorem OZ_rcv (x : Dev nD) (d : Bool) {n : ℕ} (hn : n < 28) (c : Dev nD) : ∀ j, OZ x j (rcvG d n c) () = 0
  | 0 => rfl
  | j + 1 => by
    rw [OZ, at_add, OZ_rcv x d hn c j, Nat.zero_add]
    unfold TZ; split
    · rfl
    · exact at_ne (rcv_ne_zr hn) _
theorem TR_sum (d d' : Bool) {n n' : ℕ} (hn : n < 28) (hn' : n' < 28) (c : Dev nD) :
    ∑ x : Dev nD, TR d' n' x (rcvG d n c) () = if d = d' ∧ n = n' then N1 else 0 := by
  by_cases h : d = d' ∧ n = n'
  · rw [if_pos h]; obtain ⟨h1, h2⟩ := h; subst h1 h2
    exact sum_perm (tgtE d) (fun c => rcvG d n c) (fun a b e => (rcv_inj hn hn e).2.2) N1 c
  · rw [if_neg h]
    exact Finset.sum_eq_zero fun x _ => at_ne (fun e => h ⟨(rcv_inj hn hn' e).1, (rcv_inj hn hn' e).2.1⟩) _
theorem OR_rcv (d : Bool) {n : ℕ} (hn : n < 28) (c : Dev nD) : ∀ k, k ≤ 28 → ∑ x : Dev nD, OR x k (rcvG d n c) () = if 28 - k ≤ n then N1 else 0
  | 0, _ => by
    rw [if_neg (by omega)]
    exact Finset.sum_eq_zero fun x _ => OZ_rcv x d hn c 4
  | k + 1, hk => by
    rw [Finset.sum_congr rfl fun x _ => show OR x (k + 1) (rcvG d n c) () = (OR x k (rcvG d n c) () + TR true (27 - k) x (rcvG d n c) ()) + TR false (27 - k) x (rcvG d n c) () by
        rw [OR, at_add, at_add],
      Finset.sum_add_distrib, Finset.sum_add_distrib, OR_rcv d hn c k (by omega), TR_sum d true hn (by omega) c, TR_sum d false hn (by omega) c]
    cases d
    · simp only [Bool.false_eq_true, false_and, if_false, true_and, Nat.add_zero]
      split_ifs <;> first | omega | (exfalso; omega)
    · simp only [Bool.true_eq_false, false_and, if_false, true_and, Nat.add_zero]
      split_ifs <;> first | omega | (exfalso; omega)
theorem OB_dma (q : DmaSem sig) (x c : Dev nD) : ∀ j, OB x j ((c : Thread nD τ), .dma q) () = OR x 28 ((c : Thread nD τ), .dma q) ()
  | 0 => rfl
  | j + 1 => by rw [OB, at_add, OB_dma q x c j, at_ne dma_ne_bar, Nat.add_zero]

theorem OR_zr (x : Dev nD) (k : Fin 3) (c : Dev nD) : ∀ j, j ≤ 28 → OR x j (zrG k c) () = OZ x 4 (zrG k c) ()
  | 0, _ => rfl
  | j + 1, hj => by
    rw [OR, at_add, at_add, OR_zr x k c j (by omega), at_ne (rcv_ne_zr (by omega)).symm, at_ne (rcv_ne_zr (by omega)).symm, Nat.add_zero]
/-- Who sends what into a slot of the second exchange. -/
theorem z_who : ∀ (u : Fin 4) (x : Dev nD) (k : Fin 3) (c : Dev nD), (u ≠ zOf x ∧ k = kk u (zOf x) ∧ c = zt u x) ↔ (u = zOf c ∧ x = zsh (3 - k.val) c) := by decide +kernel
theorem TZ_at (u : Fin 4) (x : Dev nD) (k : Fin 3) (c : Dev nD) : TZ u x (zrG k c) () = if u = zOf c ∧ x = zsh (3 - k.val) c then N2 else 0 := by
  have hw := z_who u x k c
  unfold TZ
  by_cases hc : u = zOf c ∧ x = zsh (3 - k.val) c
  · obtain ⟨h1, h2, h3⟩ := hw.mpr hc
    rw [if_pos hc, if_neg h1, ← h2, ← h3]; exact at_eq _ _
  · rw [if_neg hc]
    by_cases h : u = zOf x
    · rw [if_pos h]; rfl
    · rw [if_neg h]; exact at_ne (fun e => hc (hw.mp ⟨h, zr_inj e⟩)) _
theorem OZ_zr (x : Dev nD) (k : Fin 3) (c : Dev nD) : OZ x 4 (zrG k c) () = if x = zsh (3 - k.val) c then N2 else 0 := by
  rw [OZ, OZ, OZ, OZ, OZ, at_add, at_add, at_add, at_add, TZ_at, TZ_at, TZ_at, TZ_at]
  have hz : ∀ z : Fin 4, ∀ p : Prop, [Decidable p] →
      ((((0 : CellTallies nD τ sig Unit) (zrG k c) () + if (⟨(3 - 0) % 4, by decide⟩ : Fin 4) = z ∧ p then N2 else 0) + if (⟨(3 - 1) % 4, by decide⟩ : Fin 4) = z ∧ p then N2 else 0)
        + if (⟨(3 - 2) % 4, by decide⟩ : Fin 4) = z ∧ p then N2 else 0) + (if (⟨(3 - 3) % 4, by decide⟩ : Fin 4) = z ∧ p then N2 else 0) = if p then N2 else 0 := by
    intro z p _
    rw [show (0 : CellTallies nD τ sig Unit) (zrG k c) () = 0 from rfl]
    by_cases hp : p
    · simp only [hp, and_true, if_true]
      generalize N2 = N
      revert z; intro z; fin_cases z <;> simp
    · simp only [hp, and_false, if_false]
  exact hz (zOf c) _

theorem OR_bar (x c : Dev nD) : ∀ j, OR x j (barG c) () = 0
  | 0 => by
    have h : ∀ j, OZ x j (barG c) () = 0 := fun j => by
      induction j with
      | zero => rfl
      | succ j ih =>
        rw [OZ, at_add, ih, Nat.zero_add]
        unfold TZ; split
        · rfl
        · exact at_ne dma_ne_bar.symm _
    exact h 4
  | j + 1 => by rw [OR, at_add, at_add, OR_bar x c j, at_ne dma_ne_bar.symm, at_ne dma_ne_bar.symm]
theorem OB_bar (c : Dev nD) : ∀ j, ∑ x : Dev nD, OB x j (barG c) () = j
  | 0 => Finset.sum_eq_zero fun x _ => OR_bar x c 28
  | j + 1 => by
    rw [Finset.sum_congr rfl fun x _ => show OB x (j + 1) (barG c) () = OB x j (barG c) () + (tallyAt (barG (barE ⟨(4 - j) % 5, Nat.mod_lt _ (by decide)⟩ x)) () 1 : CellTallies nD τ sig Unit) (barG c) () by
        rw [OB, at_add],
      Finset.sum_add_distrib, OB_bar c j, sum_perm (barE _) (fun c => barG c) (fun a b e => congrArg (fun g : GSem nD τ sig => g.1.1) e) 1 c]

/-! ## The launch credits -/

/-- What a device owes at launch. -/
abbrev O₀ (c : Dev nD) : CellTallies nD τ sig Unit := OB c 5

theorem launch_at (g : GSem nD τ sig) (N : ℕ) (h : ∑ x : Dev nD, O₀ x g () = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, h]
theorem launch_rcv (d : Bool) {n : ℕ} (hn : n < 28) (c : Dev nD) : ∑ x : Dev nD, O₀ x (rcvG d n c) () = N1 := by
  rw [Finset.sum_congr rfl fun x _ => OB_dma (rcvN d n) x c 5, OR_rcv d hn c 28 le_rfl, if_pos (by omega)]
theorem launch_zr (k : Fin 3) (c : Dev nD) : ∑ x : Dev nD, O₀ x (zrG k c) () = N2 := by
  rw [Finset.sum_congr rfl fun x _ => (OB_dma (zrC k) x c 5).trans ((OR_zr x k c 28 le_rfl).trans (OZ_zr x k c)),
    Finset.sum_ite_eq' Finset.univ (zsh (3 - k.val) c) fun _ => N2, if_pos (Finset.mem_univ _)]

theorem csem_inj : Function.Injective csem := fun a b h => by
  have := kcell_inj (a₁ := ((⟨0, by decide⟩ : Dev nD), a)) (a₂ := ((⟨0, by decide⟩ : Dev nD), b)) (Prod.ext rfl h)
  exact congrArg Prod.snd this

theorem creds (c : Dev nD) : (Pipeline.launchCred O₀ c : sProp 𝕄) ⊢
    iprop(cred (tallyAt (barG c) () 5) ∗ (bigSep (Finset.Ico 0 28) fun n => cred (tallyAt (rcvG false n c) () N1)) ∗ (bigSep (Finset.Ico 0 28) fun n => cred (tallyAt (rcvG true n c) () N1))
      ∗ three fun k => cred (tallyAt (zrG k c) () N2)) := by
  have h : (Pipeline.launchCred O₀ c : sProp 𝕄) ⊢ bigSep Finset.univ fun o : Option J => cred (tallyOn ((c : Thread nD τ), csem o) (launchCredit (Pipeline.owing O₀) 0 ((c : Thread nD τ), csem o))) := by
    have e : (bigSep Finset.univ fun o : Option J => cred (tallyOn ((c : Thread nD τ), csem o) (launchCredit (Pipeline.owing O₀) 0 ((c : Thread nD τ), csem o))) : sProp 𝕄)
        = bigSep (Finset.univ.map ⟨csem, csem_inj⟩) fun sm : SemLoc sig => cred (tallyOn ((c : Thread nD τ), sm) (launchCredit (Pipeline.owing O₀) 0 ((c : Thread nD τ), sm))) := by
      rw [bigSep_map]; rfl
    unfold Pipeline.launchCred
    rw [e]
    exact bigSep_subset (Finset.subset_univ _)
  rw [opt_eq, each_eq (fun j : J => (cred (tallyOn ((c : Thread nD τ), csem (some j)) (launchCredit (Pipeline.owing O₀) 0 ((c : Thread nD τ), csem (some j)))) : sProp 𝕄))
    (fun d n => cred (tallyOn (sndG d n c) (launchCredit (Pipeline.owing O₀) 0 (sndG d n c)))) (fun d n => cred (tallyAt (rcvG d n c) () N1)) (fun _ _ => rfl)
    (fun d n => congrArg cred (launch_at (rcvG d n.val c) N1 (launch_rcv d n.isLt c)))] at h
  refine h.trans ?_
  iintro ⟨HB, ⟨-, ⟨R0, R1⟩⟩, -, ⟨Y0, Y1, Y2⟩⟩
  have hz : ∀ k : Fin 3, (cred (tallyOn ((c : Thread nD τ), csem (some (.inr (.inr k)))) (launchCredit (Pipeline.owing O₀) 0 ((c : Thread nD τ), csem (some (.inr (.inr k)))))) : sProp 𝕄)
      ⊢ cred (tallyAt (zrG k c) () N2) := fun k => Entails.of_eq (congrArg cred (launch_at (zrG k c) N2 (launch_zr k c)))
  have hb : (cred (tallyOn ((c : Thread nD τ), csem none) (launchCredit (Pipeline.owing O₀) 0 ((c : Thread nD τ), csem none))) : sProp 𝕄)
      ⊢ cred (tallyAt (barG c) () 5) := Entails.of_eq (congrArg cred (launch_at (barG c) 5 (OB_bar c 5)))
  isplitl [HB]; · iapply hb; iexact HB
  isplitl [R0]; · iexact R0
  isplitl [R1]; · iexact R1
  isplitl [Y0]; · iapply (hz 0); iexact Y0
  isplitl [Y1]; · iapply (hz 1); iexact Y1
  iapply (hz 2); iexact Y2

end Cert.Moe

end
-- ==== Proof.Norm.Eq.lean ====
/-
# The printed body is the short program
-/
module

public import proofs.«01_k».proof.Proof.Norm

@[expose] public section

set_option maxRecDepth 65536
set_option maxHeartbeats 0

noncomputable section

namespace Cert.Moe

open Idealize.ShloMosaic Idealize.SL.Sem
open Cert.KernelIdeal Cert.KernelIdeal.Gen

variable {F : FTy → Type} [FloatOps F]

universe v

section Steps
variable {E : Type → Type v} {α β γ : Type}

/-- A nested sequence on the left is read from its first part. -/
theorem lassoc {p : Prog E α} {q : α → Prog E β} {r : β → Prog E γ} {R : Prog E γ} (h : (p >>= fun x => q x >>= r) = R) :
    (p >>= q) >>= r = R := (Prog.bind_assoc p q r).trans h
/-- A nested sequence on the right is read from its first part. -/
theorem rassoc {p : Prog E α} {q : α → Prog E β} {r : β → Prog E γ} {L : Prog E γ} (h : L = (p >>= fun x => q x >>= r)) :
    L = (p >>= q) >>= r := h.trans (Prog.bind_assoc p q r).symm
/-- A returned value on the left is passed on. -/
theorem lret {a : α} {k : α → Prog E β} {R : Prog E β} (h : k a = R) : (pure a >>= k) = R := h
/-- A returned value on the right is passed on. -/
theorem rret {a : α} {k : α → Prog E β} {L : Prog E β} (h : L = k a) : L = (pure a >>= k) := h
/-- Two sequences with the same first part that go on alike are equal. -/
theorem same {p p' : Prog E α} {k k' : α → Prog E β} (hp : p = p') (h : ∀ x, k x = k' x) : p >>= k = p' >>= k' := by
  rw [hp, funext h]
/-- What follows a test on both its branches follows the test. -/
theorem cut {P : Prop} [Decidable P] {a : P → Prog E PUnit} {k : Prog E β} {q : β → Prog E γ} {R : Prog E γ}
    (h : ((if h : P then a h else pure ⟨⟩) >>= fun _ => k >>= q) = R) :
    ((if h : P then (a h >>= fun _ => k) else k) >>= q) = R := by
  rw [← h]; split
  · exact Prog.bind_assoc _ _ _
  · rfl
/-- A program may be followed by nothing. -/
theorem rend {p L : Prog E α} (h : L = p >>= pure) : L = p := h.trans (Prog.bind_pure p)

end Steps

theorem body_eq : (cc0_body xM (Memref.isWhole_whole _) rwM (Memref.isWhole_whole _) rtM (Memref.isWhole_whole _) ewM (Memref.isWhole_whole _) swM (Memref.isWhole_whole _) outM (Memref.isWhole_whole _)
    xbM (Memref.isWhole_whole _) gtM (Memref.isWhole_whole _) shM (Memref.isWhole_whole _) (accM false) (Memref.isWhole_whole _) (accM true) (Memref.isWhole_whole _)
    (rcvM false) (Memref.isWhole_whole _) (rcvM true) (Memref.isWhole_whole _) sM (Memref.isWhole_whole _) zM (Memref.isWhole_whole _)
    cc0_scratch9 cc0_scratch10 cc0_scratch11 cc0_scratch12 cc0_scratch13 cc0_scratch14 : PR F PUnit) = bodyP := by
  rw [cc0_body_eq_skeleton]
  unfold cc0_body_skel
  refine rend ?_
  rw [k0_part133_eq_skeleton]
  unfold k0_part133_skel
  rw [k0_part1_eq_skeleton]
  unfold k0_part1_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part2_eq_skeleton]
  unfold k0_part2_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part3_eq_skeleton]
  unfold k0_part3_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part4_eq_skeleton]
  unfold k0_part4_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part5_eq_skeleton]
  unfold k0_part5_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part6_eq_skeleton]
  unfold k0_part6_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part7_eq_skeleton]
  unfold k0_part7_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part8_eq_skeleton]
  unfold k0_part8_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part9_eq_skeleton]
  unfold k0_part9_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part10_eq_skeleton]
  unfold k0_part10_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part11_eq_skeleton]
  unfold k0_part11_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part12_eq_skeleton]
  unfold k0_part12_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part13_eq_skeleton]
  unfold k0_part13_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part14_eq_skeleton]
  unfold k0_part14_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part15_eq_skeleton]
  unfold k0_part15_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part16_eq_skeleton]
  unfold k0_part16_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part17_eq_skeleton]
  unfold k0_part17_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part18_eq_skeleton]
  unfold k0_part18_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part19_eq_skeleton]
  unfold k0_part19_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part20_eq_skeleton]
  unfold k0_part20_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part21_eq_skeleton]
  unfold k0_part21_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part22_eq_skeleton]
  unfold k0_part22_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part23_eq_skeleton]
  unfold k0_part23_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part24_eq_skeleton]
  unfold k0_part24_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part25_eq_skeleton]
  unfold k0_part25_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part26_eq_skeleton]
  unfold k0_part26_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part27_eq_skeleton]
  unfold k0_part27_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part28_eq_skeleton]
  unfold k0_part28_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part29_eq_skeleton]
  unfold k0_part29_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part30_eq_skeleton]
  unfold k0_part30_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part31_eq_skeleton]
  unfold k0_part31_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part32_eq_skeleton]
  unfold k0_part32_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part33_eq_skeleton]
  unfold k0_part33_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part34_eq_skeleton]
  unfold k0_part34_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part35_eq_skeleton]
  unfold k0_part35_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part36_eq_skeleton]
  unfold k0_part36_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part37_eq_skeleton]
  unfold k0_part37_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part38_eq_skeleton]
  unfold k0_part38_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part39_eq_skeleton]
  unfold k0_part39_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part40_eq_skeleton]
  unfold k0_part40_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part41_eq_skeleton]
  unfold k0_part41_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part42_eq_skeleton]
  unfold k0_part42_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part43_eq_skeleton]
  unfold k0_part43_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part44_eq_skeleton]
  unfold k0_part44_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part45_eq_skeleton]
  unfold k0_part45_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part46_eq_skeleton]
  unfold k0_part46_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part47_eq_skeleton]
  unfold k0_part47_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part48_eq_skeleton]
  unfold k0_part48_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part49_eq_skeleton]
  unfold k0_part49_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part50_eq_skeleton]
  unfold k0_part50_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part51_eq_skeleton]
  unfold k0_part51_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part52_eq_skeleton]
  unfold k0_part52_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part53_eq_skeleton]
  unfold k0_part53_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part54_eq_skeleton]
  unfold k0_part54_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part55_eq_skeleton]
  unfold k0_part55_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part56_eq_skeleton]
  unfold k0_part56_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part57_eq_skeleton]
  unfold k0_part57_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part58_eq_skeleton]
  unfold k0_part58_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part59_eq_skeleton]
  unfold k0_part59_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part60_eq_skeleton]
  unfold k0_part60_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part134_eq_skeleton]
  unfold k0_part134_skel
  rw [k0_part61_eq_skeleton]
  unfold k0_part61_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part62_eq_skeleton]
  unfold k0_part62_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part63_eq_skeleton]
  unfold k0_part63_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part64_eq_skeleton]
  unfold k0_part64_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part65_eq_skeleton]
  unfold k0_part65_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part66_eq_skeleton]
  unfold k0_part66_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part67_eq_skeleton]
  unfold k0_part67_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part68_eq_skeleton]
  unfold k0_part68_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part69_eq_skeleton]
  unfold k0_part69_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part70_eq_skeleton]
  unfold k0_part70_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part71_eq_skeleton]
  unfold k0_part71_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part72_eq_skeleton]
  unfold k0_part72_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part73_eq_skeleton]
  unfold k0_part73_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part74_eq_skeleton]
  unfold k0_part74_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part75_eq_skeleton]
  unfold k0_part75_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part76_eq_skeleton]
  unfold k0_part76_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part77_eq_skeleton]
  unfold k0_part77_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part78_eq_skeleton]
  unfold k0_part78_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part79_eq_skeleton]
  unfold k0_part79_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part80_eq_skeleton]
  unfold k0_part80_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part81_eq_skeleton]
  unfold k0_part81_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part82_eq_skeleton]
  unfold k0_part82_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part83_eq_skeleton]
  unfold k0_part83_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part84_eq_skeleton]
  unfold k0_part84_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part85_eq_skeleton]
  unfold k0_part85_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part86_eq_skeleton]
  unfold k0_part86_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part87_eq_skeleton]
  unfold k0_part87_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part88_eq_skeleton]
  unfold k0_part88_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part89_eq_skeleton]
  unfold k0_part89_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part90_eq_skeleton]
  unfold k0_part90_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part91_eq_skeleton]
  unfold k0_part91_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part92_eq_skeleton]
  unfold k0_part92_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part93_eq_skeleton]
  unfold k0_part93_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part94_eq_skeleton]
  unfold k0_part94_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part95_eq_skeleton]
  unfold k0_part95_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part96_eq_skeleton]
  unfold k0_part96_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part97_eq_skeleton]
  unfold k0_part97_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part98_eq_skeleton]
  unfold k0_part98_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part99_eq_skeleton]
  unfold k0_part99_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part100_eq_skeleton]
  unfold k0_part100_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part101_eq_skeleton]
  unfold k0_part101_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part102_eq_skeleton]
  unfold k0_part102_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part103_eq_skeleton]
  unfold k0_part103_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part104_eq_skeleton]
  unfold k0_part104_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part105_eq_skeleton]
  unfold k0_part105_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part106_eq_skeleton]
  unfold k0_part106_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part107_eq_skeleton]
  unfold k0_part107_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part108_eq_skeleton]
  unfold k0_part108_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part109_eq_skeleton]
  unfold k0_part109_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part110_eq_skeleton]
  unfold k0_part110_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part111_eq_skeleton]
  unfold k0_part111_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part112_eq_skeleton]
  unfold k0_part112_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part113_eq_skeleton]
  unfold k0_part113_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part114_eq_skeleton]
  unfold k0_part114_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part115_eq_skeleton]
  unfold k0_part115_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part116_eq_skeleton]
  unfold k0_part116_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part117_eq_skeleton]
  unfold k0_part117_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part118_eq_skeleton]
  unfold k0_part118_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part119_eq_skeleton]
  unfold k0_part119_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part120_eq_skeleton]
  unfold k0_part120_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part121_eq_skeleton]
  unfold k0_part121_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part122_eq_skeleton]
  unfold k0_part122_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part123_eq_skeleton]
  unfold k0_part123_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part124_eq_skeleton]
  unfold k0_part124_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part125_eq_skeleton]
  unfold k0_part125_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part126_eq_skeleton]
  unfold k0_part126_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part127_eq_skeleton]
  unfold k0_part127_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part128_eq_skeleton]
  unfold k0_part128_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part129_eq_skeleton]
  unfold k0_part129_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part130_eq_skeleton]
  unfold k0_part130_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part131_eq_skeleton]
  unfold k0_part131_skel
  repeat first
    | with_reducible refine lassoc ?_
    | with_reducible refine lret ?_
    | with_reducible refine cut ?_
    | with_reducible refine rassoc ?_
    | with_reducible refine rret ?_
    | ((with_reducible refine same ?_ fun _ => ?_); rfl)
  rw [k0_part132_eq_skeleton]
  unfold k0_part132_skel
  repeat first
    | with_reducible refine lassoc ?_
    | with_reducible refine lret ?_
    | with_reducible refine cut ?_
    | with_reducible refine rassoc ?_
    | with_reducible refine rret ?_
    | ((with_reducible refine same ?_ fun _ => ?_); rfl)
  with_reducible rfl

end Cert.Moe

end
-- ==== Proof.Launch.lean ====
/-
# The run

The launch of the 32 devices: the staged arguments and the dealt cells are what the body starts from.
-/
module

public import proofs.«01_k».proof.Proof.Credits
public import proofs.«01_k».proof.Proof.Norm.Eq
public import Idealize.ShloMosaic.Lib.Pipeline.CollectiveSegs

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device starts from: its cells dealt, its credits, the levels. -/
def start (c : Dev nD) : sProp 𝕄 :=
  iprop(G' m c ∗ (cred (tallyAt (barG c) () 5) ∗ (bigSep (Finset.Ico 0 28) fun n => cred (tallyAt (rcvG false n c) () N1)) ∗ (bigSep (Finset.Ico 0 28) fun n => cred (tallyAt (rcvG true n c) () N1))
      ∗ three fun k => cred (tallyAt (zrG k c) () N2)) ∗ levAts L lv)
def Φ₀ (c : Dev nD) : sProp 𝕄 := iprop(start m c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => RW m c
    | ⟨2, _⟩ => RT m c
    | ⟨3, _⟩ => EW m c
    | ⟨4, _⟩ => SW m c
    | ⟨5, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (w : Fin cfg0.W) (h : w ≠ (5 : Fin 6)) (t : Fin cfg0.N) : (cfg0.win w).fetch t = true := by
  rw [fin_N0 t]; revert w; decide

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
/-- Owning a whole buffer at a value. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_whl (c : Dev nD) (b : Ref sig .tc) (X : b.ty.Contents (Elt F)) : (stg c b X : sProp 𝕄) ⊢ whl c b X := by
  iintro ⟨%f, %h, H⟩; subst h; iexact H
theorem whl_stg (c : Dev nD) (b : Ref sig .tc) (X : b.ty.Contents (Elt F)) : (whl c b X : sProp 𝕄) ⊢ stg c b X := by
  iintro H; iexists X; isplitr; · (ipureintro; rfl)
  iexact H

def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (X m c) ∗ stg c cc0_stg1_0 (RW m c) ∗ stg c cc0_stg2_0 (RT m c) ∗ stg c cc0_stg3_0 (EW m c) ∗ stg c cc0_stg4_0 (SW m c) ∗ stg c cc0_stg5_0 (OUT m c))

/-! An input's staging buffer holds its block. -/
theorem before_X (c : Dev nD) (d) : (dats m ρ 0 c).before (0 : Fin 6) t0_0 d = X m c := by
  unfold Dat.before; rw [if_pos (fetch_0 0 (by decide) t0_0)]; rfl
theorem before_RW (c : Dev nD) (d) : (dats m ρ 0 c).before (1 : Fin 6) t0_0 d = RW m c := by
  unfold Dat.before; rw [if_pos (fetch_0 1 (by decide) t0_0)]; rfl
theorem before_RT (c : Dev nD) (d) : (dats m ρ 0 c).before (2 : Fin 6) t0_0 d = RT m c := by
  unfold Dat.before; rw [if_pos (fetch_0 2 (by decide) t0_0)]; rfl
theorem before_EW (c : Dev nD) (d) : (dats m ρ 0 c).before (3 : Fin 6) t0_0 d = EW m c := by
  unfold Dat.before; rw [if_pos (fetch_0 3 (by decide) t0_0)]; rfl
theorem before_SW (c : Dev nD) (d) : (dats m ρ 0 c).before (4 : Fin 6) t0_0 d = SW m c := by
  unfold Dat.before; rw [if_pos (fetch_0 4 (by decide) t0_0)]; rfl

theorem mine_intro (c : Dev nD) :
    (start m c : sProp 𝕄) ⊢ iprop(Ctx m ∗ Mine c) := by
  unfold start G' Mine Ctx pays
  rw [opt_eq (fun k : Option J => (atPos ER (kcell (c, k)) 0 ∅ 0 : sProp 𝕄)),
    each_eq (fun j : J => (atPos ER (kcell (c, some j)) 0 ∅ 0 : sProp 𝕄)) (fun d n => atPos ER (sndG d n c) 0 ∅ 0) (fun d n => atPos ER (rcvG d n c) 0 ∅ 0) (fun _ _ => rfl) (fun _ _ => rfl)]
  iintro ⟨⟨#HR, ⟨Pb, P⟩, T, E⟩, ⟨C, C0, C1, CY⟩, #HL⟩
  isplitr
  · isplitr; · iexact HR
    iexact HL
  isplitl [T]; · iexact T
  isplitl [E]; · iexact E
  isplitl [Pb]; · iexact Pb
  isplitl [P]; · iexact P
  isplitl [C]; · iexact C
  isplitl [C0]; · iexact C0
  isplitl [C1] <;> iassumption

theorem sound_body (c : Dev nD) : (bodyPre' m ρ c : sProp 𝕄) ⊢ run c bodyP (fun _ => bodyPost m ρ c) := by
  unfold bodyPre' Φ₀
  iintro ⟨⟨Hs, Hscr⟩, Ho, ⟨%d0, H0⟩, ⟨%d1, H1⟩, ⟨%d2, H2⟩, ⟨%d3, H3⟩, ⟨%d4, H4⟩, ⟨%d5, H5⟩⟩
  rw [before_X, before_RW, before_RT, before_EW, before_SW]
  unfold Dat.owesAt Pipeline.owesWithin
  rw [show (dats m ρ 0 c).owed t0_0.castSucc = O₀ c from rfl]
  icases Ho with ⟨%W, %hW, HO⟩
  ihave Hs := (mine_intro m c) $$ Hs
  icases Hs with ⟨#HC, HM⟩
  ihave H0 := (stg_whl c cc0_stg0_0 (X m c)) $$ H0
  ihave H1 := (stg_whl c cc0_stg1_0 (RW m c)) $$ H1
  ihave H2 := (stg_whl c cc0_stg2_0 (RT m c)) $$ H2
  ihave H3 := (stg_whl c cc0_stg3_0 (EW m c)) $$ H3
  ihave H4 := (stg_whl c cc0_stg4_0 (SW m c)) $$ H4
  ihave H5 := (stg_whl c cc0_stg5_0 _) $$ H5
  iapply (body_spec m c)
  isplitr; · iexact HC
  isplitl [HM]; · iexact HM
  isplitl [Hscr]; · iexact Hscr
  isplitl [H0 H1 H2 H4]
  · unfold args
    isplitl [H0]; · iexact H0
    isplitl [H1]; · iexact H1
    isplitl [H2] <;> iassumption
  isplitl [H3]; · iexact H3
  isplitl [H5]; · unfold wany; iexists _; iexact H5
  isplitl [HO]; · unfold ow; iexists W; iexact HO
  unfold args ow bodyPost Φ₁
  iintro ⟨Hscr, ⟨H0, H1, H2, H4⟩, H3, H5, Hz, ⟨%W', HO⟩⟩
  isplitl [Hscr Hz]
  · isplitl [Hscr] <;> iassumption
  isplitl [HO]
  · unfold Dat.owesAt Pipeline.owesWithin
    rw [show (dats m ρ 0 c).owed t0_0.succ = 0 from rfl]
    iexists W'
    isplitr; · ipureintro; exact fun _ _ => Or.inl trivial
    iexact HO
  isplitl [H0]; · iapply (whl_stg c cc0_stg0_0 (X m c)); iexact H0
  isplitl [H1]; · iapply (whl_stg c cc0_stg1_0 (RW m c)); iexact H1
  isplitl [H2]; · iapply (whl_stg c cc0_stg2_0 (RT m c)); iexact H2
  isplitl [H3]; · iapply (whl_stg c cc0_stg3_0 (EW m c)); iexact H3
  isplitl [H4]; · iapply (whl_stg c cc0_stg4_0 (SW m c)); iexact H4
  iapply (whl_stg c cc0_stg5_0 (OUT m c)); iexact H5

/-- The body's obligation at the launch's one point. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  have hb : (defs₀ (F := F) Proc.tc 0 (t0_0, cfg0.slots t0_0) : PR F PUnit) = bodyP := by
    unfold defs₀
    exact body_eq
  revert hb
  generalize (defs₀ (F := F) Proc.tc 0 (t0_0, cfg0.slots t0_0) : PR F PUnit) = p
  intro hb
  have h := sound_body m ρ c
  rw [← hb] at h
  exact h

/-! ## The launch -/

theorem ownSemFacts : Pipeline.OwnSemFacts cfg0.spec osem where
  isScoped := by decide +kernel
  inj := fun a b h => jsem_inj (SemLoc.dma.inj h)
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr wany
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    each_eq (fun j : J => (semVal (kcell (c, some j)) 0 : sProp 𝕄)) (fun d n => semVal (sndG d n c) 0) (fun d n => semVal (rcvG d n c) 0) (fun _ _ => rfl) (fun _ _ => rfl)]
  unfold Φ₁ scr wany zeros
  iintro ⟨Hr, HzB, Hz⟩
  isplitl [HzB]; · iexact HzB
  isplitl [Hz]; · iexact Hz
  iexact Hr

theorem lv_stage : ∀ (w : Fin cfg0.W) (s : Fin (cfg0.win w).nbuf), semKind ((cfg0.win w).sem s) = .stg := by decide +kernel
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () ≤ 0 := by
      dsimp only [lv]; rw [lv_stage w s]
    rcases t with ⟨_ | _, ht⟩
    · exact mayWait_below c _ (O₀ c) 0 hl fun g hg => OB_pos c 5 hg
    · exact mayWait_below c _ 0 0 hl fun g hg => absurd hg (Nat.lt_irrefl 0)

/-! ## The run -/

/-- Every array after the run, as the proof data names it. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 200000 in
/-- From any memory with zero counters every fair execution of the 32 devices terminates, every array holding what the
    proof data says and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem arg_kept (c : Dev nD) (w : Fin cfg0.W) (h : (cfg0.win w).isOut = false) : (dats m ρ 0 c).arrAt w cfg0.N = m ((cfg0.win w).arr.view.loc (c : Thread nD τ)) :=
  (dats (F := F) m ρ 0 c).arrAt_in w h _

end Cert.Moe

end
-- ==== Proof.Frames.lean ====
/-
# The frames

The kernel, its idealization and the reference run, leave their arguments as they were, and end with every semaphore at zero.
-/
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal.Run

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-- The frame of the idealized program: it runs, its arguments end unchanged, every counter ends at zero. -/
theorem frame_kernelIdeal : Cert.quiescent_KernelIdeal (hKernelIdeal := Cert.KernelIdeal.Gen.facts) := fun m ρ _ =>
  (θ_run Cert.KernelIdeal.defs (onTc (τ := τ) Cert.KernelIdeal.main) ⟨m, fun _ => 0, ρ⟩).mono
    (fun _ h => ⟨fun c => ⟨(h.1 c 0).trans (arg_kept m ρ c 0 rfl), (h.1 c 1).trans (arg_kept m ρ c 1 rfl), (h.1 c 2).trans (arg_kept m ρ c 2 rfl),
      (h.1 c 3).trans (arg_kept m ρ c 3 rfl), (h.1 c 4).trans (arg_kept m ρ c 4 rfl)⟩, h.2⟩) (run_main (F := Ideal) m ρ)

set_option maxRecDepth 200000 in
/-- The program as printed and its idealization have one body: no operation was rewritten. -/
theorem body_same : (Cert.Kernel.cc0_body (F := Bits)) = (Cert.KernelIdeal.cc0_body (F := Bits)) := rfl

/-- They have one kernel table. -/
theorem defs0_same : (Cert.Kernel.defs₀ (F := Bits)) = (Cert.KernelIdeal.defs₀ (F := Bits)) := by
  unfold Cert.Kernel.defs₀ Cert.KernelIdeal.defs₀
  refine congrArg Defs.onTc (funext fun l => funext fun a => ?_)
  obtain ⟨l, hl⟩ := l
  obtain _ | l := l
  · obtain ⟨t, s⟩ := a
    show Cert.Kernel.cc0_body .. = Cert.KernelIdeal.cc0_body ..
    rw [body_same]
  · exact absurd hl (Nat.not_lt.2 (Nat.le_add_left _ _))

/-- They have one table of bodies. -/
theorem defs_same : (Cert.Kernel.defs (F := Bits)) = (Cert.KernelIdeal.defs (F := Bits)) := by
  unfold Cert.Kernel.defs Cert.KernelIdeal.defs
  exact congrArg (Pipeline.defs (Cert.KernelIdeal.pcfgs (F := Bits))) defs0_same

/-- The program as printed and its idealization have one @main. -/
theorem main_same : (Cert.Kernel.main (F := Bits)) = (Cert.KernelIdeal.main (F := Bits)) := rfl

/-- A property of the run with the idealization's table and @main is one of the run with the printed program's. -/
theorem carry (s : MemSt nD τ sig (Elt Bits)) (Q : PUnit × MemSt nD τ sig (Elt Bits) → Prop)
    (h : θ_run (Cert.KernelIdeal.defs (F := Bits)) (onTc (τ := τ) (Cert.KernelIdeal.main (F := Bits))) s Q) :
    θ_run (Cert.Kernel.defs (F := Bits)) (onTc (τ := Cert.Kernel.τ) (Cert.Kernel.main (F := Bits))) s Q := by
  rw [defs_same, main_same]; exact h

/-- The frame of the program as printed: the same run, read at the machine's own floats. -/
theorem frame_kernel : Cert.quiescent_Kernel (hKernel := Cert.Kernel.Gen.facts) := fun m ρ _ => carry _ _ <|
  (θ_run (Cert.KernelIdeal.defs (F := Bits)) (onTc (τ := τ) (Cert.KernelIdeal.main (F := Bits))) ⟨m, fun _ => 0, ρ⟩).mono
    (fun _ h => ⟨fun c => ⟨(h.1 c 0).trans (arg_kept m ρ c 0 rfl), (h.1 c 1).trans (arg_kept m ρ c 1 rfl), (h.1 c 2).trans (arg_kept m ρ c 2 rfl),
      (h.1 c 3).trans (arg_kept m ρ c 3 rfl), (h.1 c 4).trans (arg_kept m ρ c 4 rfl)⟩, h.2⟩) (run_main (F := Bits) m ρ)

/-- The frame of the reference, a straight line of host operations that declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)

end Cert.Moe

end
-- ==== Proof.Arrays.lean ====
/-
# The arrays a device reads and the one it leaves

Each operand's block is its whole array, and the one block written back is the whole result array.
-/
module

public import Idealize.ShloMosaic.Lib.Pipeline.ValueKit
public import proofs.«01_k».proof.Proof.Launch

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI Idealize.SL.Sem

variable {F : FTy → Type} [FloatOps F]
variable (m : (ℓ : Loc nD τ sig) → Buf (Elt F) ℓ) (ρ : Dev nD → PrngReg)

open Idealize.ShloMosaic.Pipeline (Dat Cfg Window)

/-- The block of each operand window is its whole array. -/
theorem X_eq (c : Dev nD) : X m c = m ((c.tc : Thread nD τ).loc main_arg0) := by
  funext i; unfold X; blk_ext [iblk, V, (by decide +kernel : ∀ a, win0_0.index t0_0 a = 0)]
theorem RW_eq (c : Dev nD) : RW m c = m ((c.tc : Thread nD τ).loc main_arg1) := by
  funext i; unfold RW; blk_ext [iblk, V, (by decide +kernel : ∀ a, win0_1.index t0_0 a = 0)]
theorem RT_eq (c : Dev nD) : RT m c = m ((c.tc : Thread nD τ).loc main_arg2) := by
  funext i; unfold RT; blk_ext [iblk, V, (by decide +kernel : ∀ a, win0_2.index t0_0 a = 0)]
theorem EW_eq (c : Dev nD) : EW m c = m ((c.tc : Thread nD τ).loc main_arg3) := by
  funext i; unfold EW; blk_ext [iblk, V, (by decide +kernel : ∀ a, win0_3.index t0_0 a = 0)]
theorem SW_eq (c : Dev nD) : SW m c = m ((c.tc : Thread nD τ).loc main_arg4) := by
  funext i; unfold SW; blk_ext [iblk, V, (by decide +kernel : ∀ a, win0_4.index t0_0 a = 0)]

/-- The result array ends holding what the body leaves in its window. -/
theorem result_eq (c : Dev nD) : (dats m ρ 0 c).arrAt 5 cfg0.N = OUT m c := by
  refine (dats m ρ 0 c).arrAt_eq_of_after_last 5 t0_0 (by decide +kernel) _ fun j => ?_
  rfl

end Cert.Moe

end
-- ==== Proof.Math.lean ====
/-
# The arithmetic of the gates

Sums and products of extended reals: when a factor leaves a sum, when a softmax is a real number, and how the
sums over devices make up the sum over experts.
-/
module

public import Idealize.ShloMosaic.PureOps.Ideal

@[expose] public section

set_option maxRecDepth 16384

noncomputable section

namespace Cert.Moe

open Idealize.ShloMosaic Idealize.SL.Sem

/-! ## Sums of extended reals -/

/-- A finite factor that is not negative goes into a sum. -/
theorem mul_sum_fin {ι : Type} (s : Finset ι) (g : EReal) (h0 : 0 ≤ g) (h1 : g ≠ ⊤) (f : ι → EReal) : g * ∑ k ∈ s, f k = ∑ k ∈ s, g * f k := by
  classical
  induction s using Finset.induction_on with
  | empty => simp
  | insert a s ha ih => rw [Finset.sum_insert ha, Finset.sum_insert ha, EReal.left_distrib_of_nonneg_of_ne_top h0 h1, ih]

/-- The gate multiplied into the rows before the product is the gate times the product. -/
theorem gate_out {n : ℕ} (g : EReal) (h0 : 0 ≤ g) (h1 : g ≠ ⊤) (x w : Fin n → EReal) : ∑ k, (x k * g) * w k = g * ∑ k, x k * w k := by
  rw [mul_sum_fin _ g h0 h1]
  exact Finset.sum_congr rfl fun k _ => by rw [mul_comm (x k) g, mul_assoc]

/-- A value is a real number. -/
def IsReal (x : EReal) : Prop := x ≠ ⊥ ∧ x ≠ ⊤
theorem IsReal.coe (r : ℝ) : IsReal (r : EReal) := ⟨EReal.coe_ne_bot r, EReal.coe_ne_top r⟩
theorem IsReal.eq {x : EReal} (h : IsReal x) : ∃ r : ℝ, x = r := ⟨x.toReal, (EReal.coe_toReal h.2 h.1).symm⟩
theorem IsReal.mul {x y : EReal} (hx : IsReal x) (hy : IsReal y) : IsReal (x * y) := by
  obtain ⟨a, rfl⟩ := hx.eq; obtain ⟨b, rfl⟩ := hy.eq; rw [← EReal.coe_mul]; exact .coe _
theorem IsReal.add {x y : EReal} (hx : IsReal x) (hy : IsReal y) : IsReal (x + y) := by
  obtain ⟨a, rfl⟩ := hx.eq; obtain ⟨b, rfl⟩ := hy.eq; rw [← EReal.coe_add]; exact .coe _
theorem IsReal.sub {x y : EReal} (hx : IsReal x) (hy : IsReal y) : IsReal (x - y) := by
  obtain ⟨a, rfl⟩ := hx.eq; obtain ⟨b, rfl⟩ := hy.eq; rw [← EReal.coe_sub]; exact .coe _
theorem IsReal.sum {ι : Type} (s : Finset ι) (f : ι → EReal) (h : ∀ k ∈ s, IsReal (f k)) : IsReal (∑ k ∈ s, f k) := by
  classical
  induction s using Finset.induction_on with
  | empty => simpa using IsReal.coe 0
  | insert a s ha ih =>
    rw [Finset.sum_insert ha]
    exact (h a (Finset.mem_insert_self _ _)).add (ih fun k hk => h k (Finset.mem_insert_of_mem hk))
/-- The largest of real numbers is one. -/
theorem IsReal.foldMax {n : ℕ} (f : Fin (n + 1) → EReal) (h : ∀ k, IsReal (f k)) : IsReal ((Finset.univ : Finset (Fin (n + 1))).fold max ⊥ f) := by
  constructor
  · intro e
    have : f 0 ≤ (Finset.univ : Finset (Fin (n + 1))).fold max ⊥ f := Finset.le_fold_max _ |>.2 (.inr ⟨0, Finset.mem_univ _, le_rfl⟩)
    rw [e, le_bot_iff] at this; exact (h 0).1 this
  · exact ne_of_lt (Finset.fold_max_lt _ |>.2 ⟨bot_lt_top (α := EReal), fun k _ => lt_top_iff_ne_top.2 (h k).2⟩)

/-- A value below infinity in magnitude is a real number. -/
theorem IsReal.of_abs {x : EReal} (h : max x (-x) < ⊤) : IsReal x := by
  obtain ⟨h1, h2⟩ := max_lt_iff.1 h
  refine ⟨?_, h1.ne⟩
  rintro rfl; simp at h2

/-- A sum of real numbers, as extended reals. -/
theorem sum_coe {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-! ## The softmax of real scores -/

/-- The exponential of a real number is a real number above zero. -/
theorem exp_real {x : EReal} (h : IsReal x) : ∃ r : ℝ, 0 < r ∧ Ideal.exp x = r := by
  obtain ⟨a, rfl⟩ := h.eq; exact ⟨Real.exp a, Real.exp_pos a, rfl⟩

/-- A probability of real scores is a real number, not negative. -/
theorem prob_real {n : ℕ} (s : Fin (n + 1) → EReal) (mx : EReal) (hs : ∀ k, IsReal (s k)) (hm : IsReal mx) (j : Fin (n + 1)) :
    0 ≤ Ideal.div (Ideal.exp (s j - mx)) (∑ k, Ideal.exp (s k - mx)) ∧ Ideal.div (Ideal.exp (s j - mx)) (∑ k, Ideal.exp (s k - mx)) ≠ ⊤ := by
  choose r hr he using fun k => exp_real ((hs k).sub hm)
  simp only [he]
  rw [← sum_coe]
  have hp : 0 < ∑ k, r k := Finset.sum_pos (fun k _ => hr k) Finset.univ_nonempty
  have hd : Ideal.div (r j : EReal) ((∑ k, r k : ℝ) : EReal) = ((r j / ∑ k, r k : ℝ) : EReal) := by
    unfold Ideal.div
    rw [if_neg (by simpa using hp.ne'), div_eq_mul_inv, EReal.coe_mul, EReal.coe_inv]
  rw [hd]
  exact ⟨by exact_mod_cast (div_pos (hr j) hp).le, EReal.coe_ne_top _⟩

/-! ## The gate of one expert -/

/-- A truth value as a float. -/
def oh (b : Prop) [Decidable b] : EReal := if b then 1 else 0

/-- The chosen expert's probability, picked out of a sum, on the chosen expert's column. -/
theorem pick {n : ℕ} (p : Fin n → EReal) (r : Fin n → Prop) [DecidablePred r] (hr : ∀ a b, r a → r b → a = b) (e : Fin n) :
    (∑ k, p k * oh (r k)) * oh (r e) = p e * oh (r e) := by
  unfold oh
  by_cases h : r e
  · rw [if_pos h, mul_one, mul_one, Finset.sum_eq_single e]
    · rw [if_pos h, mul_one]
    · intro b _ hb; rw [if_neg fun hh => hb (hr _ _ hh h), mul_zero]
    · intro hh; exact absurd (Finset.mem_univ _) hh
  · rw [if_neg h, mul_zero, mul_zero]

/-- A probability times a truth value is still a real number that is not negative. -/
theorem oh_real {p : EReal} (h0 : 0 ≤ p) (h1 : p ≠ ⊤) (b : Prop) [Decidable b] : 0 ≤ p * oh b ∧ p * oh b ≠ ⊤ := by
  unfold oh
  by_cases h : b
  · rw [if_pos h, mul_one]; exact ⟨h0, h1⟩
  · rw [if_neg h, mul_zero]; exact ⟨le_rfl, EReal.zero_ne_top⟩

/-! ## Sums over devices and experts -/

/-- A sum over 128 experts is one over 32 devices of four experts each. -/
theorem sum_experts (f : Fin 128 → EReal) :
    ∑ e, f e = ∑ c : Fin 32, ∑ j : Fin 4, f ⟨4 * c.val + j.val, by omega⟩ := by
  rw [← Fintype.sum_prod_type' (fun (c : Fin 32) (j : Fin 4) => f ⟨4 * c.val + j.val, by omega⟩)]
  refine (Fintype.sum_equiv (finProdFinEquiv (m := 32) (n := 4)) _ _ fun x => congrArg f (Fin.ext ?_)).symm
  simp [finProdFinEquiv, add_comm]

/-- A sum over 32 devices is one over four layers of eight. -/
theorem sum_devices (f : Fin 32 → EReal) :
    ∑ c, f c = ∑ z : Fin 4, ∑ q : Fin 8, f ⟨8 * z.val + q.val, by omega⟩ := by
  rw [← Fintype.sum_prod_type' (fun (c : Fin 4) (j : Fin 8) => f ⟨8 * c.val + j.val, by omega⟩)]
  refine (Fintype.sum_equiv (finProdFinEquiv (m := 4) (n := 8)) _ _ fun x => congrArg f (Fin.ext ?_)).symm
  simp [finProdFinEquiv, add_comm]

end Cert.Moe

end
-- ==== Proof.Finite.lean ====
/-
# What the precondition says

The precondition holds exactly when every entry of the tokens and of the router's matrix is a real number; here is
the direction that the value claim uses.
-/
module

public import Idealize.ShloMosaic.Lib.Pointwise
public import Idealize.ShloMosaic.Lib.ReduceAll
public import proofs.«01_k».proof.Pre_finite_scores_KernelIdeal
public import proofs.«01_k».proof.Pre_finite_scores_ReferenceIdeal
public import proofs.«01_k».proof.Proof.Math

@[expose] public section

set_option maxRecDepth 16384

noncomputable section

namespace Cert.Moe

open Idealize.ShloMosaic

/-- The shape facts that the precondition's operations take, of one device's blocks and of the whole arrays. -/
theorem pre_facts : Cert.Pre_finite_scores_KernelIdeal.Facts := ⟨by decide, by decide, by decide, by decide, by decide⟩
theorem pre_facts_ref : Cert.Pre_finite_scores_ReferenceIdeal.Facts := ⟨by decide, by decide, by decide, by decide, by decide⟩

/-- The word of the bound is infinity. -/
theorem pos_inf : (Ideal.ofBits .f32 (0x7F800000#32) : EReal) = ⊤ := by simp [Ideal.ofBits, Ideal.ieee]

/-- A comparison that came out true: the value is real. -/
theorem real_of_lt (a : EReal) (h : BitVec.ofBool (decide (max a (-a) < (Ideal.ofBits .f32 (0x7F800000#32) : EReal))) = 1#1) : IsReal a := by
  rw [pos_inf] at h
  refine IsReal.of_abs ?_
  by_contra hn
  rw [decide_eq_false hn] at h
  exact absurd h (by decide)

open Cert.Pre_finite_scores_KernelIdeal in
/-- Where the precondition is all ones, the tokens and the router's matrix are real. -/
theorem real_of_pre [Cert.Pre_finite_scores_KernelIdeal.Facts] (x : FVec Ideal S2048x512 .f32) (w : FVec Ideal S512x128 .f32) (rt : IVec S2048x1 32) (ew : FVec Ideal S4x512x1024 .f32)
    (sw : FVec Ideal S512x1024 .f32) (h : fn (F := Ideal) x w rt ew sw = fun _ => 1#1) : (∀ i, IsReal (x i)) ∧ (∀ i, IsReal (w i)) := by
  haveI : Subsingleton S_.Idx := ⟨fun a b => funext fun k => k.elim0⟩
  have h0 := congrFun h (fun k => k.elim0)
  obtain ⟨ha, hb⟩ := IntOp.andi_eq_one.1 h0
  exact ⟨fun i => real_of_lt _ (Host.reduce_andi_all _ _ _ _ _ ha i), fun i => real_of_lt _ (Host.reduce_andi_all _ _ _ _ _ hb i)⟩

end Cert.Moe

end
-- ==== Proof.Router.lean ====
/-
# The router

The scores, their softmax and the gates as functions of the arrays, and the kernel's gate buffer read at an index.
-/
module

public import proofs.«01_k».proof.Proof.Math
public import proofs.«01_k».proof.Proof.Values
public import Idealize.ShloMosaic.Lib.Pointwise

@[expose] public section

set_option maxRecDepth 16384

noncomputable section

namespace Cert.Moe

open Idealize.ShloMosaic Idealize.SL.Sem

open Cert.KernelIdeal Cert.KernelIdeal.Gen

/-! ## The router -/

/-- The score of expert `e` for token `t`. -/
def score (x : (⟨2, ![2048, 512]⟩ : Shape).Idx → EReal) (rw : (⟨2, ![512, 128]⟩ : Shape).Idx → EReal) (t : Fin 2048) (e : Fin 128) : EReal :=
  ∑ k : Fin 512, x (ix2 t k) * rw (ix2 k e)
/-- The largest score of a token. -/
def smax (x : (⟨2, ![2048, 512]⟩ : Shape).Idx → EReal) (rw : (⟨2, ![512, 128]⟩ : Shape).Idx → EReal) (t : Fin 2048) : EReal :=
  (Finset.univ : Finset (Fin 128)).fold max ⊥ (score x rw t)
/-- The softmax of a token's scores. -/
def prob (x : (⟨2, ![2048, 512]⟩ : Shape).Idx → EReal) (rw : (⟨2, ![512, 128]⟩ : Shape).Idx → EReal) (t : Fin 2048) (e : Fin 128) : EReal :=
  Ideal.div (Ideal.exp (score x rw t e - smax x rw t)) (∑ k : Fin 128, Ideal.exp (score x rw t k - smax x rw t))

/-- A softmax of finite inputs is a real number, not negative. -/
theorem prob_fin (x : (⟨2, ![2048, 512]⟩ : Shape).Idx → EReal) (rw : (⟨2, ![512, 128]⟩ : Shape).Idx → EReal) (hx : ∀ i, IsReal (x i)) (hw : ∀ i, IsReal (rw i))
    (t : Fin 2048) (e : Fin 128) : 0 ≤ prob x rw t e ∧ prob x rw t e ≠ ⊤ := by
  have hs : ∀ k, IsReal (score x rw t k) := fun k => IsReal.sum _ _ fun i _ => (hx _).mul (hw _)
  exact prob_real (n := 127) (score x rw t) (smax x rw t) hs (IsReal.foldMax (n := 127) _ hs) e

theorem k_score (x : FVec Ideal S2048x512 .f32) (rw : FVec Ideal S512x128 .f32) (t : Fin 2048) (e : Fin 128) :
    (matmul dot_S2048x512_S512x128_S2048x128_1_0_0_1_n_n none (k0_pay2 x) (shapeCast S512x128 rw shapeCasts_S512x128_S512x128) (constant S2048x128 .f32 0x00000000#32) : FVec Ideal S2048x128 .f32) (ix2 t e)
      = score x rw t e := by
  pointwise [k0_pay2, score]

/-- A truth value computed from two words, widened and converted, is the truth value as a float. -/
theorem cond_oh (a b : BitVec 32) : (FloatOps.sitofp .f32 (BitVec.setWidth 32 (IntOp.cmpi .eq a b)) : Ideal .f32) = oh (a = b) := by
  show ((((BitVec.setWidth 32 (IntOp.cmpi .eq a b)).toInt : ℤ) : ℝ) : EReal) = _
  unfold oh
  by_cases h : a = b
  · rw [if_pos h]; subst h; simp [IntOp.cmpi]
  · rw [if_neg h]; simp [IntOp.cmpi, beq_eq_false_iff_ne.2 h]
/-- The same converted at once. -/
theorem cond_oh' (a b : BitVec 32) : (FloatOps.uitofp .f32 (IntOp.cmpi .eq a b) : Ideal .f32) = oh (a = b) := by
  show ((((IntOp.cmpi .eq a b).toNat : ℕ) : ℝ) : EReal) = _
  unfold oh
  by_cases h : a = b
  · rw [if_pos h]; subst h; simp [IntOp.cmpi]
  · rw [if_neg h]; simp [IntOp.cmpi, beq_eq_false_iff_ne.2 h]
theorem neg_inf : Ideal.ofBits .f32 4286578688#32 = ⊥ := by simp [Ideal.ofBits, Ideal.ieee]

/-- The chosen probability, as the kernel's one-column vector holds it. -/
theorem k_pay4 (x : FVec Ideal S2048x512 .f32) (rw : FVec Ideal S512x128 .f32) (rt : IVec S2048x1 32) (t : Fin 2048) :
    k0_pay4 (F := Ideal) x rw rt (ix2 t 0) = ∑ e : Fin 128, prob x rw t e * oh (rt (ix2 t 0) = BitVec.ofNat 32 e.val) := by
  pointwise [k0_pay4, k0_pay3, k0_pay2]
  simp only [cond_oh, neg_inf]
  rfl

/-- The device's number, as the kernel computes it. -/
theorem word32 : ∀ c : Dev nD, Scalar.remsi (Scalar.divsi (Dev.word c) 1#32) 32#32 = BitVec.ofNat 32 c.val := by decide +kernel

/-- The number of a device's expert, as the kernel computes it. -/
theorem wordE : ∀ (c : Dev nD) (j : Fin 4), Scalar.addi (Scalar.muli (4#32) (BitVec.ofNat 32 c.val)) (BitVec.ofNat 32 j.val) = BitVec.ofNat 32 (4 * c.val + j.val) := by decide +kernel

/-- The gate of expert `e` for token `t`: its probability where it is the chosen expert, zero elsewhere. -/
def gate (x : (⟨2, ![2048, 512]⟩ : Shape).Idx → EReal) (rw : (⟨2, ![512, 128]⟩ : Shape).Idx → EReal) (rt : (⟨2, ![2048, 1]⟩ : Shape).Idx → BitVec 32)
    (t : Fin 2048) (e : Fin 128) : EReal := prob x rw t e * oh (rt (ix2 t 0) = BitVec.ofNat 32 e.val)

/-- A gate of finite inputs is a real number, not negative. -/
theorem gate_fin (x : (⟨2, ![2048, 512]⟩ : Shape).Idx → EReal) (rw : (⟨2, ![512, 128]⟩ : Shape).Idx → EReal) (rt : (⟨2, ![2048, 1]⟩ : Shape).Idx → BitVec 32)
    (hx : ∀ i, IsReal (x i)) (hw : ∀ i, IsReal (rw i)) (t : Fin 2048) (e : Fin 128) : 0 ≤ gate x rw rt t e ∧ gate x rw rt t e ≠ ⊤ :=
  oh_real (prob_fin x rw hx hw t e).1 (prob_fin x rw hx hw t e).2 _

/-- Expert `j` of device `c`. -/
def expert (c : Fin 32) (j : Fin 4) : Fin 128 := ⟨4 * c.val + j.val, by omega⟩

/-- Picking the chosen probability out of the sum and keeping it on one expert's column is the gate. -/
theorem gate_pick (x : (⟨2, ![2048, 512]⟩ : Shape).Idx → EReal) (rw : (⟨2, ![512, 128]⟩ : Shape).Idx → EReal) (rt : (⟨2, ![2048, 1]⟩ : Shape).Idx → BitVec 32)
    (t : Fin 2048) (e : Fin 128) :
    (∑ k : Fin 128, prob x rw t k * oh (rt (ix2 t 0) = BitVec.ofNat 32 k.val)) * oh (rt (ix2 t 0) = BitVec.ofNat 32 e.val) = gate x rw rt t e :=
  pick (prob x rw t) (fun k => rt (ix2 t 0) = BitVec.ofNat 32 k.val) (fun a b ha hb => Fin.ext (by
    have := congrArg BitVec.toNat (ha.symm.trans hb)
    rw [BitVec.toNat_ofNat, BitVec.toNat_ofNat] at this; omega)) e

/-- The kernel's gate buffer holds the gates of the device's experts. -/
theorem k_gate (c : Dev nD) (x : FVec Ideal S2048x512 .f32) (rw : FVec Ideal S512x128 .f32) (rt : IVec S2048x1 32) (a : Fin 4) (b : Fin 512) (j : Fin 4) :
    gateV (F := Ideal) c x rw rt (ix3 a b j) = gate x rw rt ⟨a.val * 512 + b.val, by omega⟩ (expert c j) := by
  unfold gateV
  rw [word32, ← gate_pick]
  pointwise [k0_pay8, k0_pay7, k0_pay6, k0_pay5, k0_pay3]
  simp only [cond_oh]
  have hw := wordE c
  fin_cases j <;> simp only [Nat.lt_irrefl, Nat.reduceSub, Nat.reduceLT, ↓reduceDIte, Fin.mk_zero, Fin.zero_eta, Fin.mk_one, expert]
  all_goals rw [← k_pay4]
  · exact congrArg (fun w => _ * oh (_ = w)) (hw 0)
  · exact congrArg (fun w => _ * oh (_ = w)) (hw 1)
  · exact congrArg (fun w => _ * oh (_ = w)) (hw 2)
  · exact congrArg (fun w => _ * oh (_ = w)) (hw 3)

end Cert.Moe

end
-- ==== Proof.Part.lean ====
/-
# The partial products, read at an index

What one partial product of the kernel holds at a row and a column, and the sums that are passed round the rings
and across the layers, read the same way.
-/
module

public import proofs.«01_k».proof.Proof.Router

@[expose] public section

set_option maxRecDepth 16384

noncomputable section

namespace Cert.Moe

open Idealize.ShloMosaic Idealize.SL.Sem

open Cert.KernelIdeal Cert.KernelIdeal.Gen

variable (m : (ℓ : Loc nD τ sig) → Buf (Elt Ideal) ℓ)

/-- Row `r` of the chunk that belongs to place `q` of layer `u`. -/
def row (u : Fin 4) (q : Fin 8) (r : Fin 64) : Fin 2048 := ⟨u.val * 512 + (64 * q.val + r.val), by omega⟩
/-- A direction's column, among all columns. -/
def half (d : Bool) (col : Fin 512) : Fin 1024 := ⟨(bif d then 512 else 0) + col.val, by cases d <;> simp <;> omega⟩

/-- What the experts of device `c` add to token `t` at column `n`. -/
def contrib (c : Dev nD) (t : Fin 2048) (n : Fin 1024) : EReal :=
  ∑ j : Fin 4, ∑ k : Fin 512, (X m c (ix2 t k) * gate (X m c) (RW m c) (RT m c) t (expert c j)) * EW m c (ix3 j k n)

/-- The rounded rows, read at an index: the rows. -/
theorem xb_apply (x : FVec Ideal S2048x512 .f32) (a : Fin 4) (b k : Fin 512) : xbV (F := Ideal) x (ix3 a b k) = x (ix2 ⟨a.val * 512 + b.val, by omega⟩ k) := by
  pointwise [xbV, k0_pay9, k0_pay2]

/-- One expert's product read at an index. -/
theorem mm_apply (x : Vec Ideal S4x64x512 .bf16) (g : Vec Ideal S4x64x1 .bf16) (w : Vec Ideal S1x512x512 .f32) (u : Fin 4) (r : Fin 64) (col : Fin 512) :
    mmV (F := Ideal) x g w (ix2 ⟨64 * u.val + r.val, by omega⟩ col) = ∑ k : Fin 512, (x (ix3 u r k) * g (ix3 u r 0)) * w (ix3 0 k col) := by
  pointwise [mmV]

/-- The loads of a partial product, read at an index. -/
theorem ld_x (o : POff) (q : Fin 8) (hx : o.x = ![0, 64 * q.val, 0]) (v : Vec Ideal S4x512x512 .bf16) (u : Fin 4) (r : Fin 64) (k : Fin 512) :
    (xbM.view.readAt (Elt Ideal) (xR o).toLoadRect v : Vec Ideal S4x64x512 .bf16) (ix3 u r k) = v (ix3 u ⟨64 * q.val + r.val, by omega⟩ k) := by
  obtain ⟨x, g, h1, h2⟩ := o
  dsimp only at hx; subst hx
  exact congrArg v (funext fun a => Fin.ext (by
    match a with
    | ⟨0, _⟩ => show 0 + 1 * u.val = u.val; omega
    | ⟨1, _⟩ => show 64 * q.val + 1 * r.val = 64 * q.val + r.val; omega
    | ⟨2, _⟩ => show 0 + 1 * k.val = k.val; omega))
theorem ld_g (o : POff) (q : Fin 8) (j : Fin 4) (hg : o.g j = ![0, 64 * q.val, j.val]) (v : Vec Ideal S4x512x4 .bf16) (u : Fin 4) (r : Fin 64) :
    (gtM.view.readAt (Elt Ideal) (gR o j).toLoadRect v : Vec Ideal S4x64x1 .bf16) (ix3 u r 0) = v (ix3 u ⟨64 * q.val + r.val, by omega⟩ j) := by
  refine congrArg v (funext fun a => Fin.ext ?_)
  have e : ∀ a, o.g j a = (![0, 64 * q.val, j.val] : Fin 3 → ℕ) a := fun a => congrFun hg a
  match a with
  | ⟨0, _⟩ => show o.g j 0 + 1 * u.val = u.val; rw [e]; show 0 + 1 * u.val = u.val; omega
  | ⟨1, _⟩ => show o.g j 1 + 1 * r.val = 64 * q.val + r.val; rw [e]; show 64 * q.val + 1 * r.val = _; omega
  | ⟨2, _⟩ => show o.g j 2 + 1 * 0 = j.val; rw [e]; show j.val + 1 * 0 = j.val; omega
theorem ld_w (d : Bool) (j : Fin 4) (v : Vec Ideal S4x512x1024 .f32) (k col : Fin 512) :
    (ewM.view.readAt (Elt Ideal) (wR d j).toLoadRect v : Vec Ideal S1x512x512 .f32) (ix3 0 k col) = v (ix3 j k (half d col)) := by
  refine congrArg v (funext fun a => Fin.ext ?_)
  match a with
  | ⟨0, _⟩ => show j.val + 1 * 0 = j.val; omega
  | ⟨1, _⟩ => show 0 + 1 * k.val = k.val; omega
  | ⟨2, _⟩ => show (bif d then 512 else 0) + 1 * col.val = (bif d then 512 else 0) + col.val; omega

/-- A partial product whose addresses name chunk `q` holds the device's contributions to that chunk. -/
theorem part_apply (d : Bool) (o : POff) (c : Dev nD) (q : Fin 8) (hx : o.x = ![0, 64 * q.val, 0]) (hg : ∀ j : Fin 4, o.g j = ![0, 64 * q.val, j.val])
    (u : Fin 4) (r : Fin 64) (col : Fin 512) :
    partF m d o c (ix2 ⟨64 * u.val + r.val, by omega⟩ col) = contrib m c (row u q r) (half d col) := by
  unfold partF partV contrib
  rw [Fin.sum_univ_four]
  show ((Ideal.ofBits .f32 0x00000000#32 + mmV (F := Ideal) _ _ _ _) + mmV (F := Ideal) _ _ _ _ + mmV (F := Ideal) _ _ _ _ + mmV (F := Ideal) _ _ _ _ : EReal) = _
  rw [Ideal.ofBits_zero_f32, zero_add]
  simp only [mm_apply, ld_w, ld_x o q hx, ld_g o q _ (hg _), xbC, gtC, xb_apply, k_gate]
  have e : ∀ j : Fin 4, ∀ k : Fin 512, _ := fun j k => congrArg (X m c (ix2 (row u q r) k) * gate (X m c) (RW m c) (RT m c) (row u q r) (expert c j) * ·) (ld_w d j (EW m c) k col)
  exact congrArg₂ (· + ·) (congrArg₂ (· + ·) (congrArg₂ (· + ·) (Finset.sum_congr rfl fun k _ => e 0 k) (Finset.sum_congr rfl fun k _ => e 1 k))
    (Finset.sum_congr rfl fun k _ => e 2 k)) (Finset.sum_congr rfl fun k _ => e 3 k)

/-! ## The sums that are passed on -/

theorem init_apply (p : FVec Ideal S256x512 .f32) (u : Fin 4) (r : Fin 64) (col : Fin 512) :
    initSlot (F := Ideal) u p (ix4 0 0 r col) = p (ix2 ⟨64 * u.val + r.val, by omega⟩ col) := by
  unfold initSlot
  rw [show (Rect.unit (s := S1x4x64x512) ![0, u.val, 0, 0] S1x1x64x512.size (init_inb u)).emb (ix4 0 0 r col) = ix4 0 u r col from funext fun a => Fin.ext (by
    match a with
    | ⟨0, _⟩ => rfl
    | ⟨1, _⟩ => show u.val + 1 * 0 = u.val; omega
    | ⟨2, _⟩ => show 0 + 1 * r.val = r.val; omega
    | ⟨3, _⟩ => show 0 + 1 * col.val = col.val; omega)]
  pointwise [initV]
  exact congrArg p (congrArg (fun t => ix2 t col) (Fin.ext (by show u.val * 64 + r.val = 64 * u.val + r.val; omega)))
theorem step_apply (p : FVec Ideal S256x512 .f32) (u : Fin 4) (q : Vec Ideal S1x1x64x512 .bf16) (r : Fin 64) (col : Fin 512) :
    stepV (F := Ideal) u p q (ix4 0 0 r col) = q (ix4 0 0 r col) + p (ix2 ⟨64 * u.val + r.val, by omega⟩ col) := by
  pointwise [stepV, sumV]
theorem fin_apply (p : FVec Ideal S256x512 .f32) (u : Fin 4) (q : Vec Ideal S1x1x64x512 .bf16) (r : Fin 64) (col : Fin 512) :
    finV (F := Ideal) u p q (ix2 r col) = q (ix4 0 0 r col) + p (ix2 ⟨64 * u.val + r.val, by omega⟩ col) := by
  pointwise [finV, sumV]
theorem out_apply (p : Vec Ideal S64x1024 .bf16) (s : Vec Ideal S64x1024 .f32) (a b c : Vec Ideal S1x64x1024 .bf16) (r : Fin 64) (col : Fin 1024) :
    k0_pay1 (F := Ideal) p s a b c (ix2 r col) = p (ix2 r col) + s (ix2 r col) + a (ix3 0 r col) + b (ix3 0 r col) + c (ix3 0 r col) := by
  pointwise [k0_pay1]
theorem sh_apply (p : Vec Ideal S64x512 .f32) (s : Vec Ideal S512x1024 .f32) (r : Fin 64) (col : Fin 1024) :
    k0_pay129 (F := Ideal) p s (ix2 r col) = ∑ k : Fin 512, p (ix2 r k) * s (ix2 k col) := by
  pointwise [k0_pay129]
theorem zcast_apply (p : Vec Ideal S64x1024 .bf16) (r : Fin 64) (col : Fin 1024) :
    (shapeCast S1x64x1024 p zcast : Vec Ideal S1x64x1024 .bf16) (ix3 0 r col) = p (ix2 r col) := by
  pointwise

end Cert.Moe

end
-- ==== Proof.MeshSum.lean ====
/-
# The sums over the mesh

The running sums of a ring are sums of the devices' contributions to one chunk; after the last step a device holds
its ring's sum; the second exchange adds the four layers. So a device's result is the shared expert plus the
contributions of all 32 devices.
-/
module

public import proofs.«01_k».proof.Proof.Part

@[expose] public section

set_option maxRecDepth 16384

noncomputable section

namespace Cert.Moe

open Idealize.ShloMosaic Idealize.SL.Sem

open Cert.KernelIdeal Cert.KernelIdeal.Gen

variable (m : (ℓ : Loc nD τ sig) → Buf (Elt Ideal) ℓ)

/-! ## Which chunk a device works on at a step -/

/-- The chunk of a partial product: the first one, then those of the seven steps. -/
def chk (d : Bool) (n : ℕ) (c : Dev nD) : ℕ := (if n = 0 then (offI d c).x 1 else (offS d c (stp (n - 1))).x 1) / 64
theorem chk_lt : ∀ (d : Bool) (n : Fin 8) (c : Dev nD), chk d n.val c < 8 := by decide +kernel
theorem chk_next : ∀ (d : Bool) (n : Fin 7) (c : Dev nD), chk d n.val (tgt (!d) c) = chk d (n.val + 1) c := by decide +kernel
theorem chk_last : ∀ (d : Bool) (c : Dev nD), chk d 7 c = c.val % 8 := by decide +kernel
theorem offI_x : ∀ (d : Bool) (c : Dev nD) (a : Fin 3), (offI d c).x a = (![0, 64 * chk d 0 c, 0] : Fin 3 → ℕ) a := by decide +kernel
theorem offI_g : ∀ (d : Bool) (c : Dev nD) (j : Fin 4) (a : Fin 3), (offI d c).g j a = (![0, 64 * chk d 0 c, j.val] : Fin 3 → ℕ) a := by decide +kernel
theorem offS_x : ∀ (d : Bool) (c : Dev nD) (s : Fin 7) (a : Fin 3), (offS d c s).x a = (![0, 64 * chk d (s.val + 1) c, 0] : Fin 3 → ℕ) a := by decide +kernel
theorem offS_g : ∀ (d : Bool) (c : Dev nD) (s : Fin 7) (j : Fin 4) (a : Fin 3), (offS d c s).g j a = (![0, 64 * chk d (s.val + 1) c, j.val] : Fin 3 → ℕ) a := by decide +kernel

/-- The device `i` places back in direction `d`. -/
def bk (d : Bool) : ℕ → Dev nD → Dev nD
  | 0, c => c
  | i + 1, c => bk d i (tgt (!d) c)
/-- Device `q` of the ring of device `c`. -/
def dv (z : Fin 4) (q : Fin 8) : Dev nD := ⟨8 * z.val + q.val, by show _ < 32; omega⟩
theorem bk_dv : ∀ (d : Bool) (c : Dev nD) (i : Fin 8), bk d i.val c = dv (zOf c) ⟨(bk d i.val c).val % 8, Nat.mod_lt _ (by decide)⟩ := by decide +kernel
theorem bk_inj : ∀ (d : Bool) (c : Dev nD) (i j : Fin 8), (bk d i.val c).val % 8 = (bk d j.val c).val % 8 → i = j := by decide +kernel

/-- Going back round the ring meets every device of it once. -/
theorem sum_ring (d : Bool) (c : Dev nD) (f : Dev nD → EReal) : ∑ i : Fin 8, f (bk d i.val c) = ∑ q : Fin 8, f (dv (zOf c) q) := by
  have hb : Function.Bijective fun i : Fin 8 => (⟨(bk d i.val c).val % 8, Nat.mod_lt _ (by decide)⟩ : Fin 8) :=
    Finite.injective_iff_bijective.1 fun i j h => bk_inj d c i j (congrArg Fin.val h)
  rw [← Function.Bijective.sum_comp hb fun q => f (dv (zOf c) q)]
  exact Finset.sum_congr rfl fun i _ => congrArg f (bk_dv d c i)

/-! ## A ring's sum -/

theorem partI (d : Bool) (c : Dev nD) (q : Fin 8) (hq : chk d 0 c = q.val) (u : Fin 4) (r : Fin 64) (col : Fin 512) :
    partF m d (offI d c) c (ix2 ⟨64 * u.val + r.val, by omega⟩ col) = contrib m c (row u q r) (half d col) :=
  part_apply m d _ c q (funext fun a => by rw [offI_x, hq]) (fun j => funext fun a => by rw [offI_g, hq]) u r col
theorem partS (d : Bool) (c : Dev nD) (s : Fin 7) (q : Fin 8) (hq : chk d (s.val + 1) c = q.val) (u : Fin 4) (r : Fin 64) (col : Fin 512) :
    partF m d (offS d c s) c (ix2 ⟨64 * u.val + r.val, by omega⟩ col) = contrib m c (row u q r) (half d col) :=
  part_apply m d _ c q (funext fun a => by rw [offS_x, hq]) (fun j => funext fun a => by rw [offS_g, hq]) u r col

/-- What a device sends at step `n` is the sum of the contributions of the devices behind it, to one chunk. -/
theorem acc_apply (d : Bool) (u : Fin 4) (q : Fin 8) (r : Fin 64) (col : Fin 512) : ∀ (n : ℕ) (c : Dev nD), n < 7 → chk d n c = q.val →
    (ACC m d u n c (ix4 0 0 r col) : EReal) = ∑ i ∈ Finset.range (n + 1), contrib m (bk d i c) (row u q r) (half d col)
  | 0, c, _, hq => by
    show initSlot u (partF m d (offI d c) c) (ix4 0 0 r col) = _
    rw [init_apply, partI m d c q hq]
    exact (Finset.sum_range_one (fun i => contrib m (bk d i c) (row u q r) (half d col))).symm
  | n + 1, c, hn, hq => by
    show stepV u (partF m d (offS d c (stp n)) c) (ACC m d u n (tgt (!d) c)) (ix4 0 0 r col) = _
    have hs : (stp n).val = n := Nat.mod_eq_of_lt (by omega)
    rw [step_apply, partS m d c (stp n) q (by rw [hs]; exact hq),
      acc_apply d u q r col n (tgt (!d) c) (by omega) ((chk_next d ⟨n, by omega⟩ c).trans hq),
      Finset.sum_range_succ' (fun i => contrib m (bk d i c) (row u q r) (half d col)) (n + 1)]
    rfl

/-- A device's place in its ring. -/
def plc (c : Dev nD) : Fin 8 := ⟨c.val % 8, Nat.mod_lt _ (by decide)⟩

/-- A direction's half of a reduced row: the contributions of the eight devices of the ring. -/
theorem fin_sum (d : Bool) (u : Fin 4) (c : Dev nD) (r : Fin 64) (col : Fin 512) :
    (FIN m d u c (ix2 r col) : EReal) = ∑ q : Fin 8, contrib m (dv (zOf c) q) (row u (plc c) r) (half d col) := by
  unfold FIN
  rw [fin_apply, partS m d c 6 (plc c) (chk_last d c),
    acc_apply m d u (plc c) r col 6 (tgt (!d) c) (by omega) ((chk_next d 6 c).trans (chk_last d c)),
    ← sum_ring d c fun e => contrib m e (row u (plc c) r) (half d col), ← Fin.sum_univ_eq_sum_range (fun i => contrib m (bk d i (tgt (!d) c)) (row u (plc c) r) (half d col)), Fin.sum_univ_succ, add_comm]
  rfl

/-- A reduced row: the contributions of the eight devices of the ring, at every column. -/
theorem srow_sum (u : Fin 4) (c : Dev nD) (r : Fin 64) (n : Fin 1024) :
    (SRow m u c (ix2 r n) : EReal) = ∑ q : Fin 8, contrib m (dv (zOf c) q) (row u (plc c) r) n := by
  unfold SRow
  split
  · next h =>
    refine Eq.trans ?_ ((fin_sum m false u c r ⟨n.val, h⟩).trans (Finset.sum_congr rfl fun q _ => congrArg (contrib m _ _) (Fin.ext ?_)))
    · exact congrArg (FIN m false u c) (funext fun a => by match a with | ⟨0, _⟩ => rfl | ⟨1, _⟩ => rfl)
    · show 0 + n.val = n.val; omega
  · next h =>
    have h' : ¬ n.val < 512 := h
    have hn : n.val - 512 < 512 := by omega
    refine Eq.trans ?_ ((fin_sum m true u c r ⟨n.val - 512, hn⟩).trans (Finset.sum_congr rfl fun q _ => congrArg (contrib m _ _) (Fin.ext ?_)))
    · exact congrArg (FIN m true u c) (funext fun a => by match a with | ⟨0, _⟩ => rfl | ⟨1, _⟩ => rfl)
    · show 512 + (n.val - 512) = n.val; omega

/-! ## The result -/

theorem zOf_zsh_inj : ∀ c : Dev nD, Function.Injective fun j : Fin 4 => zOf (zsh j.val c) := by decide +kernel
theorem plc_zsh : ∀ (j : Fin 4) (c : Dev nD), plc (zsh j.val c) = plc c := by decide +kernel
theorem zsh_zero : ∀ c : Dev nD, zsh 0 c = c := by decide +kernel
theorem off29_eq : ∀ (c : Dev nD) (a : Fin 2), k0_off29 c a = (![64 * c.val, 0] : Fin 2 → ℕ) a := by decide +kernel

/-- Row `r` of a device's rows. -/
def own (c : Dev nD) (r : Fin 64) : Fin 2048 := ⟨64 * c.val + r.val, by have : c.val < 32 := c.isLt; omega⟩
theorem row_own (c : Dev nD) (r : Fin 64) : row (zOf c) (plc c) r = own c r :=
  Fin.ext (by show c.val / 8 * 512 + (64 * (c.val % 8) + r.val) = 64 * c.val + r.val; omega)

/-- The shared expert on a device's own rows. -/
theorem shv_apply (c : Dev nD) (r : Fin 64) (n : Fin 1024) : (SHV m c (ix2 r n) : EReal) = ∑ k : Fin 512, X m c (ix2 (own c r) k) * SW m c (ix2 k n) := by
  unfold SHV
  rw [sh_apply]
  refine Finset.sum_congr rfl fun k _ => congrArg (· * SW m c (ix2 k n)) (congrArg (X m c) (funext fun a => Fin.ext ?_))
  match a with
  | ⟨0, _⟩ => show k0_off29 c 0 + 1 * r.val = 64 * c.val + r.val; rw [off29_eq]; show 64 * c.val + 1 * r.val = _; omega
  | ⟨1, _⟩ => show k0_off29 c 1 + 1 * k.val = k.val; rw [off29_eq]; show 0 + 1 * k.val = _; omega

/-- A sum over the devices is one over the layers and the places of each. -/
theorem sum_mesh (f : Dev nD → EReal) : ∑ e : Dev nD, f e = ∑ z : Fin 4, ∑ q : Fin 8, f (dv z q) := sum_devices f
theorem five (a s b c d : EReal) : a + s + d + c + b = s + (a + b + c + d) := by ac_rfl

/-- The result of a device: the shared expert and the contributions of all 32 devices to the device's own rows. -/
theorem out_sum (c : Dev nD) (r : Fin 64) (n : Fin 1024) :
    (OUT m c (ix2 r n) : EReal) = (∑ k : Fin 512, X m c (ix2 (own c r) k) * SW m c (ix2 k n)) + ∑ e : Dev nD, contrib m e (own c r) n := by
  obtain ⟨S, hS⟩ : ∃ S : Fin 4 → EReal, ∀ z, S z = ∑ q : Fin 8, contrib m (dv z q) (own c r) n := ⟨_, fun _ => rfl⟩
  have hz : ∀ j : Fin 4, (SRow m (zOf c) (zsh j.val c) (ix2 r n) : EReal) = S (zOf (zsh j.val c)) := fun j => by
    rw [srow_sum, plc_zsh, row_own, hS]
  have h0 : (SRow m (zOf c) c (ix2 r n) : EReal) = S (zOf (zsh 0 c)) := by
    have h := hz 0
    rw [show zsh (0 : Fin 4).val c = c from zsh_zero c] at h
    rw [zsh_zero c]; exact h
  have hsum : ∑ e : Dev nD, contrib m e (own c r) n = S (zOf (zsh 0 c)) + S (zOf (zsh 1 c)) + S (zOf (zsh 2 c)) + S (zOf (zsh 3 c)) := by
    rw [sum_mesh]
    simp only [← hS]
    rw [← Function.Bijective.sum_comp (Finite.injective_iff_bijective.1 (zOf_zsh_inj c)) S, Fin.sum_univ_four]
    rfl
  rw [hsum, ← five, ← shv_apply m c r n, ← h0]
  have a0 : (ZV m 0 c (ix3 0 r n) : EReal) = S (zOf (zsh 3 c)) := (zcast_apply _ r n).trans (hz 3)
  have a1 : (ZV m 1 c (ix3 0 r n) : EReal) = S (zOf (zsh 2 c)) := (zcast_apply _ r n).trans (hz 2)
  have a2 : (ZV m 2 c (ix3 0 r n) : EReal) = S (zOf (zsh 1 c)) := (zcast_apply _ r n).trans (hz 1)
  rw [← a0, ← a1, ← a2]
  unfold OUT
  exact out_apply _ _ _ _ _ r n

end Cert.Moe

end
-- ==== Proof.Ref.lean ====
/-
# The reference, read at an index

The reference's straight line of host operations, read at a token and a column.
-/
module

public import proofs.«01_k».proof.Proof.Router
public import proofs.«01_k».proof.Proof.Gen.ReferenceIdeal.Run

@[expose] public section

set_option maxRecDepth 16384

noncomputable section

namespace Cert.Moe

open Idealize.ShloMosaic Idealize.SL.Sem

open Cert.ReferenceIdeal Cert.ReferenceIdeal.Gen

/-- The mixture of experts at a token and a column: the shared expert, and each expert's product under its gate. -/
def moe (x : (⟨2, ![2048, 512]⟩ : Shape).Idx → EReal) (rw : (⟨2, ![512, 128]⟩ : Shape).Idx → EReal) (rt : (⟨2, ![2048, 1]⟩ : Shape).Idx → BitVec 32)
    (ew : (⟨3, ![128, 512, 1024]⟩ : Shape).Idx → EReal) (sw : (⟨2, ![512, 1024]⟩ : Shape).Idx → EReal) (t : Fin 2048) (n : Fin 1024) : EReal :=
  (∑ k : Fin 512, x (ix2 t k) * sw (ix2 k n)) + ∑ e : Fin 128, gate x rw rt t e * ∑ k : Fin 512, x (ix2 t k) * ew (ix3 e k n)

/-- The reference's value, as its operations compute it. -/
def refTerm (x : FVec Ideal S2048x512 .f32) (rw : FVec Ideal S512x128 .f32) (rt : IVec S2048x1 32) (ew : FVec Ideal S128x512x1024 .f32) (sw : FVec Ideal S512x1024 .f32) :
    FVec Ideal S2048x1024 .f32 :=
  addf (Host.dotGeneral dot_S2048x512_S512x1024_S2048x1024_1_0_0_1_n_n none x sw) (Host.reduceAdd (mulf (broadcastInDim S2048x128x1024 ![0, 1, 2] bcast_S2048x128x1_S2048x128x1024_0_1_2 (broadcastInDim S2048x128x1 ![0, 1] bcast_S2048x128_S2048x128x1_0_1 (mulf (Host.divf (Host.exp (subf (Host.dotGeneral dot_S2048x512_S512x128_S2048x128_1_0_0_1_n_n none x rw) (broadcastInDim S2048x128 ![0, 1] bcast_S2048x1_S2048x128_0_1 (broadcastInDim S2048x1 ![0] bcast_S2048_S2048x1_0 (Host.reduce FloatOps.maximumf (Host.dotGeneral dot_S2048x512_S512x128_S2048x128_1_0_0_1_n_n none x rw) (constant S_ .f32 0xFF800000#32) reducesTo_S2048x128_S2048_d1 h_S_))))) (broadcastInDim S2048x128 ![0, 1] bcast_S2048x1_S2048x128_0_1 (broadcastInDim S2048x1 ![0] bcast_S2048_S2048x1_0 (Host.reduceAdd (Host.exp (subf (Host.dotGeneral dot_S2048x512_S512x128_S2048x128_1_0_0_1_n_n none x rw) (broadcastInDim S2048x128 ![0, 1] bcast_S2048x1_S2048x128_0_1 (broadcastInDim S2048x1 ![0] bcast_S2048_S2048x1_0 (Host.reduce FloatOps.maximumf (Host.dotGeneral dot_S2048x512_S512x128_S2048x128_1_0_0_1_n_n none x rw) (constant S_ .f32 0xFF800000#32) reducesTo_S2048x128_S2048_d1 h_S_))))) (constant S_ .f32 0x00000000#32) reducesTo_S2048x128_S2048_d1 h_S_)))) (uitofp .f32 (cmpi .eq (broadcastInDim S2048x128 ![0, 1] bcast_S2048x1_S2048x128_0_1 rt) (broadcastInDim S2048x128 ![0, 1] bcast_S1x128_S2048x128_0_1 (broadcastInDim S1x128 ![1] bcast_S128_S1x128_1 (iotaInDim S128 32 0)))))))) (Host.dotGeneral dot_S2048x512_S128x512x1024_S2048x128x1024_1_1_0_02_n_n none x ew)) (constant S_ .f32 0x00000000#32) reducesTo_S2048x128x1024_S2048x1024_d1 h_S_)

/-- The reference read at a token and a column: the mixture. -/
theorem ref_apply (x : FVec Ideal S2048x512 .f32) (rw : FVec Ideal S512x128 .f32) (rt : IVec S2048x1 32) (ew : FVec Ideal S128x512x1024 .f32) (sw : FVec Ideal S512x1024 .f32)
    (t : Fin 2048) (n : Fin 1024) : refTerm x rw rt ew sw (ix2 t n) = moe x rw rt ew sw t n := by
  pointwise [refTerm]
  simp only [cond_oh', neg_inf]
  rfl

end Cert.Moe

end
-- ==== Proof.Algebraic.lean ====
/-
# The value claim

A device's result is its 64 rows of the reference's value: the shared expert plus, expert by expert, the gate times
the expert's product. The kernel multiplies the gate into the tokens before the product and adds the experts device by
device; where the scores are real the gate is a real number that is not negative, and so it comes out of the sum.
-/
module

public import Idealize.ShloMosaic.Lib.Layout
public import proofs.«01_k».proof.Proof.Arrays
public import proofs.«01_k».proof.Proof.Finite
public import proofs.«01_k».proof.Proof.MeshSum
public import proofs.«01_k».proof.Proof.Ref
public import proofs.«01_k».proof.Proof.Frames

@[expose] public section

set_option maxRecDepth 16384

noncomputable section

namespace Cert.Moe

open Cert.KernelIdeal Cert.KernelIdeal.Gen
open Idealize.ShloMosaic Idealize.SL.Sem

variable (m : (ℓ : Loc nD τ sig) → Buf (Elt Ideal) ℓ)

/-- Device `c`'s experts are experts `4c` to `4c + 3` of all. -/
theorem expert_block (c : Fin 32) (ew : (⟨3, ![128, 512, 1024]⟩ : Shape).Idx → EReal) (j : Fin 4) (k : Fin 512) (n : Fin 1024) :
    Layout.block ⟨3, ![4, 512, 1024]⟩ ⟨3, ![128, 512, 1024]⟩ 0 32 c ew (by decide) (ix3 j k n) = ew (ix3 (expert c j) k n) := by
  rw [Layout.block_apply]
  refine congrArg ew (funext fun a => Fin.ext ?_)
  match a with
  | ⟨0, _⟩ => show c.val * 4 + j.val = 4 * c.val + j.val; omega
  | ⟨1, _⟩ => rfl
  | ⟨2, _⟩ => rfl

/-- Device `c`'s rows of the result are rows `64c` to `64c + 63` of all. -/
theorem result_block (c : Fin 32) (v : (⟨2, ![2048, 1024]⟩ : Shape).Idx → EReal) (r : Fin 64) (n : Fin 1024) :
    Layout.block ⟨2, ![64, 1024]⟩ ⟨2, ![2048, 1024]⟩ 0 32 c v (by decide) (ix2 r n) = v (ix2 (own c r) n) := by
  rw [Layout.block_apply]
  refine congrArg v (funext fun a => Fin.ext ?_)
  match a with
  | ⟨0, _⟩ => show c.val * 64 + r.val = 64 * c.val + r.val; omega
  | ⟨1, _⟩ => rfl

/-- Where every device has the whole tokens, router, routes and shared matrix, and its four experts, a device's result
    is its rows of the mixture. -/
theorem out_moe (x : (⟨2, ![2048, 512]⟩ : Shape).Idx → EReal) (w : (⟨2, ![512, 128]⟩ : Shape).Idx → EReal) (rt : (⟨2, ![2048, 1]⟩ : Shape).Idx → BitVec 32)
    (ew : (⟨3, ![128, 512, 1024]⟩ : Shape).Idx → EReal) (sw : (⟨2, ![512, 1024]⟩ : Shape).Idx → EReal)
    (hX : ∀ c, X m c = x) (hW : ∀ c, RW m c = w) (hT : ∀ c, RT m c = rt)
    (hE : ∀ c : Dev nD, EW m c = Layout.block ⟨3, ![4, 512, 1024]⟩ ⟨3, ![128, 512, 1024]⟩ 0 32 c ew (by decide)) (hS : ∀ c, SW m c = sw)
    (hx : ∀ i, IsReal (x i)) (hw : ∀ i, IsReal (w i)) (c : Dev nD) (r : Fin 64) (n : Fin 1024) :
    (OUT m c (ix2 r n) : EReal) = moe x w rt ew sw (own c r) n := by
  rw [out_sum, hX, hS]
  unfold moe
  rw [sum_experts]
  refine congrArg _ (Finset.sum_congr rfl fun d _ => ?_)
  unfold contrib
  rw [hX, hW, hT, hE]
  refine Finset.sum_congr rfl fun j _ => ?_
  have hg := gate_fin x w rt hx hw (own c r) (expert d j)
  refine (Finset.sum_congr rfl fun k _ => congrArg _ (expert_block d ew j k n)).trans ?_
  exact gate_out _ hg.1 hg.2 (fun k => x (ix2 (own c r) k)) (fun k => ew (ix3 (expert d j) k n))

/-- The idealized kernel on 32 devices computes the reference, wherever the tokens and the router's matrix are real. -/
theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_facts) := fun m g m' g' hpre harg => by
  obtain ⟨hx, hw⟩ := @real_of_pre pre_facts _ _ _ _ _ (hpre 0)
  refine ⟨refTerm (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs (onTc (τ := τ) Cert.KernelIdeal.main) ⟨m, fun _ => 0, g⟩).mono (fun r h c => ⟨?_,
      (h.1 c 0).trans (arg_kept m g c 0 rfl), (h.1 c 1).trans (arg_kept m g c 1 rfl), (h.1 c 2).trans (arg_kept m g c 2 rfl),
      (h.1 c 3).trans (arg_kept m g c 3 rfl), (h.1 c 4).trans (arg_kept m g c 4 rfl)⟩) (run_main (F := Ideal) m g)
    refine (h.1 c 5).trans ((result_eq m g c).trans (funext fun i => ?_))
    rw [(harg 0).1] at hx
    rw [(harg 0).2.1] at hw
    obtain ⟨a, b, rfl⟩ : ∃ (a : Fin 64) (b : Fin 1024), i = ix2 a b := ⟨i 0, i 1, by funext k; match k with | ⟨0, _⟩ => rfl | ⟨1, _⟩ => rfl⟩
    refine (out_moe m _ _ _ _ _ (fun d => (X_eq m d).trans (harg d).1) (fun d => (RW_eq m d).trans (harg d).2.1) (fun d => (RT_eq m d).trans (harg d).2.2.1)
      (fun d => (EW_eq m d).trans (harg d).2.2.2.1) (fun d => (SW_eq m d).trans (harg d).2.2.2.2) hx hw c a b).trans ?_
    exact (ref_apply _ _ _ _ _ _ _).symm.trans (result_block c _ a b).symm
  · exact (θ_run (Cert.ReferenceIdeal.defs (F := Ideal)) _ _).mono (fun _ h => h 0) (Cert.ReferenceIdeal.Value.run (F := Ideal) m' g')

end Cert.Moe

end
-- ==== Proof.lean ====
/-
# The certificate

The claims of the mixture-of-experts kernel, assembled from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

-- The claims about Kernel, KernelIdeal, ReferenceIdeal also say that every semaphore counter ends at zero; the frames show that too.

namespace Cert.Proof

open Idealize.ShloMosaic Idealize.SL.Sem Cert.Kernel

/-- Every claim of the certificate: the frames of the printed kernel, of its idealization and of the reference, the
    idealization itself, and the value of the result. The frames hold without the precondition, and so with it. -/
theorem claim : Cert.Claim := ⟨Cert.Kernel.Gen.facts, Cert.KernelIdeal.Gen.facts, Cert.ReferenceIdeal.Gen.facts, Cert.Moe.pre_facts, Cert.Moe.pre_facts_ref,
  Cert.Moe.frame_kernel, Cert.Moe.frame_kernelIdeal, fun m g _ => Cert.Moe.frame_kernelIdeal m g trivial,
  Cert.Moe.frame_reference, fun m g _ => Cert.Moe.frame_reference m g trivial, trivial, Cert.Moe.value⟩

end Cert.Proof

end
